-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered [hPre_ordered : Cert.Pre_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_ordered [hPre_ordered : Cert.Pre_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ordered [hKernelIdeal : Cert.KernelIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ordered [hReferenceIdeal : Cert.ReferenceIdeal.Facts] [hPre_ordered : Cert.Pre_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "floor" .f32 0xF1C9F2CA#32 ⊥
  ∧ IdealRules.named_const.Statement Cert.KernelIdeal.κ "scale" .f32 0x3E0293EE#32 (((Real.sqrt 128)⁻¹ * (Real.log 2)⁻¹ : ℝ) : EReal)
  ∧ IdealRules.named_const.Statement Cert.KernelIdeal.κ "mask" .f32 0xF149F2CA#32 ⊥

def preserves_Reference_ReferenceIdeal : Prop :=
  IdealRules.named_const.Statement Cert.ReferenceIdeal.κ "scale" .f32 0x3DB504F3#32 (((Real.sqrt 128)⁻¹ : ℝ) : EReal)

def algebraic_KernelIdeal_ReferenceIdeal_pre_ordered [hKernelIdeal : Cert.KernelIdeal.Facts] [hReferenceIdeal : Cert.ReferenceIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)) (v3 : (c : Dev Cert.QuantiseIdeal.nD) → Buf (Elt Ideal) ((c.tc : Thread Cert.QuantiseIdeal.nD Cert.QuantiseIdeal.τ).loc Cert.QuantiseIdeal.main_v0_3)) (v4 : (c : Dev Cert.QuantiseIdeal.nD) → Buf (Elt Ideal) ((c.tc : Thread Cert.QuantiseIdeal.nD Cert.QuantiseIdeal.τ).loc Cert.QuantiseIdeal.main_v0_4)) (v5 : (c : Dev Cert.QuantiseIdeal.nD) → Buf (Elt Ideal) ((c.tc : Thread Cert.QuantiseIdeal.nD Cert.QuantiseIdeal.τ).loc Cert.QuantiseIdeal.main_v0_5)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_v0_3) = v3 c
          ∧ r.2.mem ((c.tc : Thread Cert.QuantiseIdeal.nD Cert.QuantiseIdeal.τ).loc Cert.QuantiseIdeal.main_v0_4) = v4 c
          ∧ r.2.mem ((c.tc : Thread Cert.QuantiseIdeal.nD Cert.QuantiseIdeal.τ).loc Cert.QuantiseIdeal.main_v0_5) = v5 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_v0_2) = v2 c
          ∧ r.2.mem ((c.tc : Thread Cert.QuantiseReferenceIdeal.nD Cert.QuantiseReferenceIdeal.τ).loc Cert.QuantiseReferenceIdeal.main_v0_3) = v3 c
          ∧ r.2.mem ((c.tc : Thread Cert.QuantiseReferenceIdeal.nD Cert.QuantiseReferenceIdeal.τ).loc Cert.QuantiseReferenceIdeal.main_v0_4) = v4 c
          ∧ r.2.mem ((c.tc : Thread Cert.QuantiseReferenceIdeal.nD Cert.QuantiseReferenceIdeal.τ).loc Cert.QuantiseReferenceIdeal.main_v0_5) = v5 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2))

def Claim : Prop :=
  ∃ (hKernel : Cert.Kernel.Facts) (hKernelIdeal : Cert.KernelIdeal.Facts) (hReference : Cert.Reference.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_ordered : Cert.Pre_ordered.Facts),
    quiescent_Kernel (hKernel := hKernel)
    ∧ quiescent_KernelIdeal (hKernelIdeal := hKernelIdeal)
    ∧ quiescent_KernelIdeal_pre_ordered (hKernelIdeal := hKernelIdeal) (hPre_ordered := hPre_ordered)
    ∧ quiescent_Reference (hReference := hReference)
    ∧ quiescent_ReferenceIdeal (hReferenceIdeal := hReferenceIdeal)
    ∧ quiescent_ReferenceIdeal_pre_ordered (hReferenceIdeal := hReferenceIdeal) (hPre_ordered := hPre_ordered)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ preserves_Reference_ReferenceIdeal
    ∧ algebraic_KernelIdeal_ReferenceIdeal_pre_ordered (hKernelIdeal := hKernelIdeal) (hReferenceIdeal := hReferenceIdeal) (hPre_ordered := hPre_ordered)
    ∧ preserves_Quantise_QuantiseIdeal
    ∧ algebraic_QuantiseIdeal_QuantiseReferenceIdeal (hQuantiseIdeal := hQuantiseIdeal) (hQuantiseReferenceIdeal := hQuantiseReferenceIdeal)
-- ==== Pre_ordered.lean ====
abbrev S2x8x32768x128 : Shape := ⟨4, ![2, 8, 32768, 128]⟩
abbrev S2x32768x8 : Shape := ⟨3, ![2, 32768, 8]⟩
abbrev S2x32768 : Shape := ⟨2, ![2, 32768]⟩
abbrev S2x32767 : Shape := ⟨2, ![2, 32767]⟩
abbrev S_ : Shape := ⟨0, ![]⟩

class Facts : Prop where
  slices_S2x32768_S2x32767_0_1 : S2x32768.Slices ![0, 1] S2x32767
  slices_S2x32768_S2x32767_0_0 : S2x32768.Slices ![0, 0] S2x32767
  reducesTo_S2x32767_S_d0_1 : S2x32767.ReducesTo [0, 1] S_
  h_S_ : 0 < S_.numel
  bcast_S_S2x32768x8 : S_.BroadcastsInDim S2x32768x8 (![] : Fin 0 → Fin S2x32768x8.rank)
  reducesTo_S2x32768x8_S_d0_1_2 : S2x32768x8.ReducesTo [0, 1, 2] S_

variable [Facts]

def fn {F : FTy → Type} [FloatOps F] (main_arg0 : FVec F S2x8x32768x128 .fp8e4m3) (main_arg1 : FVec F S2x8x32768x128 .fp8e4m3) (main_arg2 : FVec F S2x8x32768x128 .fp8e4m3) (main_arg3 : FVec F S2x32768x8 .f32) (main_arg4 : FVec F S2x32768x8 .f32) (main_arg5 : FVec F S2x32768x8 .f32) (main_arg6 : IVec S2x32768 32) : IVec S_ 1 :=
  let main_v0 : IVec S2x32767 32 := (extractStridedSlice S2x32767 ![0, 1] · slices_S2x32768_S2x32767_0_1) main_arg6
  let main_v1 : IVec S2x32767 32 := (extractStridedSlice S2x32767 ![0, 0] · slices_S2x32768_S2x32767_0_0) main_arg6
  let main_v2 : IVec S2x32767 1 := cmpi .sge main_v0 main_v1
  let main_c : IVec S_ 1 := constantI S_ 1 1#1
  let main_v3 : IVec S_ 1 := (fun x v => Host.reduce IntOp.andi x v reducesTo_S2x32767_S_d0_1 h_S_) main_v2 main_c
  let main_cst : FVec F S_ .f32 := constant S_ .f32 0x00000000#32
  let main_v4 : FVec F S2x32768x8 .f32 := broadcastInDim S2x32768x8 ![] bcast_S_S2x32768x8 main_cst
  let main_v5 : IVec S2x32768x8 1 := cmpf .oge main_arg5 main_v4
  let main_c_0 : IVec S_ 1 := constantI S_ 1 1#1
  let main_v6 : IVec S_ 1 := (fun x v => Host.reduce IntOp.andi x v reducesTo_S2x32768x8_S_d0_1_2 h_S_) main_v5 main_c_0
  let main_v7 : IVec S_ 1 := andi main_v3 main_v6
  main_v7
-- ==== Kernel.lean ====
abbrev S2x8x32768x128 : Shape := ⟨4, ![2, 8, 32768, 128]⟩
abbrev S2x32768x8 : Shape := ⟨3, ![2, 32768, 8]⟩
abbrev S2x32768 : Shape := ⟨2, ![2, 32768]⟩
abbrev S32768 : Shape := ⟨1, ![32768]⟩
abbrev S1x32768 : Shape := ⟨2, ![1, 32768]⟩
abbrev S_ : Shape := ⟨0, ![]⟩
abbrev S2x1 : Shape := ⟨2, ![2, 1]⟩
abbrev S2x32767 : Shape := ⟨2, ![2, 32767]⟩
abbrev S2x128 : Shape := ⟨2, ![2, 128]⟩
abbrev S2x1x32768 : Shape := ⟨3, ![2, 1, 32768]⟩
abbrev S8 : Shape := ⟨1, ![8]⟩
abbrev S2x8x32768 : Shape := ⟨3, ![2, 8, 32768]⟩
abbrev S2x32768x1024 : Shape := ⟨3, ![2, 32768, 1024]⟩
abbrev S1x1x256x128 : Shape := ⟨4, ![1, 1, 256, 128]⟩
abbrev S1x1x32768x128 : Shape := ⟨4, ![1, 1, 32768, 128]⟩
abbrev S1x256x8 : Shape := ⟨3, ![1, 256, 8]⟩
abbrev S1x8x32768 : Shape := ⟨3, ![1, 8, 32768]⟩
abbrev S1x1x32768 : Shape := ⟨3, ![1, 1, 32768]⟩
abbrev S1x256x128 : Shape := ⟨3, ![1, 256, 128]⟩
abbrev S64x256x512 : Shape := ⟨3, ![64, 256, 512]⟩
abbrev S1x1 : Shape := ⟨2, ![1, 1]⟩
abbrev S1 : Shape := ⟨1, ![1]⟩
abbrev S256x128 : Shape := ⟨2, ![256, 128]⟩
abbrev S256x8 : Shape := ⟨2, ![256, 8]⟩
abbrev S256 : Shape := ⟨1, ![256]⟩
abbrev S256x1 : Shape := ⟨2, ![256, 1]⟩
abbrev S256x512 : Shape := ⟨2, ![256, 512]⟩
abbrev S1x1x512x128 : Shape := ⟨4, ![1, 1, 512, 128]⟩
abbrev S512x128 : Shape := ⟨2, ![512, 128]⟩
abbrev S1x1x512 : Shape := ⟨3, ![1, 1, 512]⟩
abbrev S1x512 : Shape := ⟨2, ![1, 512]⟩
abbrev S1x256x512 : Shape := ⟨3, ![1, 256, 512]⟩
abbrev S256x252 : Shape := ⟨2, ![256, 252]⟩

abbrev nBuf : Space → Nat
  | .hbm => 56
  | .vmem => 17
  | .smem => 2
  | _ => 0

abbrev bufTy : (tb : Table) → Fin (tcTables nBuf tb) → BufTy
  | .hbm, ⟨0, _⟩ => ⟨S2x8x32768x128, .fp8e4m3⟩
  | .hbm, ⟨1, _⟩ => ⟨S2x8x32768x128, .fp8e4m3⟩
  | .hbm, ⟨2, _⟩ => ⟨S2x8x32768x128, .fp8e4m3⟩
  | .hbm, ⟨3, _⟩ => ⟨S2x32768x8, .f32⟩
  | .hbm, ⟨4, _⟩ => ⟨S2x32768x8, .f32⟩
  | .hbm, ⟨5, _⟩ => ⟨S2x32768x8, .f32⟩
  | .hbm, ⟨6, _⟩ => ⟨S2x32768, .i32⟩
  | .hbm, ⟨7, _⟩ => ⟨S32768, .i32⟩
  | .hbm, ⟨8, _⟩ => ⟨S1x32768, .i32⟩
  | .hbm, ⟨9, _⟩ => ⟨S_, .i1⟩
  | .hbm, ⟨10, _⟩ => ⟨S2x1, .i1⟩
  | .hbm, ⟨11, _⟩ => ⟨S2x32767, .i32⟩
  | .hbm, ⟨12, _⟩ => ⟨S2x32767, .i32⟩
  | .hbm, ⟨13, _⟩ => ⟨S2x32767, .i1⟩
  | .hbm, ⟨14, _⟩ => ⟨S2x32768, .i1⟩
  | .hbm, ⟨15, _⟩ => ⟨S_, .i32⟩
  | .hbm, ⟨16, _⟩ => ⟨S_, .i32⟩
  | .hbm, ⟨17, _⟩ => ⟨S2x32768, .i32⟩
  | .hbm, ⟨18, _⟩ => ⟨S2x32768, .i32⟩
  | .hbm, ⟨19, _⟩ => ⟨S2x32768, .i32⟩
  | .hbm, ⟨20, _⟩ => ⟨S_, .i32⟩
  | .hbm, ⟨21, _⟩ => ⟨S_, .i32⟩
  | .hbm, ⟨22, _⟩ => ⟨S2x32768, .i32⟩
  | .hbm, ⟨23, _⟩ => ⟨S2x32767, .i1⟩
  | .hbm, ⟨24, _⟩ => ⟨S_, .i1⟩
  | .hbm, ⟨25, _⟩ => ⟨S2x1, .i1⟩
  | .hbm, ⟨26, _⟩ => ⟨S2x32768, .i1⟩
  | .hbm, ⟨27, _⟩ => ⟨S_, .i32⟩
  | .hbm, ⟨28, _⟩ => ⟨S1x32768, .i32⟩
  | .hbm, ⟨29, _⟩ => ⟨S1x32768, .i32⟩
  | .hbm, ⟨30, _⟩ => ⟨S_, .i32⟩
  | .hbm, ⟨31, _⟩ => ⟨S_, .i32⟩
  | .hbm, ⟨32, _⟩ => ⟨S2x32768, .i32⟩
  | .hbm, ⟨33, _⟩ => ⟨S2x32768, .i32⟩
  | .hbm, ⟨34, _⟩ => ⟨S2x32768, .i32⟩
  | .hbm, ⟨35, _⟩ => ⟨S_, .i32⟩
  | .hbm, ⟨36, _⟩ => ⟨S_, .i32⟩
  | .hbm, ⟨37, _⟩ => ⟨S2x32768, .i32⟩
  | .hbm, ⟨38, _⟩ => ⟨S2x1x32768, .i32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S2x8x32768, .f32⟩
  | .hbm, ⟨54, _⟩ => ⟨S2x8x32768, .f32⟩
  | .hbm, ⟨55, _⟩ => ⟨S2x32768x1024, .bf16⟩
  | .local _ .vmem, ⟨0, _⟩ => ⟨S1x1x256x128, .fp8e4m3⟩
  | .local _ .vmem, ⟨1, _⟩ => ⟨S1x1x256x128, .fp8e4m3⟩
  | .local _ .vmem, ⟨2, _⟩ => ⟨S1x1x32768x128, .fp8e4m3⟩
  | .local _ .vmem, ⟨3, _⟩ => ⟨S1x1x32768x128, .fp8e4m3⟩
  | .local _ .vmem, ⟨4, _⟩ => ⟨S1x1x32768x128, .fp8e4m3⟩
  | .local _ .vmem, ⟨5, _⟩ => ⟨S1x1x32768x128, .fp8e4m3⟩
  | .local _ .vmem, ⟨6, _⟩ => ⟨S1x256x8, .f32⟩
  | .local _ .vmem, ⟨7, _⟩ => ⟨S1x256x8, .f32⟩
  | .local _ .vmem, ⟨8, _⟩ => ⟨S1x8x32768, .f32⟩
  | .local _ .vmem, ⟨9, _⟩ => ⟨S1x8x32768, .f32⟩
  | .local _ .vmem, ⟨10, _⟩ => ⟨S1x8x32768, .f32⟩
  | .local _ .vmem, ⟨11, _⟩ => ⟨S1x8x32768, .f32⟩
  | .local _ .vmem, ⟨12, _⟩ => ⟨S1x1x32768, .i32⟩
  | .local _ .vmem, ⟨13, _⟩ => ⟨S1x1x32768, .i32⟩
  | .local _ .vmem, ⟨14, _⟩ => ⟨S1x256x128, .bf16⟩
  | .local _ .vmem, ⟨15, _⟩ => ⟨S1x256x128, .bf16⟩
  | .local _ .vmem, ⟨16, _⟩ => ⟨S64x256x512, .f32⟩
  | .local _ .smem, ⟨0, _⟩ => ⟨S2x128, .i32⟩
  | .local _ .smem, ⟨1, _⟩ => ⟨S8, .f32⟩
  | _, _ => ⟨S2x8x32768x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_call1_c : Ref sig .tc := ⟨.hbm, 20, rfl⟩
abbrev main_call1_v0 : Ref sig .tc := ⟨.hbm, 21, rfl⟩
abbrev main_v8 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v15 : Ref sig .tc := ⟨.hbm, 34, rfl⟩
abbrev main_call3_c : Ref sig .tc := ⟨.hbm, 35, rfl⟩
abbrev main_call3_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v9 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 8, 128], ![false, false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v1 : Index := Scalar.indexCast arg0
  let arg2 : BitVec 32 := BitVec.ofNat 32 (i 2).val
  let v2 : Index := Scalar.indexCast arg2
  ![v1.toNat, v2.toNat]
def k0_off2 (i : grid0.Coords) : Fin 1 → Nat :=
  let arg1 : BitVec 32 := BitVec.ofNat 32 (i 1).val
  let v41 : Index := Scalar.indexCast arg1
  ![v41.toNat]
@[reducible] def k0_t1_loop (i : grid0.Coords) (v3 : BitVec 32) : Scf.Loop 32 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let c1_i32_27 : BitVec 32 := 1#32
  ⟨v20, v69, c1_i32_27⟩

def k0_off3 (i : grid0.Coords) (v3 : BitVec 32) (k0_t1 : Fin (k0_t1_loop i v3).trips) : Fin 4 → Nat :=
  let c0_49 : Index := 0#32
  let c0_50 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_27 : BitVec 32 := 1#32
  let arg14 : BitVec 32 := Scf.iv v20 c1_i32_27 k0_t1
  let c512_i32_48 : BitVec 32 := 512#32
  let v123 : BitVec 32 := Scalar.muli arg14 c512_i32_48
  let v124 : Index := Scalar.indexCast v123
  let c0_51 : Index := 0#32
  ![0, 0, v124.toNat, 0]
def k0_off4 (i : grid0.Coords) (v3 : BitVec 32) (k0_t1 : Fin (k0_t1_loop i v3).trips) : Fin 3 → Nat :=
  let c0_54 : Index := 0#32
  let arg1 : BitVec 32 := BitVec.ofNat 32 (i 1).val
  let v129 : Index := Scalar.indexCast arg1
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_27 : BitVec 32 := 1#32
  let arg14 : BitVec 32 := Scf.iv v20 c1_i32_27 k0_t1
  let c512_i32_53 : BitVec 32 := 512#32
  let v128 : BitVec 32 := Scalar.muli arg14 c512_i32_53
  let v130 : Index := Scalar.indexCast v128
  ![0, v129.toNat, v130.toNat]
def k0_off5 (i : grid0.Coords) (v3 : BitVec 32) (k0_t1 : Fin (k0_t1_loop i v3).trips) : Fin 3 → Nat :=
  let c0_57 : Index := 0#32
  let c0_58 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_27 : BitVec 32 := 1#32
  let arg14 : BitVec 32 := Scf.iv v20 c1_i32_27 k0_t1
  let c512_i32_53 : BitVec 32 := 512#32
  let v128 : BitVec 32 := Scalar.muli arg14 c512_i32_53
  let v139 : Index := Scalar.indexCast v128
  ![0, 0, v139.toNat]
def k0_off6 (i : grid0.Coords) (v3 : BitVec 32) (k0_t1 : Fin (k0_t1_loop i v3).trips) : Fin 3 → Nat :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_27 : BitVec 32 := 1#32
  let arg14 : BitVec 32 := Scf.iv v20 c1_i32_27 k0_t1
  let v171 : Index := Scalar.indexCast arg14
  let c0_62 : Index := 0#32
  let c0_63 : Index := 0#32
  ![v171.toNat, 0, 0]
@[reducible] def k0_t2_loop (i : grid0.Coords) (v3 : BitVec 32) : Scf.Loop 32 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let v66 : BitVec 32 := Scalar.addi v20 v65
  let c1_i32_28 : BitVec 32 := 1#32
  ⟨v69, v66, c1_i32_28⟩
def k0_off7 (i : grid0.Coords) (v3 : BitVec 32) (k0_t2 : Fin (k0_t2_loop i v3).trips) : Fin 4 → Nat :=
  let c0_49 : Index := 0#32
  let c0_50 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let c1_i32_28 : BitVec 32 := 1#32
  let arg14 : BitVec 32 := Scf.iv v69 c1_i32_28 k0_t2
  let c512_i32_48 : BitVec 32 := 512#32
  let v123 : BitVec 32 := Scalar.muli arg14 c512_i32_48
  let v124 : Index := Scalar.indexCast v123
  let c0_51 : Index := 0#32
  ![0, 0, v124.toNat, 0]
def k0_off8 (i : grid0.Coords) (v3 : BitVec 32) (k0_t2 : Fin (k0_t2_loop i v3).trips) : Fin 3 → Nat :=
  let c0_54 : Index := 0#32
  let arg1 : BitVec 32 := BitVec.ofNat 32 (i 1).val
  let v129 : Index := Scalar.indexCast arg1
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let c1_i32_28 : BitVec 32 := 1#32
  let arg14 : BitVec 32 := Scf.iv v69 c1_i32_28 k0_t2
  let c512_i32_53 : BitVec 32 := 512#32
  let v128 : BitVec 32 := Scalar.muli arg14 c512_i32_53
  let v130 : Index := Scalar.indexCast v128
  ![0, v129.toNat, v130.toNat]
def k0_off9 (i : grid0.Coords) (v3 : BitVec 32) (k0_t2 : Fin (k0_t2_loop i v3).trips) : Fin 3 → Nat :=
  let c0_57 : Index := 0#32
  let c0_58 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let c1_i32_28 : BitVec 32 := 1#32
  let arg14 : BitVec 32 := Scf.iv v69 c1_i32_28 k0_t2
  let c512_i32_53 : BitVec 32 := 512#32
  let v128 : BitVec 32 := Scalar.muli arg14 c512_i32_53
  let v139 : Index := Scalar.indexCast v128
  ![0, 0, v139.toNat]
def k0_off10 (i : grid0.Coords) (v3 : BitVec 32) (k0_t2 : Fin (k0_t2_loop i v3).trips) : Fin 3 → Nat :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v65 : BitVec 32 := Scalar.subi v40 v20
  let c1_i32_26 : BitVec 32 := 1#32
  let v67 : BitVec 32 := Scalar.divsi v65 c1_i32_26
  let v68 : BitVec 32 := Scalar.muli v67 c1_i32_26
  let v69 : BitVec 32 := Scalar.addi v20 v68
  let c1_i32_28 : BitVec 32 := 1#32
  let arg14 : BitVec 32 := Scf.iv v69 c1_i32_28 k0_t2
  let v171 : Index := Scalar.indexCast arg14
  let c0_62 : Index := 0#32
  let c0_63 : Index := 0#32
  ![v171.toNat, 0, 0]
@[reducible] def k0_t3_loop (i : grid0.Coords) (v3 : BitVec 32) : Scf.Loop 32 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v105 : BitVec 32 := Scalar.subi v40 v20
  let c1_i32_40 : BitVec 32 := 1#32
  let v107 : BitVec 32 := Scalar.divsi v105 c1_i32_40
  let v108 : BitVec 32 := Scalar.muli v107 c1_i32_40
  let v109 : BitVec 32 := Scalar.addi v20 v108
  let c1_i32_41 : BitVec 32 := 1#32
  ⟨v20, v109, c1_i32_41⟩
def k0_off11 (i : grid0.Coords) (v3 : BitVec 32) (k0_t3 : Fin (k0_t3_loop i v3).trips) : Fin 3 → Nat :=
  let c0_49 : Index := 0#32
  let arg1 : BitVec 32 := BitVec.ofNat 32 (i 1).val
  let v124 : Index := Scalar.indexCast arg1
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_41 : BitVec 32 := 1#32
  let arg14 : BitVec 32 := Scf.iv v20 c1_i32_41 k0_t3
  let c512_i32_48 : BitVec 32 := 512#32
  let v123 : BitVec 32 := Scalar.muli arg14 c512_i32_48
  let v125 : Index := Scalar.indexCast v123
  ![0, v124.toNat, v125.toNat]
def k0_off12 (i : grid0.Coords) (v3 : BitVec 32) (k0_t3 : Fin (k0_t3_loop i v3).trips) : Fin 3 → Nat :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_41 : BitVec 32 := 1#32
  let arg14 : BitVec 32 := Scf.iv v20 c1_i32_41 k0_t3
  let v128 : Index := Scalar.indexCast arg14
  let c0_50 : Index := 0#32
  let c0_51 : Index := 0#32
  ![v128.toNat, 0, 0]
def k0_off13 (i : grid0.Coords) (v3 : BitVec 32) (k0_t3 : Fin (k0_t3_loop i v3).trips) : Fin 4 → Nat :=
  let c0_55 : Index := 0#32
  let c0_56 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_41 : BitVec 32 := 1#32
  let arg14 : BitVec 32 := Scf.iv v20 c1_i32_41 k0_t3
  let c512_i32_54 : BitVec 32 := 512#32
  let v143 : BitVec 32 := Scalar.muli arg14 c512_i32_54
  let v144 : Index := Scalar.indexCast v143
  let c0_57 : Index := 0#32
  ![0, 0, v144.toNat, 0]
@[reducible] def k0_t4_loop (i : grid0.Coords) (v3 : BitVec 32) : Scf.Loop 32 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v105 : BitVec 32 := Scalar.subi v40 v20
  let c1_i32_40 : BitVec 32 := 1#32
  let v107 : BitVec 32 := Scalar.divsi v105 c1_i32_40
  let v108 : BitVec 32 := Scalar.muli v107 c1_i32_40
  let v109 : BitVec 32 := Scalar.addi v20 v108
  let v106 : BitVec 32 := Scalar.addi v20 v105
  let c1_i32_42 : BitVec 32 := 1#32
  ⟨v109, v106, c1_i32_42⟩
def k0_off14 (i : grid0.Coords) (v3 : BitVec 32) (k0_t4 : Fin (k0_t4_loop i v3).trips) : Fin 3 → Nat :=
  let c0_49 : Index := 0#32
  let arg1 : BitVec 32 := BitVec.ofNat 32 (i 1).val
  let v124 : Index := Scalar.indexCast arg1
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v105 : BitVec 32 := Scalar.subi v40 v20
  let c1_i32_40 : BitVec 32 := 1#32
  let v107 : BitVec 32 := Scalar.divsi v105 c1_i32_40
  let v108 : BitVec 32 := Scalar.muli v107 c1_i32_40
  let v109 : BitVec 32 := Scalar.addi v20 v108
  let c1_i32_42 : BitVec 32 := 1#32
  let arg14 : BitVec 32 := Scf.iv v109 c1_i32_42 k0_t4
  let c512_i32_48 : BitVec 32 := 512#32
  let v123 : BitVec 32 := Scalar.muli arg14 c512_i32_48
  let v125 : Index := Scalar.indexCast v123
  ![0, v124.toNat, v125.toNat]
def k0_off15 (i : grid0.Coords) (v3 : BitVec 32) (k0_t4 : Fin (k0_t4_loop i v3).trips) : Fin 3 → Nat :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v105 : BitVec 32 := Scalar.subi v40 v20
  let c1_i32_40 : BitVec 32 := 1#32
  let v107 : BitVec 32 := Scalar.divsi v105 c1_i32_40
  let v108 : BitVec 32 := Scalar.muli v107 c1_i32_40
  let v109 : BitVec 32 := Scalar.addi v20 v108
  let c1_i32_42 : BitVec 32 := 1#32
  let arg14 : BitVec 32 := Scf.iv v109 c1_i32_42 k0_t4
  let v128 : Index := Scalar.indexCast arg14
  let c0_50 : Index := 0#32
  let c0_51 : Index := 0#32
  ![v128.toNat, 0, 0]
def k0_off16 (i : grid0.Coords) (v3 : BitVec 32) (k0_t4 : Fin (k0_t4_loop i v3).trips) : Fin 4 → Nat :=
  let c0_55 : Index := 0#32
  let c0_56 : Index := 0#32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c512_i32 : BitVec 32 := 512#32
  let c0_i32_1 : BitVec 32 := 0#32
  let v10 : BitVec 1 := Scalar.cmpi .sgt c512_i32 c0_i32_1
  let v11 : BitVec 32 := Scalar.extui v10
  let c0_i32_2 : BitVec 32 := 0#32
  let v12 : BitVec 1 := Scalar.cmpi .slt c512_i32 c0_i32_2
  let v13 : BitVec 32 := Scalar.extui v12
  let v14 : BitVec 32 := Scalar.subi v11 v13
  let v15 : BitVec 1 := Scalar.cmpi .ne v9 v14
  let v16 : BitVec 32 := Scalar.remsi v3 c512_i32
  let c0_i32_3 : BitVec 32 := 0#32
  let v17 : BitVec 1 := Scalar.cmpi .ne v16 c0_i32_3
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let arg2 : BitVec 32 := BitVec.ofNat 32 (i 2).val
  let c256_i32 : BitVec 32 := 256#32
  let v0 : BitVec 32 := Scalar.muli arg2 c256_i32
  let c256_i32_4 : BitVec 32 := 256#32
  let v21 : BitVec 32 := Scalar.addi v0 c256_i32_4
  let c512_i32_5 : BitVec 32 := 512#32
  let v22 : BitVec 32 := Scalar.addi v21 c512_i32_5
  let c1_i32_6 : BitVec 32 := 1#32
  let v23 : BitVec 32 := Scalar.subi v22 c1_i32_6
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v105 : BitVec 32 := Scalar.subi v40 v20
  let c1_i32_40 : BitVec 32 := 1#32
  let v107 : BitVec 32 := Scalar.divsi v105 c1_i32_40
  let v108 : BitVec 32 := Scalar.muli v107 c1_i32_40
  let v109 : BitVec 32 := Scalar.addi v20 v108
  let c1_i32_42 : BitVec 32 := 1#32
  let arg14 : BitVec 32 := Scf.iv v109 c1_i32_42 k0_t4
  let c512_i32_54 : BitVec 32 := 512#32
  let v143 : BitVec 32 := Scalar.muli arg14 c512_i32_54
  let v144 : Index := Scalar.indexCast v143
  let c0_57 : Index := 0#32
  ![0, 0, v144.toNat, 0]

def k0_chk1 (i : grid0.Coords) (v3 : BitVec 32) : Prop :=
  ((k0_t1_loop i v3).OK) ∧
  (∀ k0_t1 : Fin (k0_t1_loop i v3).trips, ∀ a, (k0_off3 i v3 k0_t1) a + S1x1x512x128.size a ≤ S1x1x32768x128.size a) ∧
  (∀ k0_t1 : Fin (k0_t1_loop i v3).trips, ∀ a, (k0_off4 i v3 k0_t1) a + S1x1x512.size a ≤ S1x8x32768.size a) ∧
  (∀ k0_t1 : Fin (k0_t1_loop i v3).trips, ∀ a, (k0_off5 i v3 k0_t1) a + S1x1x512.size a ≤ S1x1x32768.size a) ∧
  (∀ k0_t1 : Fin (k0_t1_loop i v3).trips, ∀ a, (k0_off6 i v3 k0_t1) a + S1x256x512.size a ≤ S64x256x512.size a) ∧
  ((k0_t2_loop i v3).OK) ∧
  (∀ k0_t2 : Fin (k0_t2_loop i v3).trips, ∀ a, (k0_off7 i v3 k0_t2) a + S1x1x512x128.size a ≤ S1x1x32768x128.size a) ∧
  (∀ k0_t2 : Fin (k0_t2_loop i v3).trips, ∀ a, (k0_off8 i v3 k0_t2) a + S1x1x512.size a ≤ S1x8x32768.size a) ∧
  (∀ k0_t2 : Fin (k0_t2_loop i v3).trips, ∀ a, (k0_off9 i v3 k0_t2) a + S1x1x512.size a ≤ S1x1x32768.size a) ∧
  (∀ k0_t2 : Fin (k0_t2_loop i v3).trips, ∀ a, (k0_off10 i v3 k0_t2) a + S1x256x512.size a ≤ S64x256x512.size a) ∧
  ((k0_t3_loop i v3).OK) ∧
  (∀ k0_t3 : Fin (k0_t3_loop i v3).trips, ∀ a, (k0_off11 i v3 k0_t3) a + S1x1x512.size a ≤ S1x8x32768.size a) ∧
  (∀ k0_t3 : Fin (k0_t3_loop i v3).trips, ∀ a, (k0_off12 i v3 k0_t3) a + S1x256x512.size a ≤ S64x256x512.size a) ∧
  (∀ k0_t3 : Fin (k0_t3_loop i v3).trips, ∀ a, (k0_off13 i v3 k0_t3) a + S1x1x512x128.size a ≤ S1x1x32768x128.size a) ∧
  ((k0_t4_loop i v3).OK) ∧
  (∀ k0_t4 : Fin (k0_t4_loop i v3).trips, ∀ a, (k0_off14 i v3 k0_t4) a + S1x1x512.size a ≤ S1x8x32768.size a) ∧
  (∀ k0_t4 : Fin (k0_t4_loop i v3).trips, ∀ a, (k0_off15 i v3 k0_t4) a + S1x256x512.size a ≤ S64x256x512.size a) ∧
  (∀ k0_t4 : Fin (k0_t4_loop i v3).trips, ∀ a, (k0_off16 i v3 k0_t4) a + S1x1x512x128.size a ≤ S1x1x32768x128.size a)
theorem k0_t1_ok : ∀ (i : grid0.Coords) (v3 : BitVec 32) (k0_hw1 : k0_chk1 i v3), (k0_t1_loop i v3).OK := fun i v3 k0_hw1 => k0_hw1.1
theorem k0_off3_inb : ∀ (i : grid0.Coords) (v3 : BitVec 32) (k0_hw1 : k0_chk1 i v3) (k0_t1 : Fin (k0_t1_loop i v3).trips), ∀ a, (k0_off3 i v3 k0_t1) a + S1x1x512x128.size a ≤ S1x1x32768x128.size a := fun i v3 k0_hw1 k0_t1 => k0_hw1.2.1 k0_t1
theorem k0_off4_inb : ∀ (i : grid0.Coords) (v3 : BitVec 32) (k0_hw1 : k0_chk1 i v3) (k0_t1 : Fin (k0_t1_loop i v3).trips), ∀ a, (k0_off4 i v3 k0_t1) a + S1x1x512.size a ≤ S1x8x32768.size a := fun i v3 k0_hw1 k0_t1 => k0_hw1.2.2.1 k0_t1
theorem k0_off5_inb : ∀ (i : grid0.Coords) (v3 : BitVec 32) (k0_hw1 : k0_chk1 i v3) (k0_t1 : Fin (k0_t1_loop i v3).trips), ∀ a, (k0_off5 i v3 k0_t1) a + S1x1x512.size a ≤ S1x1x32768.size a := fun i v3 k0_hw1 k0_t1 => k0_hw1.2.2.2.1 k0_t1
theorem k0_off6_inb : ∀ (i : grid0.Coords) (v3 : BitVec 32) (k0_hw1 : k0_chk1 i v3) (k0_t1 : Fin (k0_t1_loop i v3).trips), ∀ a, (k0_off6 i v3 k0_t1) a + S1x256x512.size a ≤ S64x256x512.size a := fun i v3 k0_hw1 k0_t1 => k0_hw1.2.2.2.2.1 k0_t1
theorem k0_t2_ok : ∀ (i : grid0.Coords) (v3 : BitVec 32) (k0_hw1 : k0_chk1 i v3), (k0_t2_loop i v3).OK := fun i v3 k0_hw1 => k0_hw1.2.2.2.2.2.1
theorem k0_off7_inb : ∀ (i : grid0.Coords) (v3 : BitVec 32) (k0_hw1 : k0_chk1 i v3) (k0_t2 : Fin (k0_t2_loop i v3).trips), ∀ a, (k0_off7 i v3 k0_t2) a + S1x1x512x128.size a ≤ S1x1x32768x128.size a := fun i v3 k0_hw1 k0_t2 => k0_hw1.2.2.2.2.2.2.1 k0_t2
theorem k0_off8_inb : ∀ (i : grid0.Coords) (v3 : BitVec 32) (k0_hw1 : k0_chk1 i v3) (k0_t2 : Fin (k0_t2_loop i v3).trips), ∀ a, (k0_off8 i v3 k0_t2) a + S1x1x512.size a ≤ S1x8x32768.size a := fun i v3 k0_hw1 k0_t2 => k0_hw1.2.2.2.2.2.2.2.1 k0_t2
theorem k0_off9_inb : ∀ (i : grid0.Coords) (v3 : BitVec 32) (k0_hw1 : k0_chk1 i v3) (k0_t2 : Fin (k0_t2_loop i v3).trips), ∀ a, (k0_off9 i v3 k0_t2) a + S1x1x512.size a ≤ S1x1x32768.size a := fun i v3 k0_hw1 k0_t2 => k0_hw1.2.2.2.2.2.2.2.2.1 k0_t2
theorem k0_off10_inb : ∀ (i : grid0.Coords) (v3 : BitVec 32) (k0_hw1 : k0_chk1 i v3) (k0_t2 : Fin (k0_t2_loop i v3).trips), ∀ a, (k0_off10 i v3 k0_t2) a + S1x256x512.size a ≤ S64x256x512.size a := fun i v3 k0_hw1 k0_t2 => k0_hw1.2.2.2.2.2.2.2.2.2.1 k0_t2
theorem k0_t3_ok : ∀ (i : grid0.Coords) (v3 : BitVec 32) (k0_hw1 : k0_chk1 i v3), (k0_t3_loop i v3).OK := fun i v3 k0_hw1 => k0_hw1.2.2.2.2.2.2.2.2.2.2.1
theorem k0_off11_inb : ∀ (i : grid0.Coords) (v3 : BitVec 32) (k0_hw1 : k0_chk1 i v3) (k0_t3 : Fin (k0_t3_loop i v3).trips), ∀ a, (k0_off11 i v3 k0_t3) a + S1x1x512.size a ≤ S1x8x32768.size a := fun i v3 k0_hw1 k0_t3 => k0_hw1.2.2.2.2.2.2.2.2.2.2.2.1 k0_t3
theorem k0_off12_inb : ∀ (i : grid0.Coords) (v3 : BitVec 32) (k0_hw1 : k0_chk1 i v3) (k0_t3 : Fin (k0_t3_loop i v3).trips), ∀ a, (k0_off12 i v3 k0_t3) a + S1x256x512.size a ≤ S64x256x512.size a := fun i v3 k0_hw1 k0_t3 => k0_hw1.2.2.2.2.2.2.2.2.2.2.2.2.1 k0_t3
theorem k0_off13_inb : ∀ (i : grid0.Coords) (v3 : BitVec 32) (k0_hw1 : k0_chk1 i v3) (k0_t3 : Fin (k0_t3_loop i v3).trips), ∀ a, (k0_off13 i v3 k0_t3) a + S1x1x512x128.size a ≤ S1x1x32768x128.size a := fun i v3 k0_hw1 k0_t3 => k0_hw1.2.2.2.2.2.2.2.2.2.2.2.2.2.1 k0_t3
theorem k0_t4_ok : ∀ (i : grid0.Coords) (v3 : BitVec 32) (k0_hw1 : k0_chk1 i v3), (k0_t4_loop i v3).OK := fun i v3 k0_hw1 => k0_hw1.2.2.2.2.2.2.2.2.2.2.2.2.2.2.1
theorem k0_off14_inb : ∀ (i : grid0.Coords) (v3 : BitVec 32) (k0_hw1 : k0_chk1 i v3) (k0_t4 : Fin (k0_t4_loop i v3).trips), ∀ a, (k0_off14 i v3 k0_t4) a + S1x1x512.size a ≤ S1x8x32768.size a := fun i v3 k0_hw1 k0_t4 => k0_hw1.2.2.2.2.2.2.2.2.2.2.2.2.2.2.2.1 k0_t4
theorem k0_off15_inb : ∀ (i : grid0.Coords) (v3 : BitVec 32) (k0_hw1 : k0_chk1 i v3) (k0_t4 : Fin (k0_t4_loop i v3).trips), ∀ a, (k0_off15 i v3 k0_t4) a + S1x256x512.size a ≤ S64x256x512.size a := fun i v3 k0_hw1 k0_t4 => k0_hw1.2.2.2.2.2.2.2.2.2.2.2.2.2.2.2.2.1 k0_t4
theorem k0_off16_inb : ∀ (i : grid0.Coords) (v3 : BitVec 32) (k0_hw1 : k0_chk1 i v3) (k0_t4 : Fin (k0_t4_loop i v3).trips), ∀ a, (k0_off16 i v3 k0_t4) a + S1x1x512x128.size a ≤ S1x1x32768x128.size a := fun i v3 k0_hw1 k0_t4 => k0_hw1.2.2.2.2.2.2.2.2.2.2.2.2.2.2.2.2.2 k0_t4

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x256x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x8x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x32768 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "floor" => some ⊥
  | "log2e" => some (((Real.log 2)⁻¹ : ℝ) : EReal)
  | "mask" => some ⊥
  | "scale" => some (((Real.sqrt 128)⁻¹ * (Real.log 2)⁻¹ : ℝ) : EReal)
  | _ => none
-- ==== Reference.lean ====
abbrev S2x8x32768x128 : Shape := ⟨4, ![2, 8, 32768, 128]⟩
abbrev S2x32768x8 : Shape := ⟨3, ![2, 32768, 8]⟩
abbrev S2x32768 : Shape := ⟨2, ![2, 32768]⟩
abbrev S2x8x32768 : Shape := ⟨3, ![2, 8, 32768]⟩
abbrev S2x8x32768x1 : Shape := ⟨4, ![2, 8, 32768, 1]⟩
abbrev S2x8x1x32768 : Shape := ⟨4, ![2, 8, 1, 32768]⟩
abbrev S32768 : Shape := ⟨1, ![32768]⟩
abbrev S32768x1 : Shape := ⟨2, ![32768, 1]⟩
abbrev S1x32768 : Shape := ⟨2, ![1, 32768]⟩
abbrev S32768x32768 : Shape := ⟨2, ![32768, 32768]⟩
abbrev S_ : Shape := ⟨0, ![]⟩
abbrev S1x32768x32768 : Shape := ⟨3, ![1, 32768, 32768]⟩
abbrev S2x32768x1 : Shape := ⟨3, ![2, 32768, 1]⟩
abbrev S2x1x32768 : Shape := ⟨3, ![2, 1, 32768]⟩
abbrev S2x32768x32768 : Shape := ⟨3, ![2, 32768, 32768]⟩
abbrev S8 : Shape := ⟨1, ![8]⟩
abbrev S1x8x1x1 : Shape := ⟨4, ![1, 8, 1, 1]⟩
abbrev S1x1x32768x32768 : Shape := ⟨4, ![1, 1, 32768, 32768]⟩
abbrev S1x8x32768x32768 : Shape := ⟨4, ![1, 8, 32768, 32768]⟩
abbrev S2x1x32768x32768 : Shape := ⟨4, ![2, 1, 32768, 32768]⟩
abbrev S2x32768x1024 : Shape := ⟨3, ![2, 32768, 1024]⟩
abbrev S2x8x32768x32768 : Shape := ⟨4, ![2, 8, 32768, 32768]⟩
abbrev S2x32768x8x128 : Shape := ⟨4, ![2, 32768, 8, 128]⟩

abbrev nBuf : Space → Nat
  | .hbm => 53
  | .vmem => 9
  | .smem => 0
  | _ => 0

abbrev bufTy : (tb : Table) → Fin (tcTables nBuf tb) → BufTy
  | .hbm, ⟨0, _⟩ => ⟨S2x8x32768x128, .fp8e4m3⟩
  | .hbm, ⟨1, _⟩ => ⟨S2x8x32768x128, .fp8e4m3⟩
  | .hbm, ⟨2, _⟩ => ⟨S2x8x32768x128, .fp8e4m3⟩
  | .hbm, ⟨3, _⟩ => ⟨S2x32768x8, .f32⟩
  | .hbm, ⟨4, _⟩ => ⟨S2x32768x8, .f32⟩
  | .hbm, ⟨5, _⟩ => ⟨S2x32768x8, .f32⟩
  | .hbm, ⟨6, _⟩ => ⟨S2x32768, .i32⟩
  | .hbm, ⟨7, _⟩ => ⟨S2x8x32768, .f32⟩
  | .hbm, ⟨8, _⟩ => ⟨S2x8x32768x1, .f32⟩
  | .hbm, ⟨9, _⟩ => ⟨S2x8x32768, .f32⟩
  | .hbm, ⟨10, _⟩ => ⟨S2x8x1x32768, .f32⟩
  | .hbm, ⟨11, _⟩ => ⟨S2x8x32768, .f32⟩
  | .hbm, ⟨12, _⟩ => ⟨S2x8x1x32768, .f32⟩
  | .hbm, ⟨13, _⟩ => ⟨S32768, .i32⟩
  | .hbm, ⟨14, _⟩ => ⟨S32768x1, .i32⟩
  | .hbm, ⟨15, _⟩ => ⟨S1x32768, .i32⟩
  | .hbm, ⟨16, _⟩ => ⟨S32768x32768, .i32⟩
  | .hbm, ⟨17, _⟩ => ⟨S32768x32768, .i32⟩
  | .hbm, ⟨18, _⟩ => ⟨S32768x32768, .i32⟩
  | .hbm, ⟨19, _⟩ => ⟨S_, .i32⟩
  | .hbm, ⟨20, _⟩ => ⟨S32768x32768, .i32⟩
  | .hbm, ⟨21, _⟩ => ⟨S32768x32768, .i1⟩
  | .hbm, ⟨22, _⟩ => ⟨S1x32768x32768, .i1⟩
  | .hbm, ⟨23, _⟩ => ⟨S2x32768x1, .i32⟩
  | .hbm, ⟨24, _⟩ => ⟨S2x1x32768, .i32⟩
  | .hbm, ⟨25, _⟩ => ⟨S2x32768x32768, .i32⟩
  | .hbm, ⟨26, _⟩ => ⟨S2x32768x32768, .i32⟩
  | .hbm, ⟨27, _⟩ => ⟨S2x32768x32768, .i1⟩
  | .hbm, ⟨28, _⟩ => ⟨S2x32768x32768, .i1⟩
  | .hbm, ⟨29, _⟩ => ⟨S2x32768x32768, .i1⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S1x8x1x1, .f32⟩
  | .hbm, ⟨45, _⟩ => ⟨S32768x32768, .f32⟩
  | .hbm, ⟨46, _⟩ => ⟨S1x1x32768x32768, .f32⟩
  | .hbm, ⟨47, _⟩ => ⟨S1x8x32768x32768, .f32⟩
  | .hbm, ⟨48, _⟩ => ⟨S1x8x32768x32768, .f32⟩
  | .hbm, ⟨49, _⟩ => ⟨S1x8x32768x32768, .f32⟩
  | .hbm, ⟨50, _⟩ => ⟨S2x32768x32768, .i32⟩
  | .hbm, ⟨51, _⟩ => ⟨S2x1x32768x32768, .i32⟩
  | .hbm, ⟨52, _⟩ => ⟨S2x32768x1024, .bf16⟩
  | .local _ .vmem, ⟨0, _⟩ => ⟨S2x8x32768x128, .fp8e4m3⟩
  | .local _ .vmem, ⟨1, _⟩ => ⟨S2x8x32768x128, .fp8e4m3⟩
  | .local _ .vmem, ⟨2, _⟩ => ⟨S2x8x32768x128, .fp8e4m3⟩
  | .local _ .vmem, ⟨3, _⟩ => ⟨S2x8x32768x1, .f32⟩
  | .local _ .vmem, ⟨4, _⟩ => ⟨S2x8x1x32768, .f32⟩
  | .local _ .vmem, ⟨5, _⟩ => ⟨S2x8x1x32768, .f32⟩
  | .local _ .vmem, ⟨6, _⟩ => ⟨S2x1x32768x32768, .i32⟩
  | .local _ .vmem, ⟨7, _⟩ => ⟨S1x8x32768x32768, .f32⟩
  | .local _ .vmem, ⟨8, _⟩ => ⟨S2x32768x1024, .bf16⟩
  | _, _ => ⟨S2x8x32768x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8x32768x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x32768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x32768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x32768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x1x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x1x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x32768x32768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8x32768x32768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
variable {F : FTy → Type} [FloatOps F] [Named F]
def κ : String → Option EReal := fun
  | "scale" => some (((Real.sqrt 128)⁻¹ : ℝ) : EReal)
  | _ => none
-- ==== Quantise.lean ====
abbrev S2x32768x1024 : Shape := ⟨3, ![2, 32768, 1024]⟩
abbrev S2x8x32768x128 : Shape := ⟨4, ![2, 8, 32768, 128]⟩
abbrev S2x32768x8 : Shape := ⟨3, ![2, 32768, 8]⟩
abbrev S1x256x1024 : Shape := ⟨3, ![1, 256, 1024]⟩
abbrev S1x8x256x128 : Shape := ⟨4, ![1, 8, 256, 128]⟩
abbrev S1x256x8 : Shape := ⟨3, ![1, 256, 8]⟩
abbrev S256x8 : Shape := ⟨2, ![256, 8]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x252 : Shape := ⟨2, ![256, 252]⟩
abbrev S1x1x256x128 : Shape := ⟨4, ![1, 1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x32768x1024, .bf16⟩
  | .hbm, ⟨1, _⟩ => ⟨S2x32768x1024, .bf16⟩
  | .hbm, ⟨2, _⟩ => ⟨S2x32768x1024, .bf16⟩
  | .hbm, ⟨3, _⟩ => ⟨S2x8x32768x128, .fp8e4m3⟩
  | .hbm, ⟨4, _⟩ => ⟨S2x8x32768x128, .fp8e4m3⟩
  | .hbm, ⟨5, _⟩ => ⟨S2x8x32768x128, .fp8e4m3⟩
  | .hbm, ⟨6, _⟩ => ⟨S2x32768x8, .f32⟩
  | .hbm, ⟨7, _⟩ => ⟨S2x32768x8, .f32⟩
  | .hbm, ⟨8, _⟩ => ⟨S2x32768x8, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x8x256x128, .fp8e4m3⟩
  | .local _ .vmem, ⟨7, _⟩ => ⟨S1x8x256x128, .fp8e4m3⟩
  | .local _ .vmem, ⟨8, _⟩ => ⟨S1x8x256x128, .fp8e4m3⟩
  | .local _ .vmem, ⟨9, _⟩ => ⟨S1x8x256x128, .fp8e4m3⟩
  | .local _ .vmem, ⟨10, _⟩ => ⟨S1x8x256x128, .fp8e4m3⟩
  | .local _ .vmem, ⟨11, _⟩ => ⟨S1x8x256x128, .fp8e4m3⟩
  | .local _ .vmem, ⟨12, _⟩ => ⟨S1x256x8, .f32⟩
  | .local _ .vmem, ⟨13, _⟩ => ⟨S1x256x8, .f32⟩
  | .local _ .vmem, ⟨14, _⟩ => ⟨S1x256x8, .f32⟩
  | .local _ .vmem, ⟨15, _⟩ => ⟨S1x256x8, .f32⟩
  | .local _ .vmem, ⟨16, _⟩ => ⟨S1x256x8, .f32⟩
  | .local _ .vmem, ⟨17, _⟩ => ⟨S1x256x8, .f32⟩
  | _, _ => ⟨S2x32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QuantiseReferenceIdeal.lean ====
abbrev S2x32768x1024 : Shape := ⟨3, ![2, 32768, 1024]⟩
abbrev S2x8x32768x128 : Shape := ⟨4, ![2, 8, 32768, 128]⟩
abbrev S2x32768x8 : Shape := ⟨3, ![2, 32768, 8]⟩
abbrev S2x32768x8x128 : Shape := ⟨4, ![2, 32768, 8, 128]⟩
abbrev S2x32768x8x1 : Shape := ⟨4, ![2, 32768, 8, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x32768x1024, .bf16⟩
  | .hbm, ⟨1, _⟩ => ⟨S2x32768x1024, .bf16⟩
  | .hbm, ⟨2, _⟩ => ⟨S2x32768x1024, .bf16⟩
  | .hbm, ⟨3, _⟩ => ⟨S2x8x32768x128, .fp8e4m3⟩
  | .hbm, ⟨4, _⟩ => ⟨S2x8x32768x128, .fp8e4m3⟩
  | .hbm, ⟨5, _⟩ => ⟨S2x8x32768x128, .fp8e4m3⟩
  | .hbm, ⟨6, _⟩ => ⟨S2x32768x8, .f32⟩
  | .hbm, ⟨7, _⟩ => ⟨S2x32768x8, .f32⟩
  | .hbm, ⟨8, _⟩ => ⟨S2x32768x8, .f32⟩
  | .local _ .vmem, ⟨0, _⟩ => ⟨S2x32768x1024, .bf16⟩
  | .local _ .vmem, ⟨1, _⟩ => ⟨S2x32768x1024, .bf16⟩
  | .local _ .vmem, ⟨2, _⟩ => ⟨S2x32768x1024, .bf16⟩
  | .local _ .vmem, ⟨3, _⟩ => ⟨S2x8x32768x128, .fp8e4m3⟩
  | .local _ .vmem, ⟨4, _⟩ => ⟨S2x8x32768x128, .fp8e4m3⟩
  | .local _ .vmem, ⟨5, _⟩ => ⟨S2x8x32768x128, .fp8e4m3⟩
  | .local _ .vmem, ⟨6, _⟩ => ⟨S2x32768x8, .f32⟩
  | .local _ .vmem, ⟨7, _⟩ => ⟨S2x32768x8, .f32⟩
  | .local _ .vmem, ⟨8, _⟩ => ⟨S2x32768x8, .f32⟩
  | _, _ => ⟨S2x32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x32768x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x32768x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x32768x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x32768x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32768x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32768x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
module

public import proofs.«01_k».proof.Proof.Gen.KernelIdeal
public import Idealize.ShloMosaic.Lib.LoopRemainder
public import Idealize.ShloMosaic.Lib.Routing.Words
public import Idealize.ShloMosaic.Lib.Affine

/-!
The chunk counts and offsets of the attention kernel as numbers: the first chunk that a block of queries reads is the
start word divided by 512, the chunk after the last one is `(256 * block + 256 + 511) / 512`, and every offset that
the two loops compute is a chunk number, or 512 times a chunk number.
-/

@[expose] public section

set_option maxRecDepth 16384

namespace Cert.KernelIdeal.Gen

open Idealize.ShloMosaic

/-- The quotient by 512 as the kernel computes it: the machine's quotient, lowered by one where the signs differ and
    the remainder is not zero. -/
def fdiv (x : BitVec 32) : BitVec 32 :=
  Scalar.select (Scalar.andi (Scalar.cmpi .ne
      (Scalar.subi (Scalar.extui (Scalar.cmpi .sgt x 0#32) : BitVec 32) (Scalar.extui (Scalar.cmpi .slt x 0#32)))
      (Scalar.subi (Scalar.extui (Scalar.cmpi .sgt 512#32 0#32) : BitVec 32) (Scalar.extui (Scalar.cmpi .slt 512#32 0#32))))
      (Scalar.cmpi .ne (Scalar.remsi x 512#32) 0#32))
    (Scalar.subi (Scalar.divsi x 512#32) 1#32) (Scalar.divsi x 512#32)

/-- On a small natural number it is the quotient of the numbers. -/
theorem fdiv_ofNat {n : ℕ} (hn : n < 2 ^ 31) : fdiv (BitVec.ofNat 32 n) = BitVec.ofNat 32 (n / 512) := by
  have hd : Scalar.divsi (BitVec.ofNat 32 n) 512#32 = BitVec.ofNat 32 (n / 512) :=
    Routing.divsi_word _ hn (by norm_num) (by norm_num)
  have hr : Scalar.remsi (BitVec.ofNat 32 n) 512#32 = BitVec.ofNat 32 (n % 512) :=
    Routing.remsi_word _ hn (by norm_num) (by norm_num)
  unfold fdiv
  rw [hd, hr]
  rcases Nat.eq_zero_or_pos n with h | h
  · subst h; decide
  · have h1 : Scalar.cmpi .sgt (BitVec.ofNat 32 n) 0#32 = 1#1 := by
      show BitVec.ofBool ((0#32 : BitVec 32).slt (BitVec.ofNat 32 n)) = 1#1
      have : (0#32 : BitVec 32).slt (BitVec.ofNat 32 n) = true := by
        rw [BitVec.slt_iff_toInt_lt, BitVec.toInt_eq_toNat_of_lt (x := BitVec.ofNat 32 n) (by simp; omega)]
        simp; omega
      rw [this]; rfl
    have h2 : Scalar.cmpi .slt (BitVec.ofNat 32 n) 0#32 = 0#1 := by
      show BitVec.ofBool ((BitVec.ofNat 32 n).slt 0#32) = 0#1
      have : (BitVec.ofNat 32 n).slt 0#32 = false := by
        rw [Bool.eq_false_iff, ne_eq, BitVec.slt_iff_toInt_lt, BitVec.toInt_eq_toNat_of_lt (x := BitVec.ofNat 32 n) (by simp; omega)]
        simp
        omega
      rw [this]; rfl
    rw [h1, h2]
    have h3 : ∀ e : BitVec 1, Scalar.andi (Scalar.cmpi .ne
      (Scalar.subi (Scalar.extui 1#1 : BitVec 32) (Scalar.extui 0#1))
      (Scalar.subi (Scalar.extui (Scalar.cmpi .sgt 512#32 0#32) : BitVec 32) (Scalar.extui (Scalar.cmpi .slt 512#32 0#32)))) e = 0#1 := by decide
    rw [h3]; rfl

/-- The chunk after the last one that query block `b` reads. -/
def hiChunk (b : ℕ) : ℕ := (256 * b + 767) / 512

theorem loop1_eq (i : grid0.Coords) {n : ℕ} (hn : n < 2 ^ 31) :
    k0_t1_loop i (BitVec.ofNat 32 n) = ⟨BitVec.ofNat 32 (n / 512), BitVec.ofNat 32 (hiChunk (i 2).val), 1#32⟩ := by
  have hi : (i 2).val < 128 := (i 2).isLt
  have e : Scalar.subi (Scalar.addi (Scalar.addi (Scalar.muli (BitVec.ofNat 32 (i 2).val) 256#32) 256#32) 512#32) 1#32
      = BitVec.ofNat 32 (256 * (i 2).val + 767) := by
    apply BitVec.eq_of_toNat_eq
    simp [Scalar.subi, Scalar.addi, Scalar.muli, IntOp.subi, IntOp.addi, IntOp.muli, BitVec.toNat_sub, BitVec.toNat_add, BitVec.toNat_mul]
    omega
  have h0 : k0_t1_loop i (BitVec.ofNat 32 n)
      = ⟨fdiv (BitVec.ofNat 32 n), Scalar.addi (fdiv (BitVec.ofNat 32 n)) (Scalar.muli (Scalar.divsi (Scalar.subi (fdiv
          (Scalar.subi (Scalar.addi (Scalar.addi (Scalar.muli (BitVec.ofNat 32 (i 2).val) 256#32) 256#32) 512#32) 1#32))
          (fdiv (BitVec.ofNat 32 n))) 1#32) 1#32), 1#32⟩ := rfl
  rw [h0, e, fdiv_ofNat hn, fdiv_ofNat (by omega), Scalar.muli_divsi_one]
  congr 1
  simp [Scalar.addi, Scalar.subi, IntOp.addi, IntOp.subi, hiChunk]

theorem loop3_eq (i : grid0.Coords) (w : BitVec 32) : k0_t3_loop i w = k0_t1_loop i w := rfl

theorem trips1_eq (i : grid0.Coords) {n : ℕ} (hn : n < 2 ^ 31) :
    (k0_t1_loop i (BitVec.ofNat 32 n)).trips = hiChunk (i 2).val - n / 512 := by
  have hi : (i 2).val < 128 := (i 2).isLt
  rw [loop1_eq i hn]
  unfold hiChunk
  show Scf.trips _ _ _ = _
  unfold Scf.trips
  rw [BitVec.toInt_eq_toNat_of_lt (by simp; omega), BitVec.toInt_eq_toNat_of_lt (by simp; omega)]
  simp
  omega

/-- The induction variable of trip `k`, as a number. -/
theorem iv1_toNat (i : grid0.Coords) {n : ℕ} (hn : n < 2 ^ 31) (k : Fin (k0_t1_loop i (BitVec.ofNat 32 n)).trips) :
    Scf.iv (fdiv (BitVec.ofNat 32 n)) 1#32 k = BitVec.ofNat 32 (n / 512 + k) := by
  rw [fdiv_ofNat hn]
  unfold Scf.iv
  simp [BitVec.ofNat_add]

/-- The chunk of trip `k` is one of the 64. -/
theorem chunk_lt (i : grid0.Coords) {n : ℕ} (hn : n < 2 ^ 31) (k : Fin (k0_t1_loop i (BitVec.ofNat 32 n)).trips) :
    n / 512 + k.val < 64 := by
  have := lt_of_lt_of_eq k.isLt (trips1_eq i hn)
  have hi : (i 2).val < 128 := (i 2).isLt
  unfold hiChunk at this
  omega

theorem idx_mul {c : ℕ} (hc : c < 64) : (Scalar.indexCast (Scalar.muli (BitVec.ofNat 32 c) 512#32) : Index).toNat = 512 * c := by
  simp [Scalar.indexCast, Scalar.muli, IntOp.muli]
  omega

theorem idx_head (h : ℕ) (this : h < 8) : (Scalar.indexCast (BitVec.ofNat 32 h) : Index).toNat = h := by
  simp [Scalar.indexCast]
  omega

theorem off3_eq (i : grid0.Coords) {n : ℕ} (hn : n < 2 ^ 31) (k : Fin (k0_t1_loop i (BitVec.ofNat 32 n)).trips) :
    k0_off3 i (BitVec.ofNat 32 n) k = ![0, 0, 512 * (n / 512 + k), 0] := by
  have h : k0_off3 i (BitVec.ofNat 32 n) k = ![0, 0, (Scalar.indexCast (Scalar.muli (Scf.iv (fdiv (BitVec.ofNat 32 n)) 1#32 k) 512#32) : Index).toNat, 0] := rfl
  rw [h, iv1_toNat i hn, idx_mul (chunk_lt i hn k)]

theorem off4_eq (i : grid0.Coords) {n : ℕ} (hn : n < 2 ^ 31) (k : Fin (k0_t1_loop i (BitVec.ofNat 32 n)).trips) :
    k0_off4 i (BitVec.ofNat 32 n) k = ![0, (i 1).val, 512 * (n / 512 + k)] := by
  have h : k0_off4 i (BitVec.ofNat 32 n) k = ![0, (Scalar.indexCast (BitVec.ofNat 32 (i 1).val) : Index).toNat, (Scalar.indexCast (Scalar.muli (Scf.iv (fdiv (BitVec.ofNat 32 n)) 1#32 k) 512#32) : Index).toNat] := rfl
  rw [h, iv1_toNat i hn, idx_mul (chunk_lt i hn k), idx_head _ (show (i 1).val < 8 from (i 1).isLt)]

theorem off5_eq (i : grid0.Coords) {n : ℕ} (hn : n < 2 ^ 31) (k : Fin (k0_t1_loop i (BitVec.ofNat 32 n)).trips) :
    k0_off5 i (BitVec.ofNat 32 n) k = ![0, 0, 512 * (n / 512 + k)] := by
  have h : k0_off5 i (BitVec.ofNat 32 n) k = ![0, 0, (Scalar.indexCast (Scalar.muli (Scf.iv (fdiv (BitVec.ofNat 32 n)) 1#32 k) 512#32) : Index).toNat] := rfl
  rw [h, iv1_toNat i hn, idx_mul (chunk_lt i hn k)]

theorem off6_eq (i : grid0.Coords) {n : ℕ} (hn : n < 2 ^ 31) (k : Fin (k0_t1_loop i (BitVec.ofNat 32 n)).trips) :
    k0_off6 i (BitVec.ofNat 32 n) k = ![n / 512 + k, 0, 0] := by
  have h : k0_off6 i (BitVec.ofNat 32 n) k = ![(Scalar.indexCast (Scf.iv (fdiv (BitVec.ofNat 32 n)) 1#32 k) : Index).toNat, 0, 0] := rfl
  have := chunk_lt i hn k
  rw [h, iv1_toNat i hn]
  congr 1
  simp [Scalar.indexCast]
  omega

theorem off11_eq (i : grid0.Coords) (w : BitVec 32) (k : Fin (k0_t1_loop i w).trips) : k0_off11 i w k = k0_off4 i w k := rfl
theorem off12_eq (i : grid0.Coords) (w : BitVec 32) (k : Fin (k0_t1_loop i w).trips) : k0_off12 i w k = k0_off6 i w k := rfl
theorem off13_eq (i : grid0.Coords) (w : BitVec 32) (k : Fin (k0_t1_loop i w).trips) : k0_off13 i w k = k0_off3 i w k := rfl

theorem loop2_trips (i : grid0.Coords) (w : BitVec 32) : (k0_t2_loop i w).trips = 0 := Scf.rem_trips _ _
theorem loop4_trips (i : grid0.Coords) (w : BitVec 32) : (k0_t4_loop i w).trips = 0 := Scf.rem_trips _ _

theorem loop1_ok (i : grid0.Coords) {n : ℕ} (hn : n < 2 ^ 31) : (k0_t1_loop i (BitVec.ofNat 32 n)).OK := by
  have ht := trips1_eq i hn
  have hi : (i 2).val < 128 := (i 2).isLt
  unfold hiChunk at ht
  unfold Scf.Loop.trips at ht
  unfold Scf.Loop.OK Scf.OK
  rw [ht]
  rw [loop1_eq i hn]
  refine ⟨show 0 < (1#32 : BitVec 32).toInt by decide, ?_⟩
  have h1 : (1#32 : BitVec 32).toInt = 1 := by decide
  simp only [h1]
  rw [BitVec.toInt_eq_toNat_of_lt (by simp; omega)]
  simp
  omega

/-- Every loop of the body is well formed and every block it reads or writes lies inside its array, at every start
    word that is not negative. -/
theorem chk1_of_nonneg (i : grid0.Coords) {n : ℕ} (hn : n < 2 ^ 31) : k0_chk1 i (BitVec.ofNat 32 n) := by
  have no2 : Fin (k0_t2_loop i (BitVec.ofNat 32 n)).trips → False := fun k => Nat.not_lt_zero k.val (lt_of_lt_of_eq k.isLt (loop2_trips i _))
  have no4 : Fin (k0_t4_loop i (BitVec.ofNat 32 n)).trips → False := fun k => Nat.not_lt_zero k.val (lt_of_lt_of_eq k.isLt (loop4_trips i _))
  have h3 : ∀ k : Fin (k0_t1_loop i (BitVec.ofNat 32 n)).trips, ∀ a, (k0_off3 i (BitVec.ofNat 32 n) k) a + S1x1x512x128.size a ≤ S1x1x32768x128.size a := by
    intro k a; have := chunk_lt i hn k; rw [off3_eq i hn]; fin_cases a <;> simp <;> omega
  have hh : (i 1).val < 8 := (i 1).isLt
  have h4 : ∀ k : Fin (k0_t1_loop i (BitVec.ofNat 32 n)).trips, ∀ a, (k0_off4 i (BitVec.ofNat 32 n) k) a + S1x1x512.size a ≤ S1x8x32768.size a := by
    intro k a; have := chunk_lt i hn k; rw [off4_eq i hn]; fin_cases a <;> simp <;> omega
  have h5 : ∀ k : Fin (k0_t1_loop i (BitVec.ofNat 32 n)).trips, ∀ a, (k0_off5 i (BitVec.ofNat 32 n) k) a + S1x1x512.size a ≤ S1x1x32768.size a := by
    intro k a; have := chunk_lt i hn k; rw [off5_eq i hn]; fin_cases a <;> simp <;> omega
  have h6 : ∀ k : Fin (k0_t1_loop i (BitVec.ofNat 32 n)).trips, ∀ a, (k0_off6 i (BitVec.ofNat 32 n) k) a + S1x256x512.size a ≤ S64x256x512.size a := by
    intro k a; have := chunk_lt i hn k; rw [off6_eq i hn]; fin_cases a <;> simp <;> omega
  exact ⟨loop1_ok i hn, h3, h4, h5, h6, Scf.rem_ok _ _, fun k => (no2 k).elim, fun k => (no2 k).elim, fun k => (no2 k).elim, fun k => (no2 k).elim,
    loop1_ok i hn, h4, h6, h3, Scf.rem_ok _ _, fun k => (no4 k).elim, fun k => (no4 k).elim, fun k => (no4 k).elim⟩

end Cert.KernelIdeal.Gen
-- ==== Proof.Body.lean ====
module

public import proofs.«01_k».proof.Proof.Words
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.LoopRemainder
public import Idealize.ShloMosaic.Lib.WritesUnit
public import Idealize.ShloMosaic.Lib.Pipeline.ValueKit.Tiles

/-! # One point of the attention grid

The body keeps the masked scores of a block of 256 rows in its scratch array, one slot for each chunk of 512 keys. Its
first loop fills the slots and carries the running row maximum, the running maximum of the scaled weights and the running
row sum. Its second loop reads the slots back, quantises the weights and multiplies them by the values. This file states
what both loops compute as functions of the loaded blocks and proves that running the body leaves exactly that in the
output block, whatever the scratch array held before. -/

@[expose] public section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

noncomputable section

variable {F : FTy → Type} [FloatOps F] [Named F]

local notation "𝕄" => MT nD τ sig Unit (Elt F) ℕ (UR sig nD τ) ℕ

/-- What one point of the grid reads: the start word of its rows, the slope of its head and its blocks. -/
structure Blk (F : FTy → Type) (i : grid0.Coords) where
  w : BitVec 32
  hw : k0_chk1 i w
  slope : Elt F .f32
  q : Vec F S1x1x256x128 .fp8e4m3
  k : Vec F S1x1x32768x128 .fp8e4m3
  v : Vec F S1x1x32768x128 .fp8e4m3
  qs : Vec F S1x256x8 .f32
  ks : Vec F S1x8x32768 .f32
  vs : Vec F S1x8x32768 .f32
  en : Vec F S1x1x32768 .i32

namespace Blk

variable {i : grid0.Coords} (B : Blk F i)

/-- The number of chunks of 512 keys the point visits. -/
abbrev trips : ℕ := (k0_t1_loop i B.w).trips

/-- The keys of chunk `t`. -/
def keys (t : Fin B.trips) : Vec F S1x1x512x128 .fp8e4m3 :=
  View.ld (Val := Elt F) B.k (Rect.unit (s := S1x1x32768x128) (k0_off3 i B.w t) S1x1x512x128.size (k0_off3_inb i B.w B.hw t))

/-- The key scales of chunk `t`. -/
def keyScales (t : Fin B.trips) : Vec F S1x1x512 .f32 :=
  View.ld (Val := Elt F) B.ks (Rect.unit (s := S1x8x32768) (k0_off4 i B.w t) S1x1x512.size (k0_off4_inb i B.w B.hw t))

/-- The value scales of chunk `t`. -/
def valScales (t : Fin B.trips) : Vec F S1x1x512 .f32 :=
  View.ld (Val := Elt F) B.vs (Rect.unit (s := S1x8x32768) (k0_off4 i B.w t) S1x1x512.size (k0_off4_inb i B.w B.hw t))

/-- The segment ends of the keys of chunk `t`. -/
def ends (t : Fin B.trips) : Vec F S1x1x512 .i32 :=
  View.ld (Val := Elt F) B.en (Rect.unit (s := S1x1x32768) (k0_off5 i B.w t) S1x1x512.size (k0_off5_inb i B.w B.hw t))

/-- The values of chunk `t`. -/
def values (t : Fin B.trips) : Vec F S1x1x512x128 .fp8e4m3 :=
  View.ld (Val := Elt F) B.v (Rect.unit (s := S1x1x32768x128) (k0_off3 i B.w t) S1x1x512x128.size (k0_off3_inb i B.w B.hw t))

/-- The masked scores of chunk `t`. -/
def scores (t : Fin B.trips) : FVec F S256x512 .f32 :=
  k0_pay3 i B.w (fdiv B.w) (k0_pay12 B.slope) (k0_pay13 B.q) (k0_pay14 (BitVec.ofNat 32 (i 1).val) B.qs)
    (k0_pay15 (Scalar.muli (BitVec.ofNat 32 (i 2).val) 256#32)) 1#32 t (B.keys t) (B.keyScales t) (B.ends t)

/-- The running maximum after chunk `t`. -/
def newMax (t : Fin B.trips) (m : FVec F S256x1 .f32) : FVec F S256x1 .f32 :=
  k0_pay4 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- The weights of chunk `t` relative to the running maximum after it. -/
def weights (t : Fin B.trips) (m : FVec F S256x1 .f32) : FVec F S256x512 .f32 :=
  k0_pay5 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- The running maximum before chunk `t` minus the one after it. -/
def drop (t : Fin B.trips) (m : FVec F S256x1 .f32) : FVec F S256x1 .f32 :=
  k0_pay6 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- One trip of the first loop. -/
def step (t : Fin B.trips) (a : FVec F S256x1 .f32 × FVec F S256x1 .f32 × FVec F S256x1 .f32) :
    FVec F S256x1 .f32 × FVec F S256x1 .f32 × FVec F S256x1 .f32 :=
  (B.newMax t a.1, k0_pay22 a.2.1 (k0_pay2 (B.valScales t)) (B.weights t a.1) (B.drop t a.1), k0_pay23 a.2.2 (B.weights t a.1) (B.drop t a.1))

/-- What the first loop carries after `n` trips: row maximum, maximum of the scaled weights, row sum. -/
def carry : ℕ → FVec F S256x1 .f32 × FVec F S256x1 .f32 × FVec F S256x1 .f32
  | 0 => (k0_pay17, k0_pay18, k0_pay19)
  | n + 1 => if h : n < B.trips then B.step ⟨n, h⟩ (carry n) else carry n

theorem carry_succ (t : Fin B.trips) : B.carry (t.val + 1) = B.step t (B.carry t.val) := dif_pos t.isLt

/-- The store of chunk `t` into its slot. -/
def piece (t : Fin B.trips) : View.Piece (Elt F) S64x256x512 .f32 :=
  ⟨Rect.unit (s := S64x256x512) (k0_off6 i B.w t) S1x256x512.size (k0_off6_inb i B.w B.hw t), k0_pay21 (B.scores t)⟩

/-- The stores of the first `n` trips, last first. -/
def pieces : ℕ → List (View.Piece (Elt F) S64x256x512 .f32)
  | 0 => []
  | n + 1 => if h : n < B.trips then B.piece ⟨n, h⟩ :: pieces n else pieces n

theorem pieces_succ (t : Fin B.trips) : B.pieces (t.val + 1) = B.piece t :: B.pieces t.val := dif_pos t.isLt

/-- The largest scaled weight of each row, over 448. -/
def scale : FVec F S256x1 .f32 := k0_pay28 (B.carry B.trips).2.1 (B.carry B.trips).2.2

/-- What the second loop carries after `n` trips. -/
def acc : ℕ → FVec F S256x128 .f32
  | 0 => k0_pay32
  | n + 1 => if h : n < B.trips then
      k0_pay33 (B.carry B.trips).1 (B.carry B.trips).2.2 B.scale k0_pay29 127#32 (acc n) (B.valScales ⟨n, h⟩) (k0_pay21 (B.scores ⟨n, h⟩)) (B.values ⟨n, h⟩)
    else acc n

theorem acc_succ (t : Fin B.trips) : B.acc (t.val + 1) =
    k0_pay33 (B.carry B.trips).1 (B.carry B.trips).2.2 B.scale k0_pay29 127#32 (B.acc t.val) (B.valScales t) (k0_pay21 (B.scores t)) (B.values t) := dif_pos t.isLt

/-- The output block. -/
def out : FVec F S256x128 .bf16 := k0_pay35 B.scale k0_pay29 127#32 (B.acc B.trips)

end Blk

/-- The slot of chunk `t`. -/
theorem off6_of (i : grid0.Coords) (w : BitVec 32) (hn : w.toNat < 2 ^ 31) (t : Fin (k0_t1_loop i w).trips) :
    k0_off6 i w t = ![w.toNat / 512 + t, 0, 0] := by
  obtain ⟨n, hw⟩ : ∃ n, w = BitVec.ofNat 32 n := ⟨w.toNat, by simp⟩
  subst hw
  have h : (BitVec.ofNat 32 n).toNat < 2 ^ 31 := hn
  obtain ⟨m, hm, hw⟩ : ∃ m, m < 2 ^ 31 ∧ BitVec.ofNat 32 n = BitVec.ofNat 32 m := ⟨_, h, BitVec.eq_of_toNat_eq (by simp)⟩
  revert t
  rw [hw]
  intro t
  rw [off6_eq i hm]
  simp
  omega

/-- A slot read back after the stores of the first `n` trips holds the scores of its chunk. -/
theorem Blk.ld_slot {i : grid0.Coords} (B : Blk F i) (hn : B.w.toNat < 2 ^ 31) {κ : Kind} {sp : Space} (v : View sig κ sp S64x256x512 .f32) (f : v.ty.Contents (Elt F))
    (t : Fin B.trips) : ∀ n, t.val < n → n ≤ B.trips →
    View.ld (Val := Elt F) (v.read (Elt F) (v.writes (Elt F) f (B.pieces n))) (Rect.unit (s := S64x256x512) (k0_off6 i B.w t) S1x256x512.size (k0_off6_inb i B.w B.hw t)) = k0_pay21 (B.scores t)
  | 0, h, _ => absurd h (Nat.not_lt_zero _)
  | n + 1, h, hle => by
    have hp := B.pieces_succ ⟨n, hle⟩
    simp only at hp
    rw [hp]
    funext x
    change v.read (Elt F) (v.writes (Elt F) f (B.piece ⟨n, hle⟩ :: B.pieces n)) ((Rect.unit (s := S64x256x512) (k0_off6 i B.w t) S1x256x512.size (k0_off6_inb i B.w B.hw t)).idx x) = _
    by_cases e : t.val = n
    · obtain rfl : t = ⟨n, hle⟩ := Fin.ext e
      unfold Blk.piece
      refine View.read_writes_cons_unit_of_mem v f _ _ _ _ x rfl ?_
      intro a
      exact Rect.idx_unit_val _ _ _ _ _
    · unfold Blk.piece
      rw [View.read_writes_cons_unit_of_not_mem v f _ _ _ _ (off6_of i B.w hn ⟨n, hle⟩) 0]
      · exact congrFun (Blk.ld_slot B hn v f t n (by omega) (by omega)) x
      · left
        have h1 := Rect.idx_unit_val (s := S64x256x512) (k0_off6 i B.w t) S1x256x512.size (k0_off6_inb i B.w B.hw t) x (0 : Fin 3)
        have h2 : k0_off6 i B.w t (0 : Fin 3) = B.w.toNat / 512 + t := by rw [off6_of i B.w hn]; rfl
        have h3 : (x (0 : Fin 3)).val < 1 := (x (0 : Fin 3)).isLt
        have h4 : (![B.w.toNat / 512 + n, 0, 0] : Fin 3 → ℕ) 0 = B.w.toNat / 512 + n := rfl
        refine lt_of_eq_of_lt h1 ?_
        show _ < (![B.w.toNat / 512 + n, 0, 0] : Fin 3 → ℕ) 0
        rw [h2, h4]
        omega

/-- The first loop's recursion, in the block's terms. -/
theorem st1_eq (𝒱 : Variants) (c : Dev nD) (bd : Option 𝒱.V) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (w : BitVec 32) (hw : k0_chk1 i w) (v24 : BitVec 32) (v38 : BitVec 1) (sl : Elt F .f32) (q : Vec F S1x1x256x128 .fp8e4m3) (qs : Vec F S1x256x8 .f32) (v : Vec F S1x1x32768x128 .fp8e4m3)
    (X6 : BufTy.Contents (Elt F) arg6.view.ty) (X9 : BufTy.Contents (Elt F) arg9.view.ty) (X10 : BufTy.Contents (Elt F) arg10.view.ty) (X11 : BufTy.Contents (Elt F) arg11.view.ty) :
    ∀ n, n ≤ (k0_t1_loop i w).trips →
    st_k0_t1 (F := F) 𝒱 c bd i arg3 harg3 arg4 harg4 arg5 harg5 arg6 harg6 arg7 harg7 arg8 harg8 arg9 harg9 arg10 harg10 arg11 harg11 arg12 harg12 arg13 harg13 (BitVec.ofNat 32 (i 1).val) (Scalar.muli (BitVec.ofNat 32 (i 2).val) 256#32) w hw (fdiv w) v24 v38 sl q qs X6 X9 X10 X11 (k0_pay17, k0_pay18, k0_pay19) n
      = ((Blk.mk w hw sl q (View.read (Elt F) arg6.view X6) v qs (View.read (Elt F) arg9.view X9) (View.read (Elt F) arg10.view X10) (View.read (Elt F) arg11.view X11) : Blk F i).carry n,
         (Blk.mk w hw sl q (View.read (Elt F) arg6.view X6) v qs (View.read (Elt F) arg9.view X9) (View.read (Elt F) arg10.view X10) (View.read (Elt F) arg11.view X11) : Blk F i).pieces n)
  | 0, _ => rfl
  | n + 1, h => by
    have ih := st1_eq 𝒱 c bd i arg3 harg3 arg4 harg4 arg5 harg5 arg6 harg6 arg7 harg7 arg8 harg8 arg9 harg9 arg10 harg10 arg11 harg11 arg12 harg12 arg13 harg13 w hw v24 v38 sl q qs v X6 X9 X10 X11 n (by omega)
    have hs := st_k0_t1_succ (F := F) 𝒱 c bd i arg3 harg3 arg4 harg4 arg5 harg5 arg6 harg6 arg7 harg7 arg8 harg8 arg9 harg9 arg10 harg10 arg11 harg11 arg12 harg12 arg13 harg13 (BitVec.ofNat 32 (i 1).val) (Scalar.muli (BitVec.ofNat 32 (i 2).val) 256#32) w hw (fdiv w) v24 v38 sl q qs X6 X9 X10 X11 (k0_pay17, k0_pay18, k0_pay19) ⟨n, h⟩
    simp only at hs
    rw [hs, ih]
    have hc := (Blk.mk w hw sl q (View.read (Elt F) arg6.view X6) v qs (View.read (Elt F) arg9.view X9) (View.read (Elt F) arg10.view X10) (View.read (Elt F) arg11.view X11) : Blk F i).carry_succ ⟨n, h⟩
    have hp := (Blk.mk w hw sl q (View.read (Elt F) arg6.view X6) v qs (View.read (Elt F) arg9.view X9) (View.read (Elt F) arg10.view X10) (View.read (Elt F) arg11.view X11) : Blk F i).pieces_succ ⟨n, h⟩
    simp only at hc hp
    rw [hc, hp]
    unfold tripR_k0_t1 tripL_k0_t1 trip_k0_t1
    rfl

/-- The second loop's recursion, in the block's terms. -/
theorem st3_eq (𝒱 : Variants) (c : Dev nD) (bd : Option 𝒱.V) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (w : BitVec 32) (hw : k0_chk1 i w) (v20 v40 : BitVec 32) (B : Blk F i)
    (X7 : BufTy.Contents (Elt F) arg7.view.ty) (X10 : BufTy.Contents (Elt F) arg10.view.ty) (X13 : BufTy.Contents (Elt F) arg13.view.ty)
    (hBw : B.w = w) (h7 : B.v = View.read (Elt F) arg7.view X7) (h10 : B.vs = View.read (Elt F) arg10.view X10)
    (h13 : ∀ t : Fin B.trips, View.ld (Val := Elt F) (View.read (Elt F) arg13.view X13) (Rect.unit (s := S64x256x512) (k0_off6 i B.w t) S1x256x512.size (k0_off6_inb i B.w B.hw t)) = k0_pay21 (B.scores t)) :
    ∀ n, n ≤ B.trips →
    st_k0_t3 (F := F) 𝒱 c bd i arg3 harg3 arg4 harg4 arg5 harg5 arg6 harg6 arg7 harg7 arg8 harg8 arg9 harg9 arg10 harg10 arg11 harg11 arg12 harg12 arg13 harg13 (BitVec.ofNat 32 (i 1).val) w hw v20 v40 (B.carry B.trips).1 (B.carry B.trips).2.2 B.scale k0_pay29 127#32 X7 X10 X13 k0_pay32 n = B.acc n
  | 0, _ => rfl
  | n + 1, h => by
    subst hBw
    have ih := st3_eq 𝒱 c bd i arg3 harg3 arg4 harg4 arg5 harg5 arg6 harg6 arg7 harg7 arg8 harg8 arg9 harg9 arg10 harg10 arg11 harg11 arg12 harg12 arg13 harg13 B.w hw v20 v40 B X7 X10 X13 rfl h7 h10 h13 n (by omega)
    have hs := st_k0_t3_succ (F := F) 𝒱 c bd i arg3 harg3 arg4 harg4 arg5 harg5 arg6 harg6 arg7 harg7 arg8 harg8 arg9 harg9 arg10 harg10 arg11 harg11 arg12 harg12 arg13 harg13 (BitVec.ofNat 32 (i 1).val) B.w hw v20 v40 (B.carry B.trips).1 (B.carry B.trips).2.2 B.scale k0_pay29 127#32 X7 X10 X13 k0_pay32 ⟨n, h⟩
    have ha := B.acc_succ ⟨n, h⟩
    simp only at hs ha
    rw [hs, ih, ha, ← h13 ⟨n, h⟩]
    unfold Blk.valScales Blk.values
    rw [h7, h10]
    unfold tripR_k0_t3 trip_k0_t3
    rfl

/-- What one point leaves in the output block. -/
def outBlock {i : grid0.Coords} (B : Blk F i) : Vec F S1x256x128 .bf16 :=
  View.canon (Val := Elt F) [⟨Rect.unit (s := S1x256x128) ![0, 0, 0] S1x256x128.size inb_S1x256x128_S1x256x128_0_0_0, k0_pay1 B.out⟩]

/-- The blocks one point reads, from the contents of the buffers. -/
def blk (i : grid0.Coords) (x3 : Vec F S2x128 .i32) (x4 : Vec F S8 .f32) (x5 : Vec F S1x1x256x128 .fp8e4m3) (x6 x7 : Vec F S1x1x32768x128 .fp8e4m3) (x8 : Vec F S1x256x8 .f32) (x9 x10 : Vec F S1x8x32768 .f32) (x11 : Vec F S1x1x32768 .i32)
    (hx3 : ∀ j, k0_chk1 i (x3 j)) : Blk F i where
  w := View.ld (Val := Elt F) x3 (Rect.unit (s := S2x128) (k0_off1 i) S1x1.size (k0_off1_inb i)) (Shape.Idx.first (s := S1x1) (by decide))
  hw := hx3 _
  slope := View.ld (Val := Elt F) x4 (Rect.unit (s := S8) (k0_off2 i) S1.size (k0_off2_inb i)) (Shape.Idx.first (s := S1) (by decide))
  q := View.ld (Val := Elt F) x5 (Rect.unit (s := S1x1x256x128) ![0, 0, 0, 0] S1x1x256x128.size inb_S1x1x256x128_S1x1x256x128_0_0_0_0)
  k := x6
  v := x7
  qs := View.ld (Val := Elt F) x8 (Rect.unit (s := S1x256x8) ![0, 0, 0] S1x256x8.size inb_S1x256x8_S1x256x8_0_0_0)
  ks := x9
  vs := x10
  en := x11

set_option maxHeartbeats 4000000 in
/-- Running the body at a point leaves its inputs as they were and `outBlock` in its output, whatever the output block
    and the scratch array held. -/
theorem sound_kernel (c : Dev nD) (E : Set ℕ) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (x3 : Vec F S2x128 .i32) (x4 : Vec F S8 .f32) (x5 : Vec F S1x1x256x128 .fp8e4m3) (x6 x7 : Vec F S1x1x32768x128 .fp8e4m3) (x8 : Vec F S1x256x8 .f32) (x9 x10 : Vec F S1x8x32768 .f32) (x11 : Vec F S1x1x32768 .i32)
    (hx3 : ∀ j, k0_chk1 i (x3 j)) (hlt : ∀ j, (x3 j).toNat < 2 ^ 31) (K : PUnit → sProp 𝕄) :
    iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (∃ d, owns (c : Thread nD τ) arg12 fullShare d) ∗ (∃ d, owns (c : Thread nD τ) arg13 fullShare d)
        ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (outBlock (blk i x3 x4 x5 x6 x7 x8 x9 x10 x11 hx3)) ∗ (∃ d, owns (c : Thread nD τ) arg13 fullShare d)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13) K := by
  simp only [cc0_attention_eq_skeleton]; unfold cc0_attention_skel
  simp only [k0_part3_eq_skeleton, k0_part4_eq_skeleton, k0_part5_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf3 hf4 hf5 hf6 hf7 hf8 hf9 hf10 hf11
  sl_exec (disch := exact hx3 _)
  sl_step
  iapply Hk
  let B : Blk F i := (blk i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) hx3)
  have hst : ∀ n, n ≤ B.trips → st_k0_t1 (F := F) Variants.none c none i arg3 harg3 arg4 harg4 arg5 harg5 arg6 harg6 arg7 harg7 arg8 harg8 arg9 harg9 arg10 harg10 arg11 harg11 arg12 harg12 arg13 harg13 (BitVec.ofNat 32 (i 1).val) (sound_kernel.sl.v0 i) (sound_kernel.sl.r c i arg3 f3) (hx3 _) (sound_kernel.sl.v20 c i arg3 f3) (sound_kernel.sl.v24 i) (sound_kernel.sl.v38 i) (sound_kernel.sl.r_1 c i arg4 f4)
      (View.readAt (Elt F) arg5.view (Rect.unit (s := S1x1x256x128) ![0, 0, 0, 0] S1x1x256x128.size inb_S1x1x256x128_S1x1x256x128_0_0_0_0).toLoadRect f5)
      (View.readAt (Elt F) arg8.view (Rect.unit (s := S1x256x8) ![0, 0, 0] S1x256x8.size inb_S1x256x8_S1x256x8_0_0_0).toLoadRect f8) f6 f9 f10 f11 (k0_pay17, k0_pay18, k0_pay19) n = (B.carry n, B.pieces n) :=
    fun n h => st1_eq (F := F) Variants.none c none i arg3 harg3 arg4 harg4 arg5 harg5 arg6 harg6 arg7 harg7 arg8 harg8 arg9 harg9 arg10 harg10 arg11 harg11 arg12 harg12 arg13 harg13 B.w B.hw (sound_kernel.sl.v24 i) (sound_kernel.sl.v38 i) B.slope B.q B.qs B.v f6 f9 f10 f11 n h
  have ht2 : Scf.trips (k0_t2_loop i (sound_kernel.sl.r c i arg3 f3)).lb (k0_t2_loop i (sound_kernel.sl.r c i arg3 f3)).ub (k0_t2_loop i (sound_kernel.sl.r c i arg3 f3)).st = 0 := loop2_trips i _
  have hr2 : sound_kernel.sl.r_2 c i arg3 harg3 arg4 harg4 arg5 harg5 arg6 harg6 arg7 harg7 arg8 harg8 arg9 harg9 arg10 harg10 arg11 harg11 arg12 harg12 arg13 harg13 f3 f4 f5 f6 f8 f9 f10 f11 hx3 = (B.carry B.trips).1 := by
    delta sound_kernel.sl.r_2
    rw [ht2]
    exact congrArg (fun p => p.1.1) (hst B.trips le_rfl)
  have hr3 : sound_kernel.sl.r_3 c i arg3 harg3 arg4 harg4 arg5 harg5 arg6 harg6 arg7 harg7 arg8 harg8 arg9 harg9 arg10 harg10 arg11 harg11 arg12 harg12 arg13 harg13 f3 f4 f5 f6 f8 f9 f10 f11 hx3 = (B.carry B.trips).2.2 := by
    delta sound_kernel.sl.r_3
    rw [ht2]
    exact congrArg (fun p => p.1.2.2) (hst B.trips le_rfl)
  have hr4 : sound_kernel.sl.r_4 c i arg3 harg3 arg4 harg4 arg5 harg5 arg6 harg6 arg7 harg7 arg8 harg8 arg9 harg9 arg10 harg10 arg11 harg11 arg12 harg12 arg13 harg13 f3 f4 f5 f6 f8 f9 f10 f11 hx3 = B.scale := by
    delta sound_kernel.sl.r_4
    rw [ht2]
    exact congrArg (fun p => k0_pay28 p.1.2.1 p.1.2.2) (hst B.trips le_rfl)
  have hr5 : sound_kernel.sl.r_5 c i arg3 harg3 arg4 harg4 arg5 harg5 arg6 harg6 arg7 harg7 arg8 harg8 arg9 harg9 arg10 harg10 arg11 harg11 arg12 harg12 arg13 harg13 f3 f4 f5 f6 f7 f8 f9 f10 f11 f13 hx3 = B.out := by
    delta sound_kernel.sl.r_5
    rw [hr2, hr3, hr4, ht2]
    refine congrArg (k0_pay35 B.scale k0_pay29 127#32) ?_
    refine st3_eq (F := F) Variants.none c none i arg3 harg3 arg4 harg4 arg5 harg5 arg6 harg6 arg7 harg7 arg8 harg8 arg9 harg9 arg10 harg10 arg11 harg11 arg12 harg12 arg13 harg13 B.w B.hw _ _ B f7 f10 _ rfl rfl rfl ?_ B.trips le_rfl
    intro t
    refine Eq.trans ?_ (B.ld_slot (hlt _) arg13.view f13 t B.trips t.isLt le_rfl)
    exact congrArg (fun p => View.ld (Val := Elt F) (View.read (Elt F) arg13.view (arg13.view.writes (Elt F) f13 p.2)) (Rect.unit (s := S64x256x512) (k0_off6 i B.w t) S1x256x512.size (k0_off6_inb i B.w B.hw t))) (hst B.trips le_rfl)
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _
    isplitr
    swap
    · iexact H12
    · ipureintro
      rw [hr5]
      refine (View.read_writes_eq_canon _ _ _ ?_).trans rfl
      intro y
      exact View.cover_of_tiled _ S1x256x128.size (by rfl) y
  · iexists _, _
    isplitr
    swap
    · iexact H13
    · ipureintro
      rfl

end

end Cert.KernelIdeal.Gen
-- ==== Proof.Host.lean ====
module

public import proofs.«01_k».proof.Proof.Words
public import proofs.«01_k».proof.Proof.Gen.KernelIdeal.Launch
public import Idealize.ShloMosaic.Lib.Pipeline.Frame
public import Idealize.ShloMosaic.Lib.StableHlo.RunRead
public import Idealize.ShloMosaic.Lib.Claim
public import Idealize.ShloMosaic.Lib.Pointwise.Index

/-! # What the host hands to the attention call

Before the call the host computes, from the segment numbers, where the segment of each row starts and where the segment
of each key ends, then the slopes of the heads, and it transposes the scales of the keys and of the values. This file
reads those arrays back as functions of the arguments. -/

@[expose] public section

namespace Cert.KernelIdeal.Gen

open Idealize.ShloMosaic Idealize.ShloMosaic.TcCoe Idealize.ShloMosaic.Tactic
open Idealize.SL Idealize.SL.Sem

set_option maxRecDepth 16384

noncomputable section

variable {F : FTy → Type} [FloatOps F] [Named F]

/-- The host's operations before the call, stretch by stretch. -/
abbrev stretches : List (List (HloOp τ sig (Elt F))) :=
  [hostOps0, hostOps0_1, hostOps0_2, hostOps0_3, hostOps0_4, hostOps0_5, hostOps0_6]

/-- The same operations in one line. -/
def hostLine : List (HloOp τ sig (Elt F)) :=
  hostOps0 ++ (hostOps0_1 ++ (hostOps0_2 ++ (hostOps0_3 ++ (hostOps0_4 ++ (hostOps0_5 ++ hostOps0_6)))))

theorem stretches_flatten : (stretches (F := F)).flatten = hostLine := by
  simp only [stretches, List.flatten_cons, List.flatten_nil, List.append_nil]; rfl

variable (m : (ℓ : Loc nD τ sig) → Buf (Elt F) ℓ)

/-- The contents of the buffers when the call starts. -/
def V (c : Dev nD) (b : Ref sig .tc) : Buf (Elt F) ((c : Thread nD τ).loc b) :=
  StableHlo.after (stretches (F := F)).flatten (fun b => m (c, b)) b

theorem V_eq (c : Dev nD) (b : Ref sig .tc) : V m c b = StableHlo.after (hostLine (F := F)) (fun b => m (c, b)) b := by
  unfold V; rw [stretches_flatten]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

/-- The program up to the call is its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh fun c => (main_chain c).trans rfl

/-- One column of flags before the others. -/
def catFirst (a : Vec F S2x1 .i1) (b : Vec F S2x32767 .i1) : Vec F S2x32768 .i1 :=
  concatenate S2x32768 1 [⟨S2x1, a⟩, ⟨S2x32767, b⟩] concatenates_S2x1_S2x32767_S2x32768_d1
/-- One column of flags after the others. -/
def catLast (a : Vec F S2x32767 .i1) (b : Vec F S2x1 .i1) : Vec F S2x32768 .i1 :=
  concatenate S2x32768 1 [⟨S2x32767, a⟩, ⟨S2x1, b⟩] concatenates_S2x32767_S2x1_S2x32768_d1
theorem catFirst_eq (a : Vec F S2x1 .i1) (b : Vec F S2x32767 .i1) :
    concatenate S2x32768 1 [⟨S2x1, a⟩, ⟨S2x32767, b⟩] concatenates_S2x1_S2x32767_S2x32768_d1 = catFirst (F := F) a b := rfl
theorem catLast_eq (a : Vec F S2x32767 .i1) (b : Vec F S2x1 .i1) :
    concatenate S2x32768 1 [⟨S2x32767, a⟩, ⟨S2x1, b⟩] concatenates_S2x32767_S2x1_S2x32768_d1 = catLast (F := F) a b := rfl

/-- Which positions start a segment. -/
def firsts (s : Vec F S2x32768 .i32) : Vec F S2x32768 .i1 :=
  catFirst (F := F) (broadcastInDim S2x1 ![] bcast_S_S2x1 (constantI S_ 1 1#1))
    (cmpi .ne (extractStridedSlice S2x32767 ![0, 1] s slices_S2x32768_S2x32767_0_1) (extractStridedSlice S2x32767 ![0, 0] s slices_S2x32768_S2x32767_0_0))

/-- The number of each position. -/
def places : Vec F S1x32768 .i32 := broadcastInDim S1x32768 ![1] bcast_S32768_S1x32768_1 (iotaInDim S32768 32 0)

/-- The position where a segment starts, zero elsewhere. -/
def startMarks (s : Vec F S2x32768 .i32) : Vec F S2x32768 .i32 :=
  select (firsts s) (broadcastInDim S2x32768 ![0, 1] bcast_S1x32768_S2x32768_0_1 (places (F := F)))
    (broadcastInDim S2x32768 ![] bcast_S_S2x32768 (constantI S_ 32 0#32))

/-- The start of the segment of each position: the running maximum of the marks. -/
def starts (s : Vec F S2x32768 .i32) : Vec F S2x32768 .i32 :=
  Host.reduceWindow IntOp.maxsi ![1, 32768] ![1, 1] ![0, 32767] ![0, 0] (startMarks s)
    (broadcastInDim S_ ![] bcast_S_S_ (constantI S_ 32 2147483648#32)) reduceWindows_S2x32768_S2x32768_w1s1p0_0_w32768s1p32767_0 h_S_

/-- The start of the segment of the first row of each block. -/
def blockStarts (s : Vec F S2x32768 .i32) : Vec F S2x128 .i32 :=
  Host.slice S2x128 ![0, 0] ![1, 256] (starts s) slicesBy_S2x32768_S2x128_0s1_0s256

/-- Which positions end a segment. -/
def lasts (s : Vec F S2x32768 .i32) : Vec F S2x32768 .i1 :=
  catLast (F := F) (extractStridedSlice S2x32767 ![0, 1] (firsts s) slices_S2x32768_S2x32767_0_1)
    (broadcastInDim S2x1 ![] bcast_S_S2x1 (constantI S_ 1 1#1))

/-- One past the position where a segment ends, the length elsewhere. -/
def endMarks (s : Vec F S2x32768 .i32) : Vec F S2x32768 .i32 :=
  select (lasts s) (broadcastInDim S2x32768 ![0, 1] bcast_S1x32768_S2x32768_0_1
      (addi (places (F := F)) (broadcastInDim S1x32768 ![] bcast_S_S1x32768 (constantI S_ 32 1#32))))
    (broadcastInDim S2x32768 ![] bcast_S_S2x32768 (constantI S_ 32 32768#32))

/-- The end of the segment of each position: the running minimum of the marks from the right. -/
def ends (s : Vec F S2x32768 .i32) : Vec F S2x1x32768 .i32 :=
  broadcastInDim S2x1x32768 ![0, 2] bcast_S2x32768_S2x1x32768_0_2
    (Host.reduceWindow IntOp.minsi ![1, 32768] ![1, 1] ![0, 0] ![0, 32767] (endMarks s)
      (broadcastInDim S_ ![] bcast_S_S_ (constantI S_ 32 2147483647#32)) reduceWindows_S2x32768_S2x32768_w1s1p0_0_w32768s1p0_32767 h_S_)

/-- The slope of each head. -/
def slopes : Vec F S8 .f32 :=
  Host.exp (mulf (broadcastInDim S8 ![] bcast_S_S8 (constant S_ .f32 0x3F317218#32))
    (Host.divf (mulf (broadcastInDim S8 ![] bcast_S_S8 (constant S_ .f32 0xC1000000#32))
      (addf (sitofp .f32 (iotaInDim S8 32 0)) (broadcastInDim S8 ![] bcast_S_S8 (constant S_ .f32 0x3F800000#32))))
      (broadcastInDim S8 ![] bcast_S_S8 (constant S_ .f32 0x41000000#32))))

theorem V_arg0 (c : Dev nD) : V m c main_arg0 = m ((c : Thread nD τ).loc main_arg0) := by
  rw [V_eq]; unfold hostLine; after_reads_simp; try rfl
theorem V_arg1 (c : Dev nD) : V m c main_arg1 = m ((c : Thread nD τ).loc main_arg1) := by
  rw [V_eq]; unfold hostLine; after_reads_simp; try rfl
theorem V_arg2 (c : Dev nD) : V m c main_arg2 = m ((c : Thread nD τ).loc main_arg2) := by
  rw [V_eq]; unfold hostLine; after_reads_simp; try rfl
theorem V_arg3 (c : Dev nD) : V m c main_arg3 = m ((c : Thread nD τ).loc main_arg3) := by
  rw [V_eq]; unfold hostLine; after_reads_simp; try rfl
theorem V_arg4 (c : Dev nD) : V m c main_arg4 = m ((c : Thread nD τ).loc main_arg4) := by
  rw [V_eq]; unfold hostLine; after_reads_simp; try rfl
theorem V_arg5 (c : Dev nD) : V m c main_arg5 = m ((c : Thread nD τ).loc main_arg5) := by
  rw [V_eq]; unfold hostLine; after_reads_simp; try rfl
theorem V_arg6 (c : Dev nD) : V m c main_arg6 = m ((c : Thread nD τ).loc main_arg6) := by
  rw [V_eq]; unfold hostLine; after_reads_simp; try rfl
theorem V_v30 (c : Dev nD) : V m c main_v30 = m ((c : Thread nD τ).loc main_v30) := by
  rw [V_eq]; unfold hostLine; after_reads_simp; try rfl

theorem V_v9 (c : Dev nD) : V m c main_v9 = blockStarts (F := F) (m (c, Proc.devRef .tc main_arg6)) := by
  rw [V_eq]; unfold hostLine blockStarts starts startMarks firsts places; after_reads_simp [catFirst_eq (F := F), catLast_eq (F := F)]; simp only [id_eq, StableHlo.TRef.ofBuf_toBuf]; simp only [StableHlo.TRef.ofBuf, StableHlo.TRef.toBuf, cast_eq]
theorem V_v17 (c : Dev nD) : V m c main_v17 = ends (F := F) (m (c, Proc.devRef .tc main_arg6)) := by
  rw [V_eq]; unfold hostLine ends endMarks lasts firsts places; after_reads_simp [catFirst_eq (F := F), catLast_eq (F := F)]; simp only [id_eq, StableHlo.TRef.ofBuf_toBuf]; simp only [StableHlo.TRef.ofBuf, StableHlo.TRef.toBuf, cast_eq]
theorem V_v27 (c : Dev nD) : V m c main_v27 = slopes (F := F) := by
  rw [V_eq]; unfold hostLine slopes; after_reads_simp; try rfl
theorem V_v28 (c : Dev nD) : V m c main_v28 = transpose S2x8x32768 [0, 2, 1] (show Vec F S2x32768x8 .f32 from m ((c : Thread nD τ).loc main_arg4)) transposes_S2x32768x8_S2x8x32768_0_2_1 := by
  rw [V_eq]; unfold hostLine; after_reads_simp; try rfl
theorem V_v29 (c : Dev nD) : V m c main_v29 = transpose S2x8x32768 [0, 2, 1] (show Vec F S2x32768x8 .f32 from m ((c : Thread nD τ).loc main_arg5)) transposes_S2x32768x8_S2x8x32768_0_2_1 := by
  rw [V_eq]; unfold hostLine; after_reads_simp; try rfl

/-- The signed maximum of words, read as integers. -/
theorem toInt_maxsi (x y : BitVec 32) : (IntOp.maxsi x y).toInt = max x.toInt y.toInt := by
  unfold IntOp.maxsi
  split <;> rename_i h <;> simp only [BitVec.slt, decide_eq_true_eq, not_lt] at h <;> omega

/-- The signed minimum of words, read as integers. -/
theorem toInt_minsi (x y : BitVec 32) : (IntOp.minsi x y).toInt = min x.toInt y.toInt := by
  unfold IntOp.minsi
  split <;> rename_i h <;> simp only [BitVec.slt, decide_eq_true_eq, not_lt] at h <;> omega

/-- A running maximum is below a bound exactly when everything it runs over is. -/
theorem foldl_maxsi_lt {ι : Type} (g : ι → BitVec 32) (b : ℤ) (l : List ι) : ∀ r : BitVec 32,
    (l.foldl (fun r n => IntOp.maxsi r (g n)) r).toInt < b ↔ r.toInt < b ∧ ∀ n ∈ l, (g n).toInt < b := by
  induction l with
  | nil => intro r; simp
  | cons a l ih => intro r; rw [List.foldl_cons, ih, toInt_maxsi, max_lt_iff, List.forall_mem_cons, and_assoc]

/-- A running minimum is above a bound exactly when everything it runs over is. -/
theorem lt_foldl_minsi {ι : Type} (g : ι → BitVec 32) (b : ℤ) (l : List ι) : ∀ r : BitVec 32,
    b < (l.foldl (fun r n => IntOp.minsi r (g n)) r).toInt ↔ b < r.toInt ∧ ∀ n ∈ l, b < (g n).toInt := by
  induction l with
  | nil => intro r; simp
  | cons a l ih => intro r; rw [List.foldl_cons, ih, toInt_minsi, lt_min_iff, List.forall_mem_cons, and_assoc]

/-- The place of a batch and a position. -/
abbrev at2 (b : Fin 2) (p : Fin 32768) : S2x32768.Idx := ix2 b p

/-- Each place of the window has its number in the row-major order. -/
theorem window_slot (k : Fin 32768) : ∃ n : Fin (⟨2, ![1, 32768]⟩ : Shape).numel,
    ((⟨2, ![1, 32768]⟩ : Shape).rowMajor.symm n 0).val = 0 ∧ ((⟨2, ![1, 32768]⟩ : Shape).rowMajor.symm n 1).val = k.val :=
  ⟨(⟨2, ![1, 32768]⟩ : Shape).rowMajor (ix2 (0 : Fin 1) k), by rw [Equiv.symm_apply_apply]; rfl, by rw [Equiv.symm_apply_apply]; rfl⟩

/-- The start of a position's segment is below a bound exactly when every mark up to the position is. -/
theorem starts_lt (s : Vec F S2x32768 .i32) (b : Fin 2) (p : Fin 32768) (B : ℤ) (hB : -2147483648 < B) :
    (starts (F := F) s (at2 b p)).toInt < B ↔ ∀ q : Fin 32768, q ≤ p → (startMarks (F := F) s (at2 b q)).toInt < B := by
  have hp := p.isLt
  have hb := b.isLt
  unfold starts Host.reduceWindow
  dsimp only
  rw [foldl_maxsi_lt]
  have hi : (broadcastInDim S_ ![] bcast_S_S_ (constantI S_ 32 2147483648#32) (Shape.Idx.first (s := S_) h_S_) : BitVec 32).toInt < B := by
    show (2147483648#32 : BitVec 32).toInt < B
    rw [show (2147483648#32 : BitVec 32).toInt = -2147483648 from by decide]; exact hB
  constructor
  · rintro ⟨-, h⟩ q hq
    have hq' : q.val ≤ p.val := hq
    obtain ⟨n, hn0, hn1⟩ := window_slot (⟨32767 - (p.val - q.val), by omega⟩ : Fin 32768)
    have := h n (List.mem_finRange _)
    rw [dif_pos] at this
    · refine lt_of_eq_of_lt (congrArg (fun i => (startMarks (F := F) s i).toInt) (funext fun a => Fin.ext ?_)) this
      match a with
      | ⟨0, _⟩ => show b.val = b.val * 1 + ((⟨2, ![1, 32768]⟩ : Shape).rowMajor.symm n 0).val - 0; omega
      | ⟨1, _⟩ => show q.val = p.val * 1 + ((⟨2, ![1, 32768]⟩ : Shape).rowMajor.symm n 1).val - 32767; rw [hn1]; dsimp only; omega
    · intro a
      match a with
      | ⟨0, _⟩ => exact ⟨Nat.zero_le _, (by show b.val * 1 + ((⟨2, ![1, 32768]⟩ : Shape).rowMajor.symm n 0).val - 0 < 2; omega)⟩
      | ⟨1, _⟩ => exact ⟨(by show 32767 ≤ p.val * 1 + ((⟨2, ![1, 32768]⟩ : Shape).rowMajor.symm n 1).val; rw [hn1]; dsimp only; omega), (by show p.val * 1 + ((⟨2, ![1, 32768]⟩ : Shape).rowMajor.symm n 1).val - 32767 < 32768; rw [hn1]; dsimp only; omega)⟩
  · refine fun h => ⟨hi, fun n _ => ?_⟩
    split
    · rename_i hin
      have h0 := (hin 0)
      have h1 := (hin 1)
      have hn0 := ((⟨2, ![1, 32768]⟩ : Shape).rowMajor.symm n 0).isLt
      have hn1 := ((⟨2, ![1, 32768]⟩ : Shape).rowMajor.symm n 1).isLt
      change _ < 1 at hn0
      change _ < 32768 at hn1
      change 32767 ≤ p.val * 1 + ((⟨2, ![1, 32768]⟩ : Shape).rowMajor.symm n 1).val ∧ p.val * 1 + ((⟨2, ![1, 32768]⟩ : Shape).rowMajor.symm n 1).val - 32767 < 32768 at h1
      have := h ⟨p.val * 1 + ((⟨2, ![1, 32768]⟩ : Shape).rowMajor.symm n 1).val - 32767, h1.2⟩ (by show _ ≤ p.val; dsimp only; omega)
      refine lt_of_eq_of_lt (congrArg (fun i => (startMarks (F := F) s i).toInt) (funext fun a => Fin.ext ?_)) this
      match a with
      | ⟨0, _⟩ => show b.val * 1 + ((⟨2, ![1, 32768]⟩ : Shape).rowMajor.symm n 0).val - 0 = b.val; omega
      | ⟨1, _⟩ => rfl
    · exact hi

/-- The end of a key's segment is above a bound exactly when every mark from the key on is. -/
theorem lt_ends (s : Vec F S2x32768 .i32) (b : Fin 2) (p : Fin 32768) (B : ℤ) (hB : B < 2147483647) :
    B < (ends (F := F) s (ix3 b (0 : Fin 1) p)).toInt ↔ ∀ q : Fin 32768, p ≤ q → B < (endMarks (F := F) s (at2 b q)).toInt := by
  have hp := p.isLt
  have hb := b.isLt
  have he : ends (F := F) s (ix3 b (0 : Fin 1) p) = (Host.reduceWindow IntOp.minsi ![1, 32768] ![1, 1] ![0, 0] ![0, 32767] (endMarks (F := F) s)
      (broadcastInDim S_ ![] bcast_S_S_ (constantI S_ 32 2147483647#32)) reduceWindows_S2x32768_S2x32768_w1s1p0_0_w32768s1p0_32767 h_S_ : IVec S2x32768 32) (at2 b p) := by
    unfold ends broadcastInDim
    refine congrArg _ (funext fun a => Fin.ext ?_)
    match a with
    | ⟨0, _⟩ => rfl
    | ⟨1, _⟩ => rfl
  rw [he]
  unfold Host.reduceWindow
  dsimp only
  rw [lt_foldl_minsi]
  have hi : B < (broadcastInDim S_ ![] bcast_S_S_ (constantI S_ 32 2147483647#32) (Shape.Idx.first (s := S_) h_S_) : BitVec 32).toInt := by
    show B < (2147483647#32 : BitVec 32).toInt
    rw [show (2147483647#32 : BitVec 32).toInt = 2147483647 from by decide]; exact hB
  constructor
  · rintro ⟨-, h⟩ q hq
    have hq' : p.val ≤ q.val := hq
    have hql := q.isLt
    obtain ⟨n, hn0, hn1⟩ := window_slot (⟨q.val - p.val, by omega⟩ : Fin 32768)
    have := h n (List.mem_finRange _)
    rw [dif_pos] at this
    · refine lt_of_lt_of_eq this (congrArg (fun i => (endMarks (F := F) s i).toInt) (funext fun a => Fin.ext ?_))
      match a with
      | ⟨0, _⟩ => show b.val * 1 + ((⟨2, ![1, 32768]⟩ : Shape).rowMajor.symm n 0).val - 0 = b.val; omega
      | ⟨1, _⟩ => show p.val * 1 + ((⟨2, ![1, 32768]⟩ : Shape).rowMajor.symm n 1).val - 0 = q.val; rw [hn1]; dsimp only; omega
    · intro a
      match a with
      | ⟨0, _⟩ => exact ⟨Nat.zero_le _, (by show b.val * 1 + ((⟨2, ![1, 32768]⟩ : Shape).rowMajor.symm n 0).val - 0 < 2; omega)⟩
      | ⟨1, _⟩ => exact ⟨Nat.zero_le _, (by show p.val * 1 + ((⟨2, ![1, 32768]⟩ : Shape).rowMajor.symm n 1).val - 0 < 32768; rw [hn1]; dsimp only; omega)⟩
  · refine fun h => ⟨hi, fun n _ => ?_⟩
    split
    · rename_i hin
      have h1 := (hin 1)
      have hn0 := ((⟨2, ![1, 32768]⟩ : Shape).rowMajor.symm n 0).isLt
      change _ < 1 at hn0
      change 0 ≤ p.val * 1 + ((⟨2, ![1, 32768]⟩ : Shape).rowMajor.symm n 1).val ∧ p.val * 1 + ((⟨2, ![1, 32768]⟩ : Shape).rowMajor.symm n 1).val - 0 < 32768 at h1
      have := h ⟨p.val * 1 + ((⟨2, ![1, 32768]⟩ : Shape).rowMajor.symm n 1).val - 0, h1.2⟩ (by show p.val ≤ _; dsimp only; omega)
      refine lt_of_lt_of_eq this (congrArg (fun i => (endMarks (F := F) s i).toInt) (funext fun a => Fin.ext ?_)).symm
      match a with
      | ⟨0, _⟩ => show b.val * 1 + ((⟨2, ![1, 32768]⟩ : Shape).rowMajor.symm n 0).val - 0 = b.val; omega
      | ⟨1, _⟩ => rfl
    · exact hi

/-- The number of a position, as a word. -/
theorem places_at (q : Fin 32768) : places (F := F) (ix2 (0 : Fin 1) q) = BitVec.ofNat 32 q.val := rfl

/-- A mark is the position where a segment starts there and zero elsewhere. -/
theorem startMarks_at (s : Vec F S2x32768 .i32) (b : Fin 2) (q : Fin 32768) :
    startMarks (F := F) s (at2 b q) = if firsts (F := F) s (at2 b q) = 1#1 then BitVec.ofNat 32 q.val else 0#32 := by
  unfold startMarks select; rfl

/-- A mark is one past the position where a segment ends there and the length elsewhere. -/
theorem endMarks_at (s : Vec F S2x32768 .i32) (b : Fin 2) (q : Fin 32768) :
    endMarks (F := F) s (at2 b q) = if lasts (F := F) s (at2 b q) = 1#1 then BitVec.ofNat 32 q.val + 1#32 else 32768#32 := by
  unfold endMarks select; rfl

theorem toInt_ofNat {n : ℕ} (h : n < 2147483648) : (BitVec.ofNat 32 n).toInt = n := by
  rw [BitVec.toInt_eq_toNat_cond, BitVec.toNat_ofNat, Nat.mod_eq_of_lt (by omega), if_pos (by omega)]

/-- The start of a block's first row. -/
theorem blockStarts_at (s : Vec F S2x32768 .i32) (b : Fin 2) (k : Fin 128) :
    blockStarts (F := F) s (ix2 b k) = starts (F := F) s (at2 b ⟨256 * k.val, by have := k.isLt; omega⟩) := by
  unfold blockStarts Host.slice
  refine congrArg _ (funext fun a => Fin.ext ?_)
  match a with
  | ⟨0, _⟩ => show 0 + 1 * b.val = b.val; omega
  | ⟨1, _⟩ => show 0 + 256 * k.val = 256 * k.val; omega

/-- Every start word is a nonnegative number. -/
theorem blockStarts_lt (s : Vec F S2x32768 .i32) (j : S2x128.Idx) : (blockStarts (F := F) s j).toNat < 2 ^ 31 := by
  obtain ⟨b, k, rfl⟩ : ∃ b k, j = ix2 b k := ⟨j 0, j 1, funext fun a => by match a with | ⟨0, _⟩ => rfl | ⟨1, _⟩ => rfl⟩
  rw [blockStarts_at]
  set p : Fin 32768 := ⟨256 * k.val, by have := k.isLt; omega⟩
  have hn : ¬ (starts (F := F) s (at2 b p)).toInt < 0 := by
    rw [starts_lt s b p 0 (by decide)]
    intro h
    have := h p le_rfl
    rw [startMarks_at] at this
    split at this
    · rw [toInt_ofNat (by have := p.isLt; omega)] at this; omega
    · exact absurd this (by decide)
  rw [BitVec.toInt_eq_toNat_cond] at hn
  have := (starts (F := F) s (at2 b p)).isLt
  split at hn <;> omega

end

end Cert.KernelIdeal.Gen

end
-- ==== Proof.Run.lean ====
module

public import proofs.«01_k».proof.Proof.Body
public import proofs.«01_k».proof.Proof.Host

/-! # The run of the attention program

The host operations hand their arrays to the call, and every point of its grid runs the body of `sound_kernel` on the
blocks of those arrays. So the program terminates, leaves its arguments as they were, and its result holds what
`outBlock` says, block by block. -/

@[expose] public section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

noncomputable section

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The start words, as the call finds them. -/
def table (c : Dev nD) : Vec F S2x128 .i32 := V m c main_v9

theorem table_eq (c : Dev nD) : table m c = blockStarts (F := F) (m (c, Proc.devRef .tc main_arg6)) := V_v9 m c

theorem table_lt (c : Dev nD) (j : S2x128.Idx) : (table m c j).toNat < 2 ^ 31 := by
  rw [table_eq]; exact blockStarts_lt _ j

theorem table_chk (c : Dev nD) (i : grid0.Coords) (j : S2x128.Idx) : k0_chk1 i (table m c j) := by
  have h := chk1_of_nonneg i (table_lt m c j)
  rwa [BitVec.ofNat_toNat, BitVec.setWidth_eq] at h

/-- The prefetched tables at their contents. -/
def adm : (p : Fin 1) → (pcfgs (F := F) p).Adm := fun _ => ⟨fun k => V m 0 (pre0.ref k), trivial⟩

/-- The pipeline at those tables. -/
abbrev cfgA : Cfg sig Λ₀ := cfg0 (adm m 0)

/-- Window `w`'s block at point `t`, read off its array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- What point `t` reads. -/
def blkAt (c : Dev nD) (t : Fin (cfgA m).N) : Blk F (grid0.coords t) :=
  blk (grid0.coords t) (table m c) (iblk m c 0 t) (iblk m c 1 t) (iblk m c 2 t) (iblk m c 3 t) (iblk m c 4 t) (iblk m c 5 t) (iblk m c 6 t) (iblk m c 7 t) (table_chk m c (grid0.coords t))

/-- The proof data of the pipeline: each input's buffer at its block, the output's at the block the body computes. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (blkAt m c t)
  Φ _ := iprop(Pipeline.ΦA spec0 c ∗ Pipeline.ΦT pre0 (adm m 0).1 c)
  q _ := fullShare
  owed _ := 0

theorem A_eq (c : Dev nD) (w : Fin (cfgA m).W) : (dats m 0 c).A w = V m c (Pipeline.arrRef spec0 w) := by
  dsimp only [dats]

theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = iblk m c 2 t := by dsimp only [dats]; rfl
theorem after0_3 (c : Dev nD) (t : Fin (cfgA m).N) : (dats m 0 c).after 3 t = iblk m c 3 t := by dsimp only [dats]; rfl
theorem after0_4 (c : Dev nD) (t : Fin (cfgA m).N) : (dats m 0 c).after 4 t = iblk m c 4 t := by dsimp only [dats]; rfl
theorem after0_5 (c : Dev nD) (t : Fin (cfgA m).N) : (dats m 0 c).after 5 t = iblk m c 5 t := by dsimp only [dats]; rfl
theorem after0_6 (c : Dev nD) (t : Fin (cfgA m).N) : (dats m 0 c).after 6 t = iblk m c 6 t := by dsimp only [dats]; rfl
theorem after0_7 (c : Dev nD) (t : Fin (cfgA m).N) : (dats m 0 c).after 7 t = iblk m c 7 t := by dsimp only [dats]; rfl
theorem after0_8 (c : Dev nD) (t : Fin (cfgA m).N) : (dats m 0 c).after 8 t = outBlock (blkAt m c t) := by dsimp only [dats]; rfl
theorem before0_0 (c : Dev nD) (t : Fin (cfgA m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin (cfgA m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin (cfgA m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin (cfgA m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin (cfgA m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin (cfgA m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin (cfgA m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin (cfgA m).N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
abbrev st0_0 (t : Fin (cfgA m).N) := ((cfgA m).win 0).stage ((cfgA m).slots t 0)
abbrev st0_1 (t : Fin (cfgA m).N) := ((cfgA m).win 1).stage ((cfgA m).slots t 1)
abbrev st0_2 (t : Fin (cfgA m).N) := ((cfgA m).win 2).stage ((cfgA m).slots t 2)
abbrev st0_3 (t : Fin (cfgA m).N) := ((cfgA m).win 3).stage ((cfgA m).slots t 3)
abbrev st0_4 (t : Fin (cfgA m).N) := ((cfgA m).win 4).stage ((cfgA m).slots t 4)
abbrev st0_5 (t : Fin (cfgA m).N) := ((cfgA m).win 5).stage ((cfgA m).slots t 5)
abbrev st0_6 (t : Fin (cfgA m).N) := ((cfgA m).win 6).stage ((cfgA m).slots t 6)
abbrev st0_7 (t : Fin (cfgA m).N) := ((cfgA m).win 7).stage ((cfgA m).slots t 7)
abbrev st0_8 (t : Fin (cfgA m).N) := ((cfgA m).win 8).stage ((cfgA m).slots t 8)

/-- The body at point `t`, on what the pipeline calls it with. -/
abbrev bodyAt0 (t : Fin (cfgA m).N) : Prog (TpuEff nD τ sig (Elt F) Λ₀ .tc) PUnit :=
  cc0_attention (grid0.coords t) (Memref.whole main_v9) (Memref.isWhole_whole _) (st0_0 m t) (hstage0_0 (((cfgA m).slots t 0).cast nbuf0_0)) (st0_1 m t) (hstage0_1 (((cfgA m).slots t 1).cast nbuf0_1)) (st0_2 m t) (hstage0_2 (((cfgA m).slots t 2).cast nbuf0_2)) (st0_3 m t) (hstage0_3 (((cfgA m).slots t 3).cast nbuf0_3)) (st0_4 m t) (hstage0_4 (((cfgA m).slots t 4).cast nbuf0_4)) (st0_5 m t) (hstage0_5 (((cfgA m).slots t 5).cast nbuf0_5)) (st0_6 m t) (hstage0_6 (((cfgA m).slots t 6).cast nbuf0_6)) (st0_7 m t) (hstage0_7 (((cfgA m).slots t 7).cast nbuf0_7)) (st0_8 m t) (hstage0_8 (((cfgA m).slots t 8).cast nbuf0_8)) (Memref.whole cc0_scratch0) (Memref.isWhole_whole _)

/-- What the body is called with at point `t`, -/
def bodyPre (c : Dev nD) (t : Fin (cfgA m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d))
    ∗ (∃ d, owns (c : Thread nD τ) (st0_6 m t) fullShare ((dats m 0 c).before 6 t d))
    ∗ (∃ d, owns (c : Thread nD τ) (st0_7 m t) fullShare ((dats m 0 c).before 7 t d))
    ∗ (∃ d, owns (c : Thread nD τ) (st0_8 m t) fullShare ((dats m 0 c).before 8 t d)))

/-- and what it returns. -/
def bodyPost (c : Dev nD) (t : Fin (cfgA m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t)
    ∗ owns (c : Thread nD τ) (st0_6 m t) fullShare ((dats m 0 c).after 6 t)
    ∗ owns (c : Thread nD τ) (st0_7 m t) fullShare ((dats m 0 c).after 7 t)
    ∗ owns (c : Thread nD τ) (st0_8 m t) fullShare ((dats m 0 c).after 8 t))

attribute [local irreducible] V in
/-- The held table is the whole of its buffer, to read. -/
theorem held_table (c : Dev nD) : (Pipeline.ΦT pre0 (adm m 0).1 c : sProp 𝕄) = owns (c : Thread nD τ) (Memref.whole main_v9) fullShare.right (table m c) := by
  rw [owns_whole]
  unfold Pipeline.ΦT Pipeline.prefHeld
  rw [bigSep_univ_eq_bigSepL [(0 : Fin 1)] (by decide) (by decide)]
  obtain rfl : c = 0 := Subsingleton.elim _ _
  unfold table adm
  dsimp only
  change (((0 : Dev nD) : Thread nD τ).loc main_v9 ↦{fullShare.right} V m 0 main_v9 : sProp 𝕄) = _
  exact Eq.refl _

/-- The scratch buffer, at any contents. -/
theorem held_scratch (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

/-- The body at any point. -/
theorem sound_body (c : Dev nD) (t : Fin (cfgA m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7]
  rw [show (dats m 0 c).Φ t.succ = iprop(Pipeline.ΦA spec0 c ∗ Pipeline.ΦT pre0 (adm m 0).1 c) from rfl,
    show (dats m 0 c).Φ t.castSucc = iprop(Pipeline.ΦA spec0 c ∗ Pipeline.ΦT pre0 (adm m 0).1 c) from rfl,
    show (dats m 0 c).owesAt () t.succ = (dats m 0 c).owesAt () t.castSucc from rfl,
    held_table, held_scratch, after0_0, after0_1, after0_2, after0_3, after0_4, after0_5, after0_6, after0_7, after0_8]
  iintro ⟨⟨⟨Hs, Hr⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ (table m c) (iblk m c 0 t) (iblk m c 1 t) (iblk m c 2 t) (iblk m c 3 t) (iblk m c 4 t) (iblk m c 5 t) (iblk m c 6 t) (iblk m c 7 t) (table_chk m c (grid0.coords t)) (table_lt m c) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs]; · iexact Hs
  iintro ⟨Ht, H0, H1, H2, H3, H4, H5, H6, H7, H8, Hs⟩
  isplitl [Hs Hr Ht]
  · isplitl [Hs Hr]
    · isplitl [Hs]; · iexact Hs
      iexact Hr
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem defs₀_row (t : Fin (cfgA m).N) :
    defs₀ (F := F) .tc (cfgA m).body ((cfgA m).bodyArgs t ((cfgA m).slots t)) = bodyAt0 m t := by
  unfold defs₀; rw [Defs.onTc_tc]; rfl

/-- The library's body obligation, at every point. -/
theorem body_obligation (c : Dev nD) : BodyObligation (dats (F := F) m 0 c) (defs₀ (F := F)) Variants.none () Set.univ := fun t => by
  rw [defs₀_row]
  refine triple_restated (sound_body m c t) rfl ?_ fun _ => ?_
  · change iprop((dats m 0 c).Φ t.castSucc ∗ (dats m 0 c).owesAt () t.castSucc ∗ bigSep (Finset.univ : Finset (Fin 9)) _) ⊢ _
    rw [bigSep_W0]
    exact .rfl
  · change _ ⊢ iprop((dats m 0 c).Φ t.succ ∗ (dats m 0 c).owesAt () t.succ ∗ bigSep (Finset.univ : Finset (Fin 9)) _)
    rw [bigSep_W0]
    exact .rfl

set_option backward.isDefEq.respectTransparency.types false in
set_option maxHeartbeats 800000 in
/-- The program terminates with its arrays at what the proof data says and every semaphore at zero. -/
theorem run_main_quiescent : θ_run defs (onTc (τ := τ) (main (F := F))) (s₀ m ρ) (fun r => (Pipeline.FramePost (Pipeline.pin pcfgs (adm m)) (dats m) 0 (V m)) r ∧ r.2.sem = fun _ => 0) :=
  Pipeline.θ_run_frameP (Q' := _) pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hΦ := fun _ _ => rfl)

/-- Every argument keeps its contents and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1 c).1 1).trans (((dats m 0 c).arrAt_in 1 rfl _).trans ((A_eq m c 1).trans (V_arg0 m c))),
      ((h.1 c).1 2).trans (((dats m 0 c).arrAt_in 2 rfl _).trans ((A_eq m c 2).trans (V_arg1 m c))),
      ((h.1 c).1 3).trans (((dats m 0 c).arrAt_in 3 rfl _).trans ((A_eq m c 3).trans (V_arg2 m c))),
      ((h.1 c).1 4).trans (((dats m 0 c).arrAt_in 4 rfl _).trans ((A_eq m c 4).trans (V_arg3 m c))),
      ((h.1 c).2 main_arg4 (Pipeline.mem_restRefs_of main_arg4 (by decide) (by exact (by decide : ∀ w : Fin 9, (spec0 w).arr.view.ref ≠ main_arg4)))).trans (V_arg4 m c),
      ((h.1 c).2 main_arg5 (Pipeline.mem_restRefs_of main_arg5 (by decide) (by exact (by decide : ∀ w : Fin 9, (spec0 w).arr.view.ref ≠ main_arg5)))).trans (V_arg5 m c),
      ((h.1 c).2 main_arg6 (Pipeline.mem_restRefs_of main_arg6 (by decide) (by exact (by decide : ∀ w : Fin 9, (spec0 w).arr.view.ref ≠ main_arg6)))).trans (V_arg6 m c)⟩, h.2⟩) (run_main_quiescent m ρ)

end

end Cert.KernelIdeal.Gen

end
-- ==== Proof.BitsWords.lean ====
module

public import proofs.«01_k».proof.Proof.Gen.Kernel
public import Idealize.ShloMosaic.Lib.LoopRemainder
public import Idealize.ShloMosaic.Lib.Routing.Words
public import Idealize.ShloMosaic.Lib.Affine

/-!
The chunk counts and offsets of the attention kernel as numbers: the first chunk that a block of queries reads is the
start word divided by 512, the chunk after the last one is `(256 * block + 256 + 511) / 512`, and every offset that
the two loops compute is a chunk number, or 512 times a chunk number.
-/

@[expose] public section

set_option maxRecDepth 16384

namespace Cert.Kernel.Gen

open Idealize.ShloMosaic

/-- The quotient by 512 as the kernel computes it: the machine's quotient, lowered by one where the signs differ and
    the remainder is not zero. -/
def fdiv (x : BitVec 32) : BitVec 32 :=
  Scalar.select (Scalar.andi (Scalar.cmpi .ne
      (Scalar.subi (Scalar.extui (Scalar.cmpi .sgt x 0#32) : BitVec 32) (Scalar.extui (Scalar.cmpi .slt x 0#32)))
      (Scalar.subi (Scalar.extui (Scalar.cmpi .sgt 512#32 0#32) : BitVec 32) (Scalar.extui (Scalar.cmpi .slt 512#32 0#32))))
      (Scalar.cmpi .ne (Scalar.remsi x 512#32) 0#32))
    (Scalar.subi (Scalar.divsi x 512#32) 1#32) (Scalar.divsi x 512#32)

/-- On a small natural number it is the quotient of the numbers. -/
theorem fdiv_ofNat {n : ℕ} (hn : n < 2 ^ 31) : fdiv (BitVec.ofNat 32 n) = BitVec.ofNat 32 (n / 512) := by
  have hd : Scalar.divsi (BitVec.ofNat 32 n) 512#32 = BitVec.ofNat 32 (n / 512) :=
    Routing.divsi_word _ hn (by norm_num) (by norm_num)
  have hr : Scalar.remsi (BitVec.ofNat 32 n) 512#32 = BitVec.ofNat 32 (n % 512) :=
    Routing.remsi_word _ hn (by norm_num) (by norm_num)
  unfold fdiv
  rw [hd, hr]
  rcases Nat.eq_zero_or_pos n with h | h
  · subst h; decide
  · have h1 : Scalar.cmpi .sgt (BitVec.ofNat 32 n) 0#32 = 1#1 := by
      show BitVec.ofBool ((0#32 : BitVec 32).slt (BitVec.ofNat 32 n)) = 1#1
      have : (0#32 : BitVec 32).slt (BitVec.ofNat 32 n) = true := by
        rw [BitVec.slt_iff_toInt_lt, BitVec.toInt_eq_toNat_of_lt (x := BitVec.ofNat 32 n) (by simp; omega)]
        simp; omega
      rw [this]; rfl
    have h2 : Scalar.cmpi .slt (BitVec.ofNat 32 n) 0#32 = 0#1 := by
      show BitVec.ofBool ((BitVec.ofNat 32 n).slt 0#32) = 0#1
      have : (BitVec.ofNat 32 n).slt 0#32 = false := by
        rw [Bool.eq_false_iff, ne_eq, BitVec.slt_iff_toInt_lt, BitVec.toInt_eq_toNat_of_lt (x := BitVec.ofNat 32 n) (by simp; omega)]
        simp
        omega
      rw [this]; rfl
    rw [h1, h2]
    have h3 : ∀ e : BitVec 1, Scalar.andi (Scalar.cmpi .ne
      (Scalar.subi (Scalar.extui 1#1 : BitVec 32) (Scalar.extui 0#1))
      (Scalar.subi (Scalar.extui (Scalar.cmpi .sgt 512#32 0#32) : BitVec 32) (Scalar.extui (Scalar.cmpi .slt 512#32 0#32)))) e = 0#1 := by decide
    rw [h3]; rfl

/-- The chunk after the last one that query block `b` reads. -/
def hiChunk (b : ℕ) : ℕ := (256 * b + 767) / 512

theorem loop1_eq (i : grid0.Coords) {n : ℕ} (hn : n < 2 ^ 31) :
    k0_t1_loop i (BitVec.ofNat 32 n) = ⟨BitVec.ofNat 32 (n / 512), BitVec.ofNat 32 (hiChunk (i 2).val), 1#32⟩ := by
  have hi : (i 2).val < 128 := (i 2).isLt
  have e : Scalar.subi (Scalar.addi (Scalar.addi (Scalar.muli (BitVec.ofNat 32 (i 2).val) 256#32) 256#32) 512#32) 1#32
      = BitVec.ofNat 32 (256 * (i 2).val + 767) := by
    apply BitVec.eq_of_toNat_eq
    simp [Scalar.subi, Scalar.addi, Scalar.muli, IntOp.subi, IntOp.addi, IntOp.muli, BitVec.toNat_sub, BitVec.toNat_add, BitVec.toNat_mul]
    omega
  have h0 : k0_t1_loop i (BitVec.ofNat 32 n)
      = ⟨fdiv (BitVec.ofNat 32 n), Scalar.addi (fdiv (BitVec.ofNat 32 n)) (Scalar.muli (Scalar.divsi (Scalar.subi (fdiv
          (Scalar.subi (Scalar.addi (Scalar.addi (Scalar.muli (BitVec.ofNat 32 (i 2).val) 256#32) 256#32) 512#32) 1#32))
          (fdiv (BitVec.ofNat 32 n))) 1#32) 1#32), 1#32⟩ := rfl
  rw [h0, e, fdiv_ofNat hn, fdiv_ofNat (by omega), Scalar.muli_divsi_one]
  congr 1
  simp [Scalar.addi, Scalar.subi, IntOp.addi, IntOp.subi, hiChunk]

theorem loop3_eq (i : grid0.Coords) (w : BitVec 32) : k0_t3_loop i w = k0_t1_loop i w := rfl

theorem trips1_eq (i : grid0.Coords) {n : ℕ} (hn : n < 2 ^ 31) :
    (k0_t1_loop i (BitVec.ofNat 32 n)).trips = hiChunk (i 2).val - n / 512 := by
  have hi : (i 2).val < 128 := (i 2).isLt
  rw [loop1_eq i hn]
  unfold hiChunk
  show Scf.trips _ _ _ = _
  unfold Scf.trips
  rw [BitVec.toInt_eq_toNat_of_lt (by simp; omega), BitVec.toInt_eq_toNat_of_lt (by simp; omega)]
  simp
  omega

/-- The induction variable of trip `k`, as a number. -/
theorem iv1_toNat (i : grid0.Coords) {n : ℕ} (hn : n < 2 ^ 31) (k : Fin (k0_t1_loop i (BitVec.ofNat 32 n)).trips) :
    Scf.iv (fdiv (BitVec.ofNat 32 n)) 1#32 k = BitVec.ofNat 32 (n / 512 + k) := by
  rw [fdiv_ofNat hn]
  unfold Scf.iv
  simp [BitVec.ofNat_add]

/-- The chunk of trip `k` is one of the 64. -/
theorem chunk_lt (i : grid0.Coords) {n : ℕ} (hn : n < 2 ^ 31) (k : Fin (k0_t1_loop i (BitVec.ofNat 32 n)).trips) :
    n / 512 + k.val < 64 := by
  have := lt_of_lt_of_eq k.isLt (trips1_eq i hn)
  have hi : (i 2).val < 128 := (i 2).isLt
  unfold hiChunk at this
  omega

theorem idx_mul {c : ℕ} (hc : c < 64) : (Scalar.indexCast (Scalar.muli (BitVec.ofNat 32 c) 512#32) : Index).toNat = 512 * c := by
  simp [Scalar.indexCast, Scalar.muli, IntOp.muli]
  omega

theorem idx_head (h : ℕ) (this : h < 8) : (Scalar.indexCast (BitVec.ofNat 32 h) : Index).toNat = h := by
  simp [Scalar.indexCast]
  omega

theorem off3_eq (i : grid0.Coords) {n : ℕ} (hn : n < 2 ^ 31) (k : Fin (k0_t1_loop i (BitVec.ofNat 32 n)).trips) :
    k0_off3 i (BitVec.ofNat 32 n) k = ![0, 0, 512 * (n / 512 + k), 0] := by
  have h : k0_off3 i (BitVec.ofNat 32 n) k = ![0, 0, (Scalar.indexCast (Scalar.muli (Scf.iv (fdiv (BitVec.ofNat 32 n)) 1#32 k) 512#32) : Index).toNat, 0] := rfl
  rw [h, iv1_toNat i hn, idx_mul (chunk_lt i hn k)]

theorem off4_eq (i : grid0.Coords) {n : ℕ} (hn : n < 2 ^ 31) (k : Fin (k0_t1_loop i (BitVec.ofNat 32 n)).trips) :
    k0_off4 i (BitVec.ofNat 32 n) k = ![0, (i 1).val, 512 * (n / 512 + k)] := by
  have h : k0_off4 i (BitVec.ofNat 32 n) k = ![0, (Scalar.indexCast (BitVec.ofNat 32 (i 1).val) : Index).toNat, (Scalar.indexCast (Scalar.muli (Scf.iv (fdiv (BitVec.ofNat 32 n)) 1#32 k) 512#32) : Index).toNat] := rfl
  rw [h, iv1_toNat i hn, idx_mul (chunk_lt i hn k), idx_head _ (show (i 1).val < 8 from (i 1).isLt)]

theorem off5_eq (i : grid0.Coords) {n : ℕ} (hn : n < 2 ^ 31) (k : Fin (k0_t1_loop i (BitVec.ofNat 32 n)).trips) :
    k0_off5 i (BitVec.ofNat 32 n) k = ![0, 0, 512 * (n / 512 + k)] := by
  have h : k0_off5 i (BitVec.ofNat 32 n) k = ![0, 0, (Scalar.indexCast (Scalar.muli (Scf.iv (fdiv (BitVec.ofNat 32 n)) 1#32 k) 512#32) : Index).toNat] := rfl
  rw [h, iv1_toNat i hn, idx_mul (chunk_lt i hn k)]

theorem off6_eq (i : grid0.Coords) {n : ℕ} (hn : n < 2 ^ 31) (k : Fin (k0_t1_loop i (BitVec.ofNat 32 n)).trips) :
    k0_off6 i (BitVec.ofNat 32 n) k = ![n / 512 + k, 0, 0] := by
  have h : k0_off6 i (BitVec.ofNat 32 n) k = ![(Scalar.indexCast (Scf.iv (fdiv (BitVec.ofNat 32 n)) 1#32 k) : Index).toNat, 0, 0] := rfl
  have := chunk_lt i hn k
  rw [h, iv1_toNat i hn]
  congr 1
  simp [Scalar.indexCast]
  omega

theorem off11_eq (i : grid0.Coords) (w : BitVec 32) (k : Fin (k0_t1_loop i w).trips) : k0_off11 i w k = k0_off4 i w k := rfl
theorem off12_eq (i : grid0.Coords) (w : BitVec 32) (k : Fin (k0_t1_loop i w).trips) : k0_off12 i w k = k0_off6 i w k := rfl
theorem off13_eq (i : grid0.Coords) (w : BitVec 32) (k : Fin (k0_t1_loop i w).trips) : k0_off13 i w k = k0_off3 i w k := rfl

theorem loop2_trips (i : grid0.Coords) (w : BitVec 32) : (k0_t2_loop i w).trips = 0 := Scf.rem_trips _ _
theorem loop4_trips (i : grid0.Coords) (w : BitVec 32) : (k0_t4_loop i w).trips = 0 := Scf.rem_trips _ _

theorem loop1_ok (i : grid0.Coords) {n : ℕ} (hn : n < 2 ^ 31) : (k0_t1_loop i (BitVec.ofNat 32 n)).OK := by
  have ht := trips1_eq i hn
  have hi : (i 2).val < 128 := (i 2).isLt
  unfold hiChunk at ht
  unfold Scf.Loop.trips at ht
  unfold Scf.Loop.OK Scf.OK
  rw [ht]
  rw [loop1_eq i hn]
  refine ⟨show 0 < (1#32 : BitVec 32).toInt by decide, ?_⟩
  have h1 : (1#32 : BitVec 32).toInt = 1 := by decide
  simp only [h1]
  rw [BitVec.toInt_eq_toNat_of_lt (by simp; omega)]
  simp
  omega

/-- Every loop of the body is well formed and every block it reads or writes lies inside its array, at every start
    word that is not negative. -/
theorem chk1_of_nonneg (i : grid0.Coords) {n : ℕ} (hn : n < 2 ^ 31) : k0_chk1 i (BitVec.ofNat 32 n) := by
  have no2 : Fin (k0_t2_loop i (BitVec.ofNat 32 n)).trips → False := fun k => Nat.not_lt_zero k.val (lt_of_lt_of_eq k.isLt (loop2_trips i _))
  have no4 : Fin (k0_t4_loop i (BitVec.ofNat 32 n)).trips → False := fun k => Nat.not_lt_zero k.val (lt_of_lt_of_eq k.isLt (loop4_trips i _))
  have h3 : ∀ k : Fin (k0_t1_loop i (BitVec.ofNat 32 n)).trips, ∀ a, (k0_off3 i (BitVec.ofNat 32 n) k) a + S1x1x512x128.size a ≤ S1x1x32768x128.size a := by
    intro k a; have := chunk_lt i hn k; rw [off3_eq i hn]; fin_cases a <;> simp <;> omega
  have hh : (i 1).val < 8 := (i 1).isLt
  have h4 : ∀ k : Fin (k0_t1_loop i (BitVec.ofNat 32 n)).trips, ∀ a, (k0_off4 i (BitVec.ofNat 32 n) k) a + S1x1x512.size a ≤ S1x8x32768.size a := by
    intro k a; have := chunk_lt i hn k; rw [off4_eq i hn]; fin_cases a <;> simp <;> omega
  have h5 : ∀ k : Fin (k0_t1_loop i (BitVec.ofNat 32 n)).trips, ∀ a, (k0_off5 i (BitVec.ofNat 32 n) k) a + S1x1x512.size a ≤ S1x1x32768.size a := by
    intro k a; have := chunk_lt i hn k; rw [off5_eq i hn]; fin_cases a <;> simp <;> omega
  have h6 : ∀ k : Fin (k0_t1_loop i (BitVec.ofNat 32 n)).trips, ∀ a, (k0_off6 i (BitVec.ofNat 32 n) k) a + S1x256x512.size a ≤ S64x256x512.size a := by
    intro k a; have := chunk_lt i hn k; rw [off6_eq i hn]; fin_cases a <;> simp <;> omega
  exact ⟨loop1_ok i hn, h3, h4, h5, h6, Scf.rem_ok _ _, fun k => (no2 k).elim, fun k => (no2 k).elim, fun k => (no2 k).elim, fun k => (no2 k).elim,
    loop1_ok i hn, h4, h6, h3, Scf.rem_ok _ _, fun k => (no4 k).elim, fun k => (no4 k).elim, fun k => (no4 k).elim⟩

end Cert.Kernel.Gen
-- ==== Proof.BitsBody.lean ====
module

public import proofs.«01_k».proof.Proof.BitsWords
public import proofs.«01_k».proof.Proof.Gen.Kernel.Loops
public import proofs.«01_k».proof.Proof.Gen.Kernel.Launch
public import Idealize.ShloMosaic.Lib.Pipeline.Frame
public import Idealize.ShloMosaic.Lib.Pipeline.FrameBody
public import Idealize.ShloMosaic.Lib.LoopRemainder
public import Idealize.ShloMosaic.Lib.WritesUnit
public import Idealize.ShloMosaic.Lib.Pipeline.ValueKit.Tiles

/-! # One point of the attention grid

The body keeps the masked scores of a block of 256 rows in its scratch array, one slot for each chunk of 512 keys. Its
first loop fills the slots and carries the running row maximum, the running maximum of the scaled weights and the running
row sum. Its second loop reads the slots back, quantises the weights and multiplies them by the values. This file states
what both loops compute as functions of the loaded blocks and proves that running the body leaves exactly that in the
output block, whatever the scratch array held before. -/

@[expose] public section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

noncomputable section

variable {F : FTy → Type} [FloatOps F]

local notation "𝕄" => MT nD τ sig Unit (Elt F) ℕ (UR sig nD τ) ℕ

/-- What one point of the grid reads: the start word of its rows, the slope of its head and its blocks. -/
structure Blk (F : FTy → Type) (i : grid0.Coords) where
  w : BitVec 32
  hw : k0_chk1 i w
  slope : Elt F .f32
  q : Vec F S1x1x256x128 .fp8e4m3
  k : Vec F S1x1x32768x128 .fp8e4m3
  v : Vec F S1x1x32768x128 .fp8e4m3
  qs : Vec F S1x256x8 .f32
  ks : Vec F S1x8x32768 .f32
  vs : Vec F S1x8x32768 .f32
  en : Vec F S1x1x32768 .i32

namespace Blk

variable {i : grid0.Coords} (B : Blk F i)

/-- The number of chunks of 512 keys the point visits. -/
abbrev trips : ℕ := (k0_t1_loop i B.w).trips

/-- The keys of chunk `t`. -/
def keys (t : Fin B.trips) : Vec F S1x1x512x128 .fp8e4m3 :=
  View.ld (Val := Elt F) B.k (Rect.unit (s := S1x1x32768x128) (k0_off3 i B.w t) S1x1x512x128.size (k0_off3_inb i B.w B.hw t))

/-- The key scales of chunk `t`. -/
def keyScales (t : Fin B.trips) : Vec F S1x1x512 .f32 :=
  View.ld (Val := Elt F) B.ks (Rect.unit (s := S1x8x32768) (k0_off4 i B.w t) S1x1x512.size (k0_off4_inb i B.w B.hw t))

/-- The value scales of chunk `t`. -/
def valScales (t : Fin B.trips) : Vec F S1x1x512 .f32 :=
  View.ld (Val := Elt F) B.vs (Rect.unit (s := S1x8x32768) (k0_off4 i B.w t) S1x1x512.size (k0_off4_inb i B.w B.hw t))

/-- The segment ends of the keys of chunk `t`. -/
def ends (t : Fin B.trips) : Vec F S1x1x512 .i32 :=
  View.ld (Val := Elt F) B.en (Rect.unit (s := S1x1x32768) (k0_off5 i B.w t) S1x1x512.size (k0_off5_inb i B.w B.hw t))

/-- The values of chunk `t`. -/
def values (t : Fin B.trips) : Vec F S1x1x512x128 .fp8e4m3 :=
  View.ld (Val := Elt F) B.v (Rect.unit (s := S1x1x32768x128) (k0_off3 i B.w t) S1x1x512x128.size (k0_off3_inb i B.w B.hw t))

/-- The masked scores of chunk `t`. -/
def scores (t : Fin B.trips) : FVec F S256x512 .f32 :=
  k0_pay3 i B.w (fdiv B.w) (k0_pay12 B.slope) (k0_pay13 B.q) (k0_pay14 (BitVec.ofNat 32 (i 1).val) B.qs)
    (k0_pay15 (Scalar.muli (BitVec.ofNat 32 (i 2).val) 256#32)) 1#32 t (B.keys t) (B.keyScales t) (B.ends t)

/-- The running maximum after chunk `t`. -/
def newMax (t : Fin B.trips) (m : FVec F S256x1 .f32) : FVec F S256x1 .f32 :=
  k0_pay4 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- The weights of chunk `t` relative to the running maximum after it. -/
def weights (t : Fin B.trips) (m : FVec F S256x1 .f32) : FVec F S256x512 .f32 :=
  k0_pay5 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- The running maximum before chunk `t` minus the one after it. -/
def drop (t : Fin B.trips) (m : FVec F S256x1 .f32) : FVec F S256x1 .f32 :=
  k0_pay6 i B.w (fdiv B.w) (k0_pay12 B.slope) (k0_pay13 B.q) (k0_pay14 (BitVec.ofNat 32 (i 1).val) B.qs)
    (k0_pay15 (Scalar.muli (BitVec.ofNat 32 (i 2).val) 256#32)) 1#32 t m (B.keys t) (B.keyScales t) (B.ends t)

/-- One trip of the first loop. -/
def step (t : Fin B.trips) (a : FVec F S256x1 .f32 × FVec F S256x1 .f32 × FVec F S256x1 .f32) :
    FVec F S256x1 .f32 × FVec F S256x1 .f32 × FVec F S256x1 .f32 :=
  (B.newMax t a.1, k0_pay22 a.2.1 (k0_pay2 (B.valScales t)) (B.weights t a.1) (B.drop t a.1), k0_pay23 a.2.2 (B.weights t a.1) (B.drop t a.1))

/-- What the first loop carries after `n` trips: row maximum, maximum of the scaled weights, row sum. -/
def carry : ℕ → FVec F S256x1 .f32 × FVec F S256x1 .f32 × FVec F S256x1 .f32
  | 0 => (k0_pay17, k0_pay18, k0_pay19)
  | n + 1 => if h : n < B.trips then B.step ⟨n, h⟩ (carry n) else carry n

theorem carry_succ (t : Fin B.trips) : B.carry (t.val + 1) = B.step t (B.carry t.val) := dif_pos t.isLt

/-- The store of chunk `t` into its slot. -/
def piece (t : Fin B.trips) : View.Piece (Elt F) S64x256x512 .f32 :=
  ⟨Rect.unit (s := S64x256x512) (k0_off6 i B.w t) S1x256x512.size (k0_off6_inb i B.w B.hw t), k0_pay21 (B.scores t)⟩

/-- The stores of the first `n` trips, last first. -/
def pieces : ℕ → List (View.Piece (Elt F) S64x256x512 .f32)
  | 0 => []
  | n + 1 => if h : n < B.trips then B.piece ⟨n, h⟩ :: pieces n else pieces n

theorem pieces_succ (t : Fin B.trips) : B.pieces (t.val + 1) = B.piece t :: B.pieces t.val := dif_pos t.isLt

/-- The largest scaled weight of each row, over 448. -/
def scale : FVec F S256x1 .f32 := k0_pay28 (B.carry B.trips).2.1 (B.carry B.trips).2.2

/-- What the second loop carries after `n` trips. -/
def acc : ℕ → FVec F S256x128 .f32
  | 0 => k0_pay32
  | n + 1 => if h : n < B.trips then
      k0_pay33 (B.carry B.trips).1 (B.carry B.trips).2.2 B.scale k0_pay29 127#32 (acc n) (B.valScales ⟨n, h⟩) (k0_pay21 (B.scores ⟨n, h⟩)) (B.values ⟨n, h⟩)
    else acc n

theorem acc_succ (t : Fin B.trips) : B.acc (t.val + 1) =
    k0_pay33 (B.carry B.trips).1 (B.carry B.trips).2.2 B.scale k0_pay29 127#32 (B.acc t.val) (B.valScales t) (k0_pay21 (B.scores t)) (B.values t) := dif_pos t.isLt

/-- The output block. -/
def out : FVec F S256x128 .bf16 := k0_pay35 B.scale k0_pay29 127#32 (B.acc B.trips)

end Blk

/-- The slot of chunk `t`. -/
theorem off6_of (i : grid0.Coords) (w : BitVec 32) (hn : w.toNat < 2 ^ 31) (t : Fin (k0_t1_loop i w).trips) :
    k0_off6 i w t = ![w.toNat / 512 + t, 0, 0] := by
  obtain ⟨n, hw⟩ : ∃ n, w = BitVec.ofNat 32 n := ⟨w.toNat, by simp⟩
  subst hw
  have h : (BitVec.ofNat 32 n).toNat < 2 ^ 31 := hn
  obtain ⟨m, hm, hw⟩ : ∃ m, m < 2 ^ 31 ∧ BitVec.ofNat 32 n = BitVec.ofNat 32 m := ⟨_, h, BitVec.eq_of_toNat_eq (by simp)⟩
  revert t
  rw [hw]
  intro t
  rw [off6_eq i hm]
  simp
  omega

/-- A slot read back after the stores of the first `n` trips holds the scores of its chunk. -/
theorem Blk.ld_slot {i : grid0.Coords} (B : Blk F i) (hn : B.w.toNat < 2 ^ 31) {κ : Kind} {sp : Space} (v : View sig κ sp S64x256x512 .f32) (f : v.ty.Contents (Elt F))
    (t : Fin B.trips) : ∀ n, t.val < n → n ≤ B.trips →
    View.ld (Val := Elt F) (v.read (Elt F) (v.writes (Elt F) f (B.pieces n))) (Rect.unit (s := S64x256x512) (k0_off6 i B.w t) S1x256x512.size (k0_off6_inb i B.w B.hw t)) = k0_pay21 (B.scores t)
  | 0, h, _ => absurd h (Nat.not_lt_zero _)
  | n + 1, h, hle => by
    have hp := B.pieces_succ ⟨n, hle⟩
    simp only at hp
    rw [hp]
    funext x
    change v.read (Elt F) (v.writes (Elt F) f (B.piece ⟨n, hle⟩ :: B.pieces n)) ((Rect.unit (s := S64x256x512) (k0_off6 i B.w t) S1x256x512.size (k0_off6_inb i B.w B.hw t)).idx x) = _
    by_cases e : t.val = n
    · obtain rfl : t = ⟨n, hle⟩ := Fin.ext e
      unfold Blk.piece
      refine View.read_writes_cons_unit_of_mem v f _ _ _ _ x rfl ?_
      intro a
      exact Rect.idx_unit_val _ _ _ _ _
    · unfold Blk.piece
      rw [View.read_writes_cons_unit_of_not_mem v f _ _ _ _ (off6_of i B.w hn ⟨n, hle⟩) 0]
      · exact congrFun (Blk.ld_slot B hn v f t n (by omega) (by omega)) x
      · left
        have h1 := Rect.idx_unit_val (s := S64x256x512) (k0_off6 i B.w t) S1x256x512.size (k0_off6_inb i B.w B.hw t) x (0 : Fin 3)
        have h2 : k0_off6 i B.w t (0 : Fin 3) = B.w.toNat / 512 + t := by rw [off6_of i B.w hn]; rfl
        have h3 : (x (0 : Fin 3)).val < 1 := (x (0 : Fin 3)).isLt
        have h4 : (![B.w.toNat / 512 + n, 0, 0] : Fin 3 → ℕ) 0 = B.w.toNat / 512 + n := rfl
        refine lt_of_eq_of_lt h1 ?_
        show _ < (![B.w.toNat / 512 + n, 0, 0] : Fin 3 → ℕ) 0
        rw [h2, h4]
        omega

/-- The first loop's recursion, in the block's terms. -/
theorem st1_eq (𝒱 : Variants) (c : Dev nD) (bd : Option 𝒱.V) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (w : BitVec 32) (hw : k0_chk1 i w) (v24 : BitVec 32) (v38 : BitVec 1) (sl : Elt F .f32) (q : Vec F S1x1x256x128 .fp8e4m3) (qs : Vec F S1x256x8 .f32) (v : Vec F S1x1x32768x128 .fp8e4m3)
    (X6 : BufTy.Contents (Elt F) arg6.view.ty) (X9 : BufTy.Contents (Elt F) arg9.view.ty) (X10 : BufTy.Contents (Elt F) arg10.view.ty) (X11 : BufTy.Contents (Elt F) arg11.view.ty) :
    ∀ n, n ≤ (k0_t1_loop i w).trips →
    st_k0_t1 (F := F) 𝒱 c bd i arg3 harg3 arg4 harg4 arg5 harg5 arg6 harg6 arg7 harg7 arg8 harg8 arg9 harg9 arg10 harg10 arg11 harg11 arg12 harg12 arg13 harg13 (BitVec.ofNat 32 (i 1).val) (Scalar.muli (BitVec.ofNat 32 (i 2).val) 256#32) w hw (fdiv w) v24 v38 sl q qs X6 X9 X10 X11 (k0_pay17, k0_pay18, k0_pay19) n
      = ((Blk.mk w hw sl q (View.read (Elt F) arg6.view X6) v qs (View.read (Elt F) arg9.view X9) (View.read (Elt F) arg10.view X10) (View.read (Elt F) arg11.view X11) : Blk F i).carry n,
         (Blk.mk w hw sl q (View.read (Elt F) arg6.view X6) v qs (View.read (Elt F) arg9.view X9) (View.read (Elt F) arg10.view X10) (View.read (Elt F) arg11.view X11) : Blk F i).pieces n)
  | 0, _ => rfl
  | n + 1, h => by
    have ih := st1_eq 𝒱 c bd i arg3 harg3 arg4 harg4 arg5 harg5 arg6 harg6 arg7 harg7 arg8 harg8 arg9 harg9 arg10 harg10 arg11 harg11 arg12 harg12 arg13 harg13 w hw v24 v38 sl q qs v X6 X9 X10 X11 n (by omega)
    have hs := st_k0_t1_succ (F := F) 𝒱 c bd i arg3 harg3 arg4 harg4 arg5 harg5 arg6 harg6 arg7 harg7 arg8 harg8 arg9 harg9 arg10 harg10 arg11 harg11 arg12 harg12 arg13 harg13 (BitVec.ofNat 32 (i 1).val) (Scalar.muli (BitVec.ofNat 32 (i 2).val) 256#32) w hw (fdiv w) v24 v38 sl q qs X6 X9 X10 X11 (k0_pay17, k0_pay18, k0_pay19) ⟨n, h⟩
    simp only at hs
    rw [hs, ih]
    have hc := (Blk.mk w hw sl q (View.read (Elt F) arg6.view X6) v qs (View.read (Elt F) arg9.view X9) (View.read (Elt F) arg10.view X10) (View.read (Elt F) arg11.view X11) : Blk F i).carry_succ ⟨n, h⟩
    have hp := (Blk.mk w hw sl q (View.read (Elt F) arg6.view X6) v qs (View.read (Elt F) arg9.view X9) (View.read (Elt F) arg10.view X10) (View.read (Elt F) arg11.view X11) : Blk F i).pieces_succ ⟨n, h⟩
    simp only at hc hp
    rw [hc, hp]
    unfold tripR_k0_t1 tripL_k0_t1 trip_k0_t1
    rfl

/-- The second loop's recursion, in the block's terms. -/
theorem st3_eq (𝒱 : Variants) (c : Dev nD) (bd : Option 𝒱.V) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (w : BitVec 32) (hw : k0_chk1 i w) (v20 v40 : BitVec 32) (B : Blk F i)
    (X7 : BufTy.Contents (Elt F) arg7.view.ty) (X10 : BufTy.Contents (Elt F) arg10.view.ty) (X13 : BufTy.Contents (Elt F) arg13.view.ty)
    (hBw : B.w = w) (h7 : B.v = View.read (Elt F) arg7.view X7) (h10 : B.vs = View.read (Elt F) arg10.view X10)
    (h13 : ∀ t : Fin B.trips, View.ld (Val := Elt F) (View.read (Elt F) arg13.view X13) (Rect.unit (s := S64x256x512) (k0_off6 i B.w t) S1x256x512.size (k0_off6_inb i B.w B.hw t)) = k0_pay21 (B.scores t)) :
    ∀ n, n ≤ B.trips →
    st_k0_t3 (F := F) 𝒱 c bd i arg3 harg3 arg4 harg4 arg5 harg5 arg6 harg6 arg7 harg7 arg8 harg8 arg9 harg9 arg10 harg10 arg11 harg11 arg12 harg12 arg13 harg13 (BitVec.ofNat 32 (i 1).val) w hw v20 v40 (B.carry B.trips).1 (B.carry B.trips).2.2 B.scale k0_pay29 127#32 X7 X10 X13 k0_pay32 n = B.acc n
  | 0, _ => rfl
  | n + 1, h => by
    subst hBw
    have ih := st3_eq 𝒱 c bd i arg3 harg3 arg4 harg4 arg5 harg5 arg6 harg6 arg7 harg7 arg8 harg8 arg9 harg9 arg10 harg10 arg11 harg11 arg12 harg12 arg13 harg13 B.w hw v20 v40 B X7 X10 X13 rfl h7 h10 h13 n (by omega)
    have hs := st_k0_t3_succ (F := F) 𝒱 c bd i arg3 harg3 arg4 harg4 arg5 harg5 arg6 harg6 arg7 harg7 arg8 harg8 arg9 harg9 arg10 harg10 arg11 harg11 arg12 harg12 arg13 harg13 (BitVec.ofNat 32 (i 1).val) B.w hw v20 v40 (B.carry B.trips).1 (B.carry B.trips).2.2 B.scale k0_pay29 127#32 X7 X10 X13 k0_pay32 ⟨n, h⟩
    have ha := B.acc_succ ⟨n, h⟩
    simp only at hs ha
    rw [hs, ih, ha, ← h13 ⟨n, h⟩]
    unfold Blk.valScales Blk.values
    rw [h7, h10]
    unfold tripR_k0_t3 trip_k0_t3
    rfl

/-- What one point leaves in the output block. -/
def outBlock {i : grid0.Coords} (B : Blk F i) : Vec F S1x256x128 .bf16 :=
  View.canon (Val := Elt F) [⟨Rect.unit (s := S1x256x128) ![0, 0, 0] S1x256x128.size inb_S1x256x128_S1x256x128_0_0_0, k0_pay1 B.out⟩]

/-- The blocks one point reads, from the contents of the buffers. -/
def blk (i : grid0.Coords) (x3 : Vec F S2x128 .i32) (x4 : Vec F S8 .f32) (x5 : Vec F S1x1x256x128 .fp8e4m3) (x6 x7 : Vec F S1x1x32768x128 .fp8e4m3) (x8 : Vec F S1x256x8 .f32) (x9 x10 : Vec F S1x8x32768 .f32) (x11 : Vec F S1x1x32768 .i32)
    (hx3 : ∀ j, k0_chk1 i (x3 j)) : Blk F i where
  w := View.ld (Val := Elt F) x3 (Rect.unit (s := S2x128) (k0_off1 i) S1x1.size (k0_off1_inb i)) (Shape.Idx.first (s := S1x1) (by decide))
  hw := hx3 _
  slope := View.ld (Val := Elt F) x4 (Rect.unit (s := S8) (k0_off2 i) S1.size (k0_off2_inb i)) (Shape.Idx.first (s := S1) (by decide))
  q := View.ld (Val := Elt F) x5 (Rect.unit (s := S1x1x256x128) ![0, 0, 0, 0] S1x1x256x128.size inb_S1x1x256x128_S1x1x256x128_0_0_0_0)
  k := x6
  v := x7
  qs := View.ld (Val := Elt F) x8 (Rect.unit (s := S1x256x8) ![0, 0, 0] S1x256x8.size inb_S1x256x8_S1x256x8_0_0_0)
  ks := x9
  vs := x10
  en := x11

set_option maxHeartbeats 4000000 in
/-- Running the body at a point leaves its inputs as they were and `outBlock` in its output, whatever the output block
    and the scratch array held. -/
theorem sound_kernel (c : Dev nD) (E : Set ℕ) (i : grid0.Coords)
    (arg3 : Memref sig .tc .smem S2x128 .i32) (harg3 : arg3.IsWhole)
    (arg4 : Memref sig .tc .smem S8 .f32) (harg4 : arg4.IsWhole)
    (arg5 : Memref sig .tc .vmem S1x1x256x128 .fp8e4m3) (harg5 : arg5.IsWhole)
    (arg6 : Memref sig .tc .vmem S1x1x32768x128 .fp8e4m3) (harg6 : arg6.IsWhole)
    (arg7 : Memref sig .tc .vmem S1x1x32768x128 .fp8e4m3) (harg7 : arg7.IsWhole)
    (arg8 : Memref sig .tc .vmem S1x256x8 .f32) (harg8 : arg8.IsWhole)
    (arg9 : Memref sig .tc .vmem S1x8x32768 .f32) (harg9 : arg9.IsWhole)
    (arg10 : Memref sig .tc .vmem S1x8x32768 .f32) (harg10 : arg10.IsWhole)
    (arg11 : Memref sig .tc .vmem S1x1x32768 .i32) (harg11 : arg11.IsWhole)
    (arg12 : Memref sig .tc .vmem S1x256x128 .bf16) (harg12 : arg12.IsWhole)
    (arg13 : Memref sig .tc .vmem S64x256x512 .f32) (harg13 : arg13.IsWhole)
    (x3 : Vec F S2x128 .i32) (x4 : Vec F S8 .f32) (x5 : Vec F S1x1x256x128 .fp8e4m3) (x6 x7 : Vec F S1x1x32768x128 .fp8e4m3) (x8 : Vec F S1x256x8 .f32) (x9 x10 : Vec F S1x8x32768 .f32) (x11 : Vec F S1x1x32768 .i32)
    (hx3 : ∀ j, k0_chk1 i (x3 j)) (hlt : ∀ j, (x3 j).toNat < 2 ^ 31) (K : PUnit → sProp 𝕄) :
    iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (∃ d, owns (c : Thread nD τ) arg12 fullShare d) ∗ (∃ d, owns (c : Thread nD τ) arg13 fullShare d)
        ∗ (iprop(owns (c : Thread nD τ) arg3 fullShare.right x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (outBlock (blk i x3 x4 x5 x6 x7 x8 x9 x10 x11 hx3)) ∗ (∃ d, owns (c : Thread nD τ) arg13 fullShare d)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13) K := by
  simp only [cc0_attention_eq_skeleton]; unfold cc0_attention_skel
  simp only [k0_part3_eq_skeleton, k0_part4_eq_skeleton, k0_part5_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf3 hf4 hf5 hf6 hf7 hf8 hf9 hf10 hf11
  sl_exec (disch := exact hx3 _)
  sl_step
  iapply Hk
  let B : Blk F i := (blk i (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) hx3)
  have hst : ∀ n, n ≤ B.trips → st_k0_t1 (F := F) Variants.none c none i arg3 harg3 arg4 harg4 arg5 harg5 arg6 harg6 arg7 harg7 arg8 harg8 arg9 harg9 arg10 harg10 arg11 harg11 arg12 harg12 arg13 harg13 (BitVec.ofNat 32 (i 1).val) (sound_kernel.sl.v0 i) (sound_kernel.sl.r c i arg3 f3) (hx3 _) (sound_kernel.sl.v20 c i arg3 f3) (sound_kernel.sl.v24 i) (sound_kernel.sl.v38 i) (sound_kernel.sl.r_1 c i arg4 f4)
      (View.readAt (Elt F) arg5.view (Rect.unit (s := S1x1x256x128) ![0, 0, 0, 0] S1x1x256x128.size inb_S1x1x256x128_S1x1x256x128_0_0_0_0).toLoadRect f5)
      (View.readAt (Elt F) arg8.view (Rect.unit (s := S1x256x8) ![0, 0, 0] S1x256x8.size inb_S1x256x8_S1x256x8_0_0_0).toLoadRect f8) f6 f9 f10 f11 (k0_pay17, k0_pay18, k0_pay19) n = (B.carry n, B.pieces n) :=
    fun n h => st1_eq (F := F) Variants.none c none i arg3 harg3 arg4 harg4 arg5 harg5 arg6 harg6 arg7 harg7 arg8 harg8 arg9 harg9 arg10 harg10 arg11 harg11 arg12 harg12 arg13 harg13 B.w B.hw (sound_kernel.sl.v24 i) (sound_kernel.sl.v38 i) B.slope B.q B.qs B.v f6 f9 f10 f11 n h
  have ht2 : Scf.trips (k0_t2_loop i (sound_kernel.sl.r c i arg3 f3)).lb (k0_t2_loop i (sound_kernel.sl.r c i arg3 f3)).ub (k0_t2_loop i (sound_kernel.sl.r c i arg3 f3)).st = 0 := loop2_trips i _
  have hr2 : sound_kernel.sl.r_2 c i arg3 harg3 arg4 harg4 arg5 harg5 arg6 harg6 arg7 harg7 arg8 harg8 arg9 harg9 arg10 harg10 arg11 harg11 arg12 harg12 arg13 harg13 f3 f4 f5 f6 f8 f9 f10 f11 hx3 = (B.carry B.trips).1 := by
    delta sound_kernel.sl.r_2
    rw [ht2]
    exact congrArg (fun p => p.1.1) (hst B.trips le_rfl)
  have hr3 : sound_kernel.sl.r_3 c i arg3 harg3 arg4 harg4 arg5 harg5 arg6 harg6 arg7 harg7 arg8 harg8 arg9 harg9 arg10 harg10 arg11 harg11 arg12 harg12 arg13 harg13 f3 f4 f5 f6 f8 f9 f10 f11 hx3 = (B.carry B.trips).2.2 := by
    delta sound_kernel.sl.r_3
    rw [ht2]
    exact congrArg (fun p => p.1.2.2) (hst B.trips le_rfl)
  have hr4 : sound_kernel.sl.r_4 c i arg3 harg3 arg4 harg4 arg5 harg5 arg6 harg6 arg7 harg7 arg8 harg8 arg9 harg9 arg10 harg10 arg11 harg11 arg12 harg12 arg13 harg13 f3 f4 f5 f6 f8 f9 f10 f11 hx3 = B.scale := by
    delta sound_kernel.sl.r_4
    rw [ht2]
    exact congrArg (fun p => k0_pay28 p.1.2.1 p.1.2.2) (hst B.trips le_rfl)
  have hr5 : sound_kernel.sl.r_5 c i arg3 harg3 arg4 harg4 arg5 harg5 arg6 harg6 arg7 harg7 arg8 harg8 arg9 harg9 arg10 harg10 arg11 harg11 arg12 harg12 arg13 harg13 f3 f4 f5 f6 f7 f8 f9 f10 f11 f13 hx3 = B.out := by
    delta sound_kernel.sl.r_5
    rw [hr2, hr3, hr4, ht2]
    refine congrArg (k0_pay35 B.scale k0_pay29 127#32) ?_
    refine st3_eq (F := F) Variants.none c none i arg3 harg3 arg4 harg4 arg5 harg5 arg6 harg6 arg7 harg7 arg8 harg8 arg9 harg9 arg10 harg10 arg11 harg11 arg12 harg12 arg13 harg13 B.w B.hw _ _ B f7 f10 _ rfl rfl rfl ?_ B.trips le_rfl
    intro t
    refine Eq.trans ?_ (B.ld_slot (hlt _) arg13.view f13 t B.trips t.isLt le_rfl)
    exact congrArg (fun p => View.ld (Val := Elt F) (View.read (Elt F) arg13.view (arg13.view.writes (Elt F) f13 p.2)) (Rect.unit (s := S64x256x512) (k0_off6 i B.w t) S1x256x512.size (k0_off6_inb i B.w B.hw t))) (hst B.trips le_rfl)
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _
    isplitr
    swap
    · iexact H12
    · ipureintro
      rw [hr5]
      refine (View.read_writes_eq_canon _ _ _ ?_).trans rfl
      intro y
      exact View.cover_of_tiled _ S1x256x128.size (by rfl) y
  · iexists _, _
    isplitr
    swap
    · iexact H13
    · ipureintro
      rfl

end

end Cert.Kernel.Gen
-- ==== Proof.BitsHost.lean ====
module

public import proofs.«01_k».proof.Proof.BitsWords
public import proofs.«01_k».proof.Proof.Gen.Kernel.Launch
public import Idealize.ShloMosaic.Lib.Pipeline.Frame
public import Idealize.ShloMosaic.Lib.StableHlo.RunRead
public import Idealize.ShloMosaic.Lib.Claim
public import Idealize.ShloMosaic.Lib.Pointwise.Index

/-! # What the host hands to the attention call

Before the call the host computes, from the segment numbers, where the segment of each row starts and where the segment
of each key ends, then the slopes of the heads, and it transposes the scales of the keys and of the values. This file
reads those arrays back as functions of the arguments. -/

@[expose] public section

namespace Cert.Kernel.Gen

open Idealize.ShloMosaic Idealize.ShloMosaic.TcCoe Idealize.ShloMosaic.Tactic
open Idealize.SL Idealize.SL.Sem

set_option maxRecDepth 16384

noncomputable section

variable {F : FTy → Type} [FloatOps F]

/-- The host's operations before the call, stretch by stretch. -/
abbrev stretches : List (List (HloOp τ sig (Elt F))) :=
  [hostOps0, hostOps0_1, hostOps0_2, hostOps0_3, hostOps0_4, hostOps0_5, hostOps0_6]

/-- The same operations in one line. -/
def hostLine : List (HloOp τ sig (Elt F)) :=
  hostOps0 ++ (hostOps0_1 ++ (hostOps0_2 ++ (hostOps0_3 ++ (hostOps0_4 ++ (hostOps0_5 ++ hostOps0_6)))))

theorem stretches_flatten : (stretches (F := F)).flatten = hostLine := by
  simp only [stretches, List.flatten_cons, List.flatten_nil, List.append_nil]; rfl

variable (m : (ℓ : Loc nD τ sig) → Buf (Elt F) ℓ)

/-- The contents of the buffers when the call starts. -/
def V (c : Dev nD) (b : Ref sig .tc) : Buf (Elt F) ((c : Thread nD τ).loc b) :=
  StableHlo.after (stretches (F := F)).flatten (fun b => m (c, b)) b

theorem V_eq (c : Dev nD) (b : Ref sig .tc) : V m c b = StableHlo.after (hostLine (F := F)) (fun b => m (c, b)) b := by
  unfold V; rw [stretches_flatten]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

/-- The program up to the call is its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh fun c => (main_chain c).trans rfl

/-- One column of flags before the others. -/
def catFirst (a : Vec F S2x1 .i1) (b : Vec F S2x32767 .i1) : Vec F S2x32768 .i1 :=
  concatenate S2x32768 1 [⟨S2x1, a⟩, ⟨S2x32767, b⟩] concatenates_S2x1_S2x32767_S2x32768_d1
/-- One column of flags after the others. -/
def catLast (a : Vec F S2x32767 .i1) (b : Vec F S2x1 .i1) : Vec F S2x32768 .i1 :=
  concatenate S2x32768 1 [⟨S2x32767, a⟩, ⟨S2x1, b⟩] concatenates_S2x32767_S2x1_S2x32768_d1
theorem catFirst_eq (a : Vec F S2x1 .i1) (b : Vec F S2x32767 .i1) :
    concatenate S2x32768 1 [⟨S2x1, a⟩, ⟨S2x32767, b⟩] concatenates_S2x1_S2x32767_S2x32768_d1 = catFirst (F := F) a b := rfl
theorem catLast_eq (a : Vec F S2x32767 .i1) (b : Vec F S2x1 .i1) :
    concatenate S2x32768 1 [⟨S2x32767, a⟩, ⟨S2x1, b⟩] concatenates_S2x32767_S2x1_S2x32768_d1 = catLast (F := F) a b := rfl

/-- Which positions start a segment. -/
def firsts (s : Vec F S2x32768 .i32) : Vec F S2x32768 .i1 :=
  catFirst (F := F) (broadcastInDim S2x1 ![] bcast_S_S2x1 (constantI S_ 1 1#1))
    (cmpi .ne (extractStridedSlice S2x32767 ![0, 1] s slices_S2x32768_S2x32767_0_1) (extractStridedSlice S2x32767 ![0, 0] s slices_S2x32768_S2x32767_0_0))

/-- The number of each position. -/
def places : Vec F S1x32768 .i32 := broadcastInDim S1x32768 ![1] bcast_S32768_S1x32768_1 (iotaInDim S32768 32 0)

/-- The position where a segment starts, zero elsewhere. -/
def startMarks (s : Vec F S2x32768 .i32) : Vec F S2x32768 .i32 :=
  select (firsts s) (broadcastInDim S2x32768 ![0, 1] bcast_S1x32768_S2x32768_0_1 (places (F := F)))
    (broadcastInDim S2x32768 ![] bcast_S_S2x32768 (constantI S_ 32 0#32))

/-- The start of the segment of each position: the running maximum of the marks. -/
def starts (s : Vec F S2x32768 .i32) : Vec F S2x32768 .i32 :=
  Host.reduceWindow IntOp.maxsi ![1, 32768] ![1, 1] ![0, 32767] ![0, 0] (startMarks s)
    (broadcastInDim S_ ![] bcast_S_S_ (constantI S_ 32 2147483648#32)) reduceWindows_S2x32768_S2x32768_w1s1p0_0_w32768s1p32767_0 h_S_

/-- The start of the segment of the first row of each block. -/
def blockStarts (s : Vec F S2x32768 .i32) : Vec F S2x128 .i32 :=
  Host.slice S2x128 ![0, 0] ![1, 256] (starts s) slicesBy_S2x32768_S2x128_0s1_0s256

/-- Which positions end a segment. -/
def lasts (s : Vec F S2x32768 .i32) : Vec F S2x32768 .i1 :=
  catLast (F := F) (extractStridedSlice S2x32767 ![0, 1] (firsts s) slices_S2x32768_S2x32767_0_1)
    (broadcastInDim S2x1 ![] bcast_S_S2x1 (constantI S_ 1 1#1))

/-- One past the position where a segment ends, the length elsewhere. -/
def endMarks (s : Vec F S2x32768 .i32) : Vec F S2x32768 .i32 :=
  select (lasts s) (broadcastInDim S2x32768 ![0, 1] bcast_S1x32768_S2x32768_0_1
      (addi (places (F := F)) (broadcastInDim S1x32768 ![] bcast_S_S1x32768 (constantI S_ 32 1#32))))
    (broadcastInDim S2x32768 ![] bcast_S_S2x32768 (constantI S_ 32 32768#32))

/-- The end of the segment of each position: the running minimum of the marks from the right. -/
def ends (s : Vec F S2x32768 .i32) : Vec F S2x1x32768 .i32 :=
  broadcastInDim S2x1x32768 ![0, 2] bcast_S2x32768_S2x1x32768_0_2
    (Host.reduceWindow IntOp.minsi ![1, 32768] ![1, 1] ![0, 0] ![0, 32767] (endMarks s)
      (broadcastInDim S_ ![] bcast_S_S_ (constantI S_ 32 2147483647#32)) reduceWindows_S2x32768_S2x32768_w1s1p0_0_w32768s1p0_32767 h_S_)

/-- The slope of each head. -/
def slopes : Vec F S8 .f32 :=
  Host.exp (mulf (broadcastInDim S8 ![] bcast_S_S8 (constant S_ .f32 0x3F317218#32))
    (Host.divf (mulf (broadcastInDim S8 ![] bcast_S_S8 (constant S_ .f32 0xC1000000#32))
      (addf (sitofp .f32 (iotaInDim S8 32 0)) (broadcastInDim S8 ![] bcast_S_S8 (constant S_ .f32 0x3F800000#32))))
      (broadcastInDim S8 ![] bcast_S_S8 (constant S_ .f32 0x41000000#32))))

theorem V_arg0 (c : Dev nD) : V m c main_arg0 = m ((c : Thread nD τ).loc main_arg0) := by
  rw [V_eq]; unfold hostLine; after_reads_simp; try rfl
theorem V_arg1 (c : Dev nD) : V m c main_arg1 = m ((c : Thread nD τ).loc main_arg1) := by
  rw [V_eq]; unfold hostLine; after_reads_simp; try rfl
theorem V_arg2 (c : Dev nD) : V m c main_arg2 = m ((c : Thread nD τ).loc main_arg2) := by
  rw [V_eq]; unfold hostLine; after_reads_simp; try rfl
theorem V_arg3 (c : Dev nD) : V m c main_arg3 = m ((c : Thread nD τ).loc main_arg3) := by
  rw [V_eq]; unfold hostLine; after_reads_simp; try rfl
theorem V_arg4 (c : Dev nD) : V m c main_arg4 = m ((c : Thread nD τ).loc main_arg4) := by
  rw [V_eq]; unfold hostLine; after_reads_simp; try rfl
theorem V_arg5 (c : Dev nD) : V m c main_arg5 = m ((c : Thread nD τ).loc main_arg5) := by
  rw [V_eq]; unfold hostLine; after_reads_simp; try rfl
theorem V_arg6 (c : Dev nD) : V m c main_arg6 = m ((c : Thread nD τ).loc main_arg6) := by
  rw [V_eq]; unfold hostLine; after_reads_simp; try rfl
theorem V_v30 (c : Dev nD) : V m c main_v30 = m ((c : Thread nD τ).loc main_v30) := by
  rw [V_eq]; unfold hostLine; after_reads_simp; try rfl

theorem V_v9 (c : Dev nD) : V m c main_v9 = blockStarts (F := F) (m (c, Proc.devRef .tc main_arg6)) := by
  rw [V_eq]; unfold hostLine blockStarts starts startMarks firsts places; after_reads_simp [catFirst_eq (F := F), catLast_eq (F := F)]; simp only [id_eq, StableHlo.TRef.ofBuf_toBuf]; simp only [StableHlo.TRef.ofBuf, StableHlo.TRef.toBuf, cast_eq]
theorem V_v17 (c : Dev nD) : V m c main_v17 = ends (F := F) (m (c, Proc.devRef .tc main_arg6)) := by
  rw [V_eq]; unfold hostLine ends endMarks lasts firsts places; after_reads_simp [catFirst_eq (F := F), catLast_eq (F := F)]; simp only [id_eq, StableHlo.TRef.ofBuf_toBuf]; simp only [StableHlo.TRef.ofBuf, StableHlo.TRef.toBuf, cast_eq]
theorem V_v27 (c : Dev nD) : V m c main_v27 = slopes (F := F) := by
  rw [V_eq]; unfold hostLine slopes; after_reads_simp; try rfl
theorem V_v28 (c : Dev nD) : V m c main_v28 = transpose S2x8x32768 [0, 2, 1] (show Vec F S2x32768x8 .f32 from m ((c : Thread nD τ).loc main_arg4)) transposes_S2x32768x8_S2x8x32768_0_2_1 := by
  rw [V_eq]; unfold hostLine; after_reads_simp; try rfl
theorem V_v29 (c : Dev nD) : V m c main_v29 = transpose S2x8x32768 [0, 2, 1] (show Vec F S2x32768x8 .f32 from m ((c : Thread nD τ).loc main_arg5)) transposes_S2x32768x8_S2x8x32768_0_2_1 := by
  rw [V_eq]; unfold hostLine; after_reads_simp; try rfl

/-- The signed maximum of words, read as integers. -/
theorem toInt_maxsi (x y : BitVec 32) : (IntOp.maxsi x y).toInt = max x.toInt y.toInt := by
  unfold IntOp.maxsi
  split <;> rename_i h <;> simp only [BitVec.slt, decide_eq_true_eq, not_lt] at h <;> omega

/-- The signed minimum of words, read as integers. -/
theorem toInt_minsi (x y : BitVec 32) : (IntOp.minsi x y).toInt = min x.toInt y.toInt := by
  unfold IntOp.minsi
  split <;> rename_i h <;> simp only [BitVec.slt, decide_eq_true_eq, not_lt] at h <;> omega

/-- A running maximum is below a bound exactly when everything it runs over is. -/
theorem foldl_maxsi_lt {ι : Type} (g : ι → BitVec 32) (b : ℤ) (l : List ι) : ∀ r : BitVec 32,
    (l.foldl (fun r n => IntOp.maxsi r (g n)) r).toInt < b ↔ r.toInt < b ∧ ∀ n ∈ l, (g n).toInt < b := by
  induction l with
  | nil => intro r; simp
  | cons a l ih => intro r; rw [List.foldl_cons, ih, toInt_maxsi, max_lt_iff, List.forall_mem_cons, and_assoc]

/-- A running minimum is above a bound exactly when everything it runs over is. -/
theorem lt_foldl_minsi {ι : Type} (g : ι → BitVec 32) (b : ℤ) (l : List ι) : ∀ r : BitVec 32,
    b < (l.foldl (fun r n => IntOp.minsi r (g n)) r).toInt ↔ b < r.toInt ∧ ∀ n ∈ l, b < (g n).toInt := by
  induction l with
  | nil => intro r; simp
  | cons a l ih => intro r; rw [List.foldl_cons, ih, toInt_minsi, lt_min_iff, List.forall_mem_cons, and_assoc]

/-- The place of a batch and a position. -/
abbrev at2 (b : Fin 2) (p : Fin 32768) : S2x32768.Idx := ix2 b p

/-- Each place of the window has its number in the row-major order. -/
theorem window_slot (k : Fin 32768) : ∃ n : Fin (⟨2, ![1, 32768]⟩ : Shape).numel,
    ((⟨2, ![1, 32768]⟩ : Shape).rowMajor.symm n 0).val = 0 ∧ ((⟨2, ![1, 32768]⟩ : Shape).rowMajor.symm n 1).val = k.val :=
  ⟨(⟨2, ![1, 32768]⟩ : Shape).rowMajor (ix2 (0 : Fin 1) k), by rw [Equiv.symm_apply_apply]; rfl, by rw [Equiv.symm_apply_apply]; rfl⟩

/-- The start of a position's segment is below a bound exactly when every mark up to the position is. -/
theorem starts_lt (s : Vec F S2x32768 .i32) (b : Fin 2) (p : Fin 32768) (B : ℤ) (hB : -2147483648 < B) :
    (starts (F := F) s (at2 b p)).toInt < B ↔ ∀ q : Fin 32768, q ≤ p → (startMarks (F := F) s (at2 b q)).toInt < B := by
  have hp := p.isLt
  have hb := b.isLt
  unfold starts Host.reduceWindow
  dsimp only
  rw [foldl_maxsi_lt]
  have hi : (broadcastInDim S_ ![] bcast_S_S_ (constantI S_ 32 2147483648#32) (Shape.Idx.first (s := S_) h_S_) : BitVec 32).toInt < B := by
    show (2147483648#32 : BitVec 32).toInt < B
    rw [show (2147483648#32 : BitVec 32).toInt = -2147483648 from by decide]; exact hB
  constructor
  · rintro ⟨-, h⟩ q hq
    have hq' : q.val ≤ p.val := hq
    obtain ⟨n, hn0, hn1⟩ := window_slot (⟨32767 - (p.val - q.val), by omega⟩ : Fin 32768)
    have := h n (List.mem_finRange _)
    rw [dif_pos] at this
    · refine lt_of_eq_of_lt (congrArg (fun i => (startMarks (F := F) s i).toInt) (funext fun a => Fin.ext ?_)) this
      match a with
      | ⟨0, _⟩ => show b.val = b.val * 1 + ((⟨2, ![1, 32768]⟩ : Shape).rowMajor.symm n 0).val - 0; omega
      | ⟨1, _⟩ => show q.val = p.val * 1 + ((⟨2, ![1, 32768]⟩ : Shape).rowMajor.symm n 1).val - 32767; rw [hn1]; dsimp only; omega
    · intro a
      match a with
      | ⟨0, _⟩ => exact ⟨Nat.zero_le _, (by show b.val * 1 + ((⟨2, ![1, 32768]⟩ : Shape).rowMajor.symm n 0).val - 0 < 2; omega)⟩
      | ⟨1, _⟩ => exact ⟨(by show 32767 ≤ p.val * 1 + ((⟨2, ![1, 32768]⟩ : Shape).rowMajor.symm n 1).val; rw [hn1]; dsimp only; omega), (by show p.val * 1 + ((⟨2, ![1, 32768]⟩ : Shape).rowMajor.symm n 1).val - 32767 < 32768; rw [hn1]; dsimp only; omega)⟩
  · refine fun h => ⟨hi, fun n _ => ?_⟩
    split
    · rename_i hin
      have h0 := (hin 0)
      have h1 := (hin 1)
      have hn0 := ((⟨2, ![1, 32768]⟩ : Shape).rowMajor.symm n 0).isLt
      have hn1 := ((⟨2, ![1, 32768]⟩ : Shape).rowMajor.symm n 1).isLt
      change _ < 1 at hn0
      change _ < 32768 at hn1
      change 32767 ≤ p.val * 1 + ((⟨2, ![1, 32768]⟩ : Shape).rowMajor.symm n 1).val ∧ p.val * 1 + ((⟨2, ![1, 32768]⟩ : Shape).rowMajor.symm n 1).val - 32767 < 32768 at h1
      have := h ⟨p.val * 1 + ((⟨2, ![1, 32768]⟩ : Shape).rowMajor.symm n 1).val - 32767, h1.2⟩ (by show _ ≤ p.val; dsimp only; omega)
      refine lt_of_eq_of_lt (congrArg (fun i => (startMarks (F := F) s i).toInt) (funext fun a => Fin.ext ?_)) this
      match a with
      | ⟨0, _⟩ => show b.val * 1 + ((⟨2, ![1, 32768]⟩ : Shape).rowMajor.symm n 0).val - 0 = b.val; omega
      | ⟨1, _⟩ => rfl
    · exact hi

/-- The end of a key's segment is above a bound exactly when every mark from the key on is. -/
theorem lt_ends (s : Vec F S2x32768 .i32) (b : Fin 2) (p : Fin 32768) (B : ℤ) (hB : B < 2147483647) :
    B < (ends (F := F) s (ix3 b (0 : Fin 1) p)).toInt ↔ ∀ q : Fin 32768, p ≤ q → B < (endMarks (F := F) s (at2 b q)).toInt := by
  have hp := p.isLt
  have hb := b.isLt
  have he : ends (F := F) s (ix3 b (0 : Fin 1) p) = (Host.reduceWindow IntOp.minsi ![1, 32768] ![1, 1] ![0, 0] ![0, 32767] (endMarks (F := F) s)
      (broadcastInDim S_ ![] bcast_S_S_ (constantI S_ 32 2147483647#32)) reduceWindows_S2x32768_S2x32768_w1s1p0_0_w32768s1p0_32767 h_S_ : IVec S2x32768 32) (at2 b p) := by
    unfold ends broadcastInDim
    refine congrArg _ (funext fun a => Fin.ext ?_)
    match a with
    | ⟨0, _⟩ => rfl
    | ⟨1, _⟩ => rfl
  rw [he]
  unfold Host.reduceWindow
  dsimp only
  rw [lt_foldl_minsi]
  have hi : B < (broadcastInDim S_ ![] bcast_S_S_ (constantI S_ 32 2147483647#32) (Shape.Idx.first (s := S_) h_S_) : BitVec 32).toInt := by
    show B < (2147483647#32 : BitVec 32).toInt
    rw [show (2147483647#32 : BitVec 32).toInt = 2147483647 from by decide]; exact hB
  constructor
  · rintro ⟨-, h⟩ q hq
    have hq' : p.val ≤ q.val := hq
    have hql := q.isLt
    obtain ⟨n, hn0, hn1⟩ := window_slot (⟨q.val - p.val, by omega⟩ : Fin 32768)
    have := h n (List.mem_finRange _)
    rw [dif_pos] at this
    · refine lt_of_lt_of_eq this (congrArg (fun i => (endMarks (F := F) s i).toInt) (funext fun a => Fin.ext ?_))
      match a with
      | ⟨0, _⟩ => show b.val * 1 + ((⟨2, ![1, 32768]⟩ : Shape).rowMajor.symm n 0).val - 0 = b.val; omega
      | ⟨1, _⟩ => show p.val * 1 + ((⟨2, ![1, 32768]⟩ : Shape).rowMajor.symm n 1).val - 0 = q.val; rw [hn1]; dsimp only; omega
    · intro a
      match a with
      | ⟨0, _⟩ => exact ⟨Nat.zero_le _, (by show b.val * 1 + ((⟨2, ![1, 32768]⟩ : Shape).rowMajor.symm n 0).val - 0 < 2; omega)⟩
      | ⟨1, _⟩ => exact ⟨Nat.zero_le _, (by show p.val * 1 + ((⟨2, ![1, 32768]⟩ : Shape).rowMajor.symm n 1).val - 0 < 32768; rw [hn1]; dsimp only; omega)⟩
  · refine fun h => ⟨hi, fun n _ => ?_⟩
    split
    · rename_i hin
      have h1 := (hin 1)
      have hn0 := ((⟨2, ![1, 32768]⟩ : Shape).rowMajor.symm n 0).isLt
      change _ < 1 at hn0
      change 0 ≤ p.val * 1 + ((⟨2, ![1, 32768]⟩ : Shape).rowMajor.symm n 1).val ∧ p.val * 1 + ((⟨2, ![1, 32768]⟩ : Shape).rowMajor.symm n 1).val - 0 < 32768 at h1
      have := h ⟨p.val * 1 + ((⟨2, ![1, 32768]⟩ : Shape).rowMajor.symm n 1).val - 0, h1.2⟩ (by show p.val ≤ _; dsimp only; omega)
      refine lt_of_lt_of_eq this (congrArg (fun i => (endMarks (F := F) s i).toInt) (funext fun a => Fin.ext ?_)).symm
      match a with
      | ⟨0, _⟩ => show b.val * 1 + ((⟨2, ![1, 32768]⟩ : Shape).rowMajor.symm n 0).val - 0 = b.val; omega
      | ⟨1, _⟩ => rfl
    · exact hi

/-- The number of a position, as a word. -/
theorem places_at (q : Fin 32768) : places (F := F) (ix2 (0 : Fin 1) q) = BitVec.ofNat 32 q.val := rfl

/-- A mark is the position where a segment starts there and zero elsewhere. -/
theorem startMarks_at (s : Vec F S2x32768 .i32) (b : Fin 2) (q : Fin 32768) :
    startMarks (F := F) s (at2 b q) = if firsts (F := F) s (at2 b q) = 1#1 then BitVec.ofNat 32 q.val else 0#32 := by
  unfold startMarks select; rfl

/-- A mark is one past the position where a segment ends there and the length elsewhere. -/
theorem endMarks_at (s : Vec F S2x32768 .i32) (b : Fin 2) (q : Fin 32768) :
    endMarks (F := F) s (at2 b q) = if lasts (F := F) s (at2 b q) = 1#1 then BitVec.ofNat 32 q.val + 1#32 else 32768#32 := by
  unfold endMarks select; rfl

theorem toInt_ofNat {n : ℕ} (h : n < 2147483648) : (BitVec.ofNat 32 n).toInt = n := by
  rw [BitVec.toInt_eq_toNat_cond, BitVec.toNat_ofNat, Nat.mod_eq_of_lt (by omega), if_pos (by omega)]

/-- The start of a block's first row. -/
theorem blockStarts_at (s : Vec F S2x32768 .i32) (b : Fin 2) (k : Fin 128) :
    blockStarts (F := F) s (ix2 b k) = starts (F := F) s (at2 b ⟨256 * k.val, by have := k.isLt; omega⟩) := by
  unfold blockStarts Host.slice
  refine congrArg _ (funext fun a => Fin.ext ?_)
  match a with
  | ⟨0, _⟩ => show 0 + 1 * b.val = b.val; omega
  | ⟨1, _⟩ => show 0 + 256 * k.val = 256 * k.val; omega

/-- Every start word is a nonnegative number. -/
theorem blockStarts_lt (s : Vec F S2x32768 .i32) (j : S2x128.Idx) : (blockStarts (F := F) s j).toNat < 2 ^ 31 := by
  obtain ⟨b, k, rfl⟩ : ∃ b k, j = ix2 b k := ⟨j 0, j 1, funext fun a => by match a with | ⟨0, _⟩ => rfl | ⟨1, _⟩ => rfl⟩
  rw [blockStarts_at]
  set p : Fin 32768 := ⟨256 * k.val, by have := k.isLt; omega⟩
  have hn : ¬ (starts (F := F) s (at2 b p)).toInt < 0 := by
    rw [starts_lt s b p 0 (by decide)]
    intro h
    have := h p le_rfl
    rw [startMarks_at] at this
    split at this
    · rw [toInt_ofNat (by have := p.isLt; omega)] at this; omega
    · exact absurd this (by decide)
  rw [BitVec.toInt_eq_toNat_cond] at hn
  have := (starts (F := F) s (at2 b p)).isLt
  split at hn <;> omega

end

end Cert.Kernel.Gen

end
-- ==== Proof.BitsRun.lean ====
module

public import proofs.«01_k».proof.Proof.BitsBody
public import proofs.«01_k».proof.Proof.BitsHost

/-! # The run of the attention program

The host operations hand their arrays to the call, and every point of its grid runs the body of `sound_kernel` on the
blocks of those arrays. So the program terminates, leaves its arguments as they were, and its result holds what
`outBlock` says, block by block. -/

@[expose] public section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

noncomputable section

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The start words, as the call finds them. -/
def table (c : Dev nD) : Vec F S2x128 .i32 := V m c main_v9

theorem table_eq (c : Dev nD) : table m c = blockStarts (F := F) (m (c, Proc.devRef .tc main_arg6)) := V_v9 m c

theorem table_lt (c : Dev nD) (j : S2x128.Idx) : (table m c j).toNat < 2 ^ 31 := by
  rw [table_eq]; exact blockStarts_lt _ j

theorem table_chk (c : Dev nD) (i : grid0.Coords) (j : S2x128.Idx) : k0_chk1 i (table m c j) := by
  have h := chk1_of_nonneg i (table_lt m c j)
  rwa [BitVec.ofNat_toNat, BitVec.setWidth_eq] at h

/-- The prefetched tables at their contents. -/
def adm : (p : Fin 1) → (pcfgs (F := F) p).Adm := fun _ => ⟨fun k => V m 0 (pre0.ref k), trivial⟩

/-- The pipeline at those tables. -/
abbrev cfgA : Cfg sig Λ₀ := cfg0 (adm m 0)

/-- Window `w`'s block at point `t`, read off its array. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- What point `t` reads. -/
def blkAt (c : Dev nD) (t : Fin (cfgA m).N) : Blk F (grid0.coords t) :=
  blk (grid0.coords t) (table m c) (iblk m c 0 t) (iblk m c 1 t) (iblk m c 2 t) (iblk m c 3 t) (iblk m c 4 t) (iblk m c 5 t) (iblk m c 6 t) (iblk m c 7 t) (table_chk m c (grid0.coords t))

/-- The proof data of the pipeline: each input's buffer at its block, the output's at the block the body computes. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (blkAt m c t)
  Φ _ := iprop(Pipeline.ΦA spec0 c ∗ Pipeline.ΦT pre0 (adm m 0).1 c)
  q _ := fullShare
  owed _ := 0

theorem A_eq (c : Dev nD) (w : Fin (cfgA m).W) : (dats m 0 c).A w = V m c (Pipeline.arrRef spec0 w) := by
  dsimp only [dats]

theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = iblk m c 2 t := by dsimp only [dats]; rfl
theorem after0_3 (c : Dev nD) (t : Fin (cfgA m).N) : (dats m 0 c).after 3 t = iblk m c 3 t := by dsimp only [dats]; rfl
theorem after0_4 (c : Dev nD) (t : Fin (cfgA m).N) : (dats m 0 c).after 4 t = iblk m c 4 t := by dsimp only [dats]; rfl
theorem after0_5 (c : Dev nD) (t : Fin (cfgA m).N) : (dats m 0 c).after 5 t = iblk m c 5 t := by dsimp only [dats]; rfl
theorem after0_6 (c : Dev nD) (t : Fin (cfgA m).N) : (dats m 0 c).after 6 t = iblk m c 6 t := by dsimp only [dats]; rfl
theorem after0_7 (c : Dev nD) (t : Fin (cfgA m).N) : (dats m 0 c).after 7 t = iblk m c 7 t := by dsimp only [dats]; rfl
theorem after0_8 (c : Dev nD) (t : Fin (cfgA m).N) : (dats m 0 c).after 8 t = outBlock (blkAt m c t) := by dsimp only [dats]; rfl
theorem before0_0 (c : Dev nD) (t : Fin (cfgA m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin (cfgA m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin (cfgA m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin (cfgA m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin (cfgA m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin (cfgA m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin (cfgA m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin (cfgA m).N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
abbrev st0_0 (t : Fin (cfgA m).N) := ((cfgA m).win 0).stage ((cfgA m).slots t 0)
abbrev st0_1 (t : Fin (cfgA m).N) := ((cfgA m).win 1).stage ((cfgA m).slots t 1)
abbrev st0_2 (t : Fin (cfgA m).N) := ((cfgA m).win 2).stage ((cfgA m).slots t 2)
abbrev st0_3 (t : Fin (cfgA m).N) := ((cfgA m).win 3).stage ((cfgA m).slots t 3)
abbrev st0_4 (t : Fin (cfgA m).N) := ((cfgA m).win 4).stage ((cfgA m).slots t 4)
abbrev st0_5 (t : Fin (cfgA m).N) := ((cfgA m).win 5).stage ((cfgA m).slots t 5)
abbrev st0_6 (t : Fin (cfgA m).N) := ((cfgA m).win 6).stage ((cfgA m).slots t 6)
abbrev st0_7 (t : Fin (cfgA m).N) := ((cfgA m).win 7).stage ((cfgA m).slots t 7)
abbrev st0_8 (t : Fin (cfgA m).N) := ((cfgA m).win 8).stage ((cfgA m).slots t 8)

/-- The body at point `t`, on what the pipeline calls it with. -/
abbrev bodyAt0 (t : Fin (cfgA m).N) : Prog (TpuEff nD τ sig (Elt F) Λ₀ .tc) PUnit :=
  cc0_attention (grid0.coords t) (Memref.whole main_v9) (Memref.isWhole_whole _) (st0_0 m t) (hstage0_0 (((cfgA m).slots t 0).cast nbuf0_0)) (st0_1 m t) (hstage0_1 (((cfgA m).slots t 1).cast nbuf0_1)) (st0_2 m t) (hstage0_2 (((cfgA m).slots t 2).cast nbuf0_2)) (st0_3 m t) (hstage0_3 (((cfgA m).slots t 3).cast nbuf0_3)) (st0_4 m t) (hstage0_4 (((cfgA m).slots t 4).cast nbuf0_4)) (st0_5 m t) (hstage0_5 (((cfgA m).slots t 5).cast nbuf0_5)) (st0_6 m t) (hstage0_6 (((cfgA m).slots t 6).cast nbuf0_6)) (st0_7 m t) (hstage0_7 (((cfgA m).slots t 7).cast nbuf0_7)) (st0_8 m t) (hstage0_8 (((cfgA m).slots t 8).cast nbuf0_8)) (Memref.whole cc0_scratch0) (Memref.isWhole_whole _)

/-- What the body is called with at point `t`, -/
def bodyPre (c : Dev nD) (t : Fin (cfgA m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d))
    ∗ (∃ d, owns (c : Thread nD τ) (st0_6 m t) fullShare ((dats m 0 c).before 6 t d))
    ∗ (∃ d, owns (c : Thread nD τ) (st0_7 m t) fullShare ((dats m 0 c).before 7 t d))
    ∗ (∃ d, owns (c : Thread nD τ) (st0_8 m t) fullShare ((dats m 0 c).before 8 t d)))

/-- and what it returns. -/
def bodyPost (c : Dev nD) (t : Fin (cfgA m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t)
    ∗ owns (c : Thread nD τ) (st0_6 m t) fullShare ((dats m 0 c).after 6 t)
    ∗ owns (c : Thread nD τ) (st0_7 m t) fullShare ((dats m 0 c).after 7 t)
    ∗ owns (c : Thread nD τ) (st0_8 m t) fullShare ((dats m 0 c).after 8 t))

attribute [local irreducible] V in
/-- The held table is the whole of its buffer, to read. -/
theorem held_table (c : Dev nD) : (Pipeline.ΦT pre0 (adm m 0).1 c : sProp 𝕄) = owns (c : Thread nD τ) (Memref.whole main_v9) fullShare.right (table m c) := by
  rw [owns_whole]
  unfold Pipeline.ΦT Pipeline.prefHeld
  rw [bigSep_univ_eq_bigSepL [(0 : Fin 1)] (by decide) (by decide)]
  obtain rfl : c = 0 := Subsingleton.elim _ _
  unfold table adm
  dsimp only
  change (((0 : Dev nD) : Thread nD τ).loc main_v9 ↦{fullShare.right} V m 0 main_v9 : sProp 𝕄) = _
  exact Eq.refl _

/-- The scratch buffer, at any contents. -/
theorem held_scratch (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

/-- The body at any point. -/
theorem sound_body (c : Dev nD) (t : Fin (cfgA m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6, before0_7]
  rw [show (dats m 0 c).Φ t.succ = iprop(Pipeline.ΦA spec0 c ∗ Pipeline.ΦT pre0 (adm m 0).1 c) from rfl,
    show (dats m 0 c).Φ t.castSucc = iprop(Pipeline.ΦA spec0 c ∗ Pipeline.ΦT pre0 (adm m 0).1 c) from rfl,
    show (dats m 0 c).owesAt () t.succ = (dats m 0 c).owesAt () t.castSucc from rfl,
    held_table, held_scratch, after0_0, after0_1, after0_2, after0_3, after0_4, after0_5, after0_6, after0_7, after0_8]
  iintro ⟨⟨⟨Hs, Hr⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ (table m c) (iblk m c 0 t) (iblk m c 1 t) (iblk m c 2 t) (iblk m c 3 t) (iblk m c 4 t) (iblk m c 5 t) (iblk m c 6 t) (iblk m c 7 t) (table_chk m c (grid0.coords t)) (table_lt m c) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs]; · iexact Hs
  iintro ⟨Ht, H0, H1, H2, H3, H4, H5, H6, H7, H8, Hs⟩
  isplitl [Hs Hr Ht]
  · isplitl [Hs Hr]
    · isplitl [Hs]; · iexact Hs
      iexact Hr
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem defs₀_row (t : Fin (cfgA m).N) :
    defs₀ (F := F) .tc (cfgA m).body ((cfgA m).bodyArgs t ((cfgA m).slots t)) = bodyAt0 m t := by
  unfold defs₀; rw [Defs.onTc_tc]; rfl

/-- The library's body obligation, at every point. -/
theorem body_obligation (c : Dev nD) : BodyObligation (dats (F := F) m 0 c) (defs₀ (F := F)) Variants.none () Set.univ := fun t => by
  rw [defs₀_row]
  refine triple_restated (sound_body m c t) rfl ?_ fun _ => ?_
  · change iprop((dats m 0 c).Φ t.castSucc ∗ (dats m 0 c).owesAt () t.castSucc ∗ bigSep (Finset.univ : Finset (Fin 9)) _) ⊢ _
    rw [bigSep_W0]
    exact .rfl
  · change _ ⊢ iprop((dats m 0 c).Φ t.succ ∗ (dats m 0 c).owesAt () t.succ ∗ bigSep (Finset.univ : Finset (Fin 9)) _)
    rw [bigSep_W0]
    exact .rfl

set_option backward.isDefEq.respectTransparency.types false in
set_option maxHeartbeats 800000 in
/-- The program terminates with its arrays at what the proof data says and every semaphore at zero. -/
theorem run_main_quiescent : θ_run defs (onTc (τ := τ) (main (F := F))) (s₀ m ρ) (fun r => (Pipeline.FramePost (Pipeline.pin pcfgs (adm m)) (dats m) 0 (V m)) r ∧ r.2.sem = fun _ => 0) :=
  Pipeline.θ_run_frameP (Q' := _) pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hΦ := fun _ _ => rfl)

/-- Every argument keeps its contents and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1 c).1 1).trans (((dats m 0 c).arrAt_in 1 rfl _).trans ((A_eq m c 1).trans (V_arg0 m c))),
      ((h.1 c).1 2).trans (((dats m 0 c).arrAt_in 2 rfl _).trans ((A_eq m c 2).trans (V_arg1 m c))),
      ((h.1 c).1 3).trans (((dats m 0 c).arrAt_in 3 rfl _).trans ((A_eq m c 3).trans (V_arg2 m c))),
      ((h.1 c).1 4).trans (((dats m 0 c).arrAt_in 4 rfl _).trans ((A_eq m c 4).trans (V_arg3 m c))),
      ((h.1 c).2 main_arg4 (Pipeline.mem_restRefs_of main_arg4 (by decide) (by exact (by decide : ∀ w : Fin 9, (spec0 w).arr.view.ref ≠ main_arg4)))).trans (V_arg4 m c),
      ((h.1 c).2 main_arg5 (Pipeline.mem_restRefs_of main_arg5 (by decide) (by exact (by decide : ∀ w : Fin 9, (spec0 w).arr.view.ref ≠ main_arg5)))).trans (V_arg5 m c),
      ((h.1 c).2 main_arg6 (Pipeline.mem_restRefs_of main_arg6 (by decide) (by exact (by decide : ∀ w : Fin 9, (spec0 w).arr.view.ref ≠ main_arg6)))).trans (V_arg6 m c)⟩, h.2⟩) (run_main_quiescent m ρ)

end

end Cert.Kernel.Gen

end
-- ==== Proof.Online.lean ====
module

public import Idealize.ShloMosaic.Lib.Pointwise

/-! # The running softmax over the extended reals

A row of scores is read in chunks of 512 keys. The running maximum, the running row sum and the running largest scaled
weight are rescaled whenever the maximum grows. This file proves that after any number of chunks they are the maximum,
the sum and the largest scaled weight of everything read so far, relative to the final maximum. -/

@[expose] public section

noncomputable section

namespace Cert.Attention

open Idealize.ShloMosaic Finset

/-- Powers of two are never negative. -/
theorem exp2_nonneg (x : EReal) : 0 ≤ Ideal.exp2 x := by
  induction x with
  | bot => simp
  | top => simp
  | coe r => rw [Ideal.exp2_coe]; exact EReal.coe_nonneg.mpr (Real.rpow_nonneg (by norm_num) r)

/-- A weight relative to one maximum, rescaled, is the weight relative to a larger maximum. -/
theorem exp2_rescale {z m m' : EReal} (h : z ≤ m) (h' : m ≤ m') :
    Ideal.exp2 (z - m) * Ideal.exp2 (m - m') = Ideal.exp2 (z - m') := by
  induction z with
  | bot => simp
  | top =>
    obtain rfl : m = ⊤ := top_le_iff.mp h
    obtain rfl : m' = ⊤ := top_le_iff.mp h'
    simp
  | coe z =>
    induction m with
    | bot => simp at h
    | top =>
      obtain rfl : m' = ⊤ := top_le_iff.mp h'
      simp
    | coe m =>
      induction m' with
      | bot => simp at h'
      | top => simp
      | coe m' =>
        rw [← EReal.coe_sub, ← EReal.coe_sub, ← EReal.coe_sub, Ideal.exp2_coe, Ideal.exp2_coe, Ideal.exp2_coe, ← EReal.coe_mul]
        congr 1
        show (2 : ℝ) ^ (z - m) * (2 : ℝ) ^ (m - m') = (2 : ℝ) ^ (z - m')
        rw [← Real.rpow_add (by norm_num)]
        congr 1
        ring

/-- A sum of terms that are not negative times any factor. -/
theorem sum_mul {ι : Type*} (s : Finset ι) (f : ι → EReal) (a : EReal) (hf : ∀ i, 0 ≤ f i) : (∑ i ∈ s, f i) * a = ∑ i ∈ s, f i * a := by
  classical
  induction s using Finset.induction_on with
  | empty => simp
  | insert i s hi ih =>
    rw [sum_insert hi, sum_insert hi, EReal.right_distrib_of_nonneg (hf i) (sum_nonneg fun j _ => hf j), ih]

/-- The larger of two numbers times a factor that is not negative. -/
theorem max_mul {a b c : EReal} (hc : 0 ≤ c) : max a b * c = max (a * c) (b * c) :=
  Monotone.map_max (f := fun x : EReal => x * c) fun _ _ h => mul_le_mul_of_nonneg_right h hc

/-- The largest of some numbers and zero, times a factor that is not negative. -/
theorem sup_mul {ι : Type*} (s : Finset ι) (f : ι → EReal) {a : EReal} (ha : 0 ≤ a) : max 0 (s.sup f) * a = max 0 (s.sup fun i => f i * a) := by
  classical
  induction s using Finset.induction_on with
  | empty => simp
  | insert i s hi ih =>
    rw [sup_insert, sup_insert]
    change max 0 (max (f i) (s.sup f)) * a = max 0 (max (f i * a) (s.sup fun i => f i * a))
    rw [max_left_comm, max_mul ha, ih, max_left_comm]

variable (z v : ℕ → Fin 512 → EReal)

/-- The running maximum after `n` chunks. -/
def runMax : ℕ → EReal
  | 0 => ⊥
  | n + 1 => max (runMax n) (univ.sup (z n))

/-- The running row sum after `n` chunks. -/
def runSum : ℕ → EReal
  | 0 => 0
  | n + 1 => runSum n * Ideal.exp2 (runMax z n - runMax z (n + 1)) + ∑ j, Ideal.exp2 (z n j - runMax z (n + 1))

/-- The running largest scaled weight after `n` chunks. -/
def runTop : ℕ → EReal
  | 0 => 0
  | n + 1 => max (runTop n * Ideal.exp2 (runMax z n - runMax z (n + 1))) (univ.sup fun j => Ideal.exp2 (z n j - runMax z (n + 1)) * v n j)

/-- The running maximum is the maximum. -/
theorem runMax_eq (n : ℕ) : runMax z n = (range n).sup fun c => univ.sup (z c) := by
  induction n with
  | zero => simp [runMax]
  | succ n ih =>
    rw [range_add_one, sup_insert, runMax, ih]
    exact max_comm _ _

/-- No score read so far exceeds the running maximum. -/
theorem le_runMax {n c : ℕ} (h : c < n) (j : Fin 512) : z c j ≤ runMax z n := by
  rw [runMax_eq]
  exact (le_sup (f := z c) (mem_univ j)).trans (le_sup (f := fun c => univ.sup (z c)) (mem_range.mpr h))

/-- The running row sum is the row sum relative to the running maximum. -/
theorem runSum_eq (n : ℕ) : runSum z n = ∑ c ∈ range n, ∑ j, Ideal.exp2 (z c j - runMax z n) := by
  induction n with
  | zero => simp [runSum]
  | succ n ih =>
    rw [runSum, ih, sum_range_succ, sum_mul _ _ _ (fun c => sum_nonneg fun j _ => exp2_nonneg _)]
    congr 1
    refine sum_congr rfl fun c hc => ?_
    rw [sum_mul _ _ _ fun j => exp2_nonneg _]
    exact sum_congr rfl fun j _ => exp2_rescale (le_runMax z (mem_range.mp hc) j) (le_max_left _ _)

/-- The running largest scaled weight is the largest scaled weight relative to the running maximum. -/
theorem runTop_eq (n : ℕ) : runTop z v n = max 0 ((range n).sup fun c => univ.sup fun j => Ideal.exp2 (z c j - runMax z n) * v c j) := by
  induction n with
  | zero => simp [runTop]
  | succ n ih =>
    have hs : ∀ (a : EReal), (range n).sup (fun c => univ.sup fun j => Ideal.exp2 (z c j - a) * v c j) = ((range n) ×ˢ univ).sup fun p : ℕ × Fin 512 => Ideal.exp2 (z p.1 p.2 - a) * v p.1 p.2 :=
      fun a => (sup_product_left (range n) univ fun p : ℕ × Fin 512 => Ideal.exp2 (z p.1 p.2 - a) * v p.1 p.2).symm
    rw [runTop, ih, hs, sup_mul _ _ (exp2_nonneg _), range_add_one, sup_insert, hs]
    change _ = max 0 (max _ _)
    rw [max_left_comm, max_comm]
    congr 2
    refine sup_congr rfl fun p hp => ?_
    have hm : runMax z n ≤ runMax z (n + 1) := le_max_left _ _
    rw [mul_right_comm, exp2_rescale (le_runMax z (mem_range.mp (mem_product.mp hp).1) p.2) hm]

end Cert.Attention
-- ==== Proof.Exponent.lean ====
module

public import Idealize.ShloMosaic.Lib.Pointwise

/-! # The exponent of a row's scale

The kernel counts the powers of two from 2^-126 to 2^125 that a number reaches. The reference takes the floor of the
number's binary logarithm. This file proves that both name the same power of two. -/

@[expose] public section

set_option maxRecDepth 16384

noncomputable section

namespace Cert.Attention

open Idealize.ShloMosaic Finset

/-- The word of the power of two with biased exponent `n`. -/
theorem word_bits : ∀ n : Fin 255, (BitVec.ofNat 32 (n.val * 8388608)).extractLsb' 31 1 = 0#1
    ∧ ((BitVec.ofNat 32 (n.val * 8388608)).extractLsb' 23 8).toNat = n.val ∧ ((BitVec.ofNat 32 (n.val * 8388608)).extractLsb' 0 23).toNat = 0 := by
  decide +kernel

/-- The power of two with biased exponent `n`. -/
theorem ofBits_pow {n : ℕ} (h : 1 ≤ n) (h' : n < 255) : Ideal.ofBits .f32 (BitVec.ofNat 32 (n * 8388608)) = (((2 : ℝ) ^ ((n : ℤ) - 127) : ℝ) : EReal) := by
  obtain ⟨h1, h2, h3⟩ := word_bits ⟨n, h'⟩
  simp only at h1 h2 h3
  show Ideal.ieee 8 23 _ = _
  unfold Ideal.ieee
  simp only [h1, h2, h3]
  rw [if_neg (by omega), if_neg (by omega)]
  congr 1
  have e : (n : ℤ) - 127 = ((n : ℤ) - 127 - 23) + (23 : ℕ) := by push_cast; ring
  conv_rhs => rw [e, zpow_add₀ (by norm_num : (2 : ℝ) ≠ 0), zpow_natCast]
  norm_num
  ring

/-- How many of the powers of two from 2^-126 to 2^125 do not exceed `x`. -/
def count (x : EReal) : ℕ := (univ.filter fun j : Fin 252 => (((2 : ℝ) ^ ((j.val : ℤ) - 126) : ℝ) : EReal) ≤ x).card

theorem count_le (x : EReal) : count x ≤ 252 := (card_filter_le _ _).trans (by simp)

/-- The exponent a count stands for. -/
def expo (n : ℕ) : ℤ := if n = 0 then 0 else (n : ℤ) - 126

/-- The kernel's sum of zeros and ones is the count. -/
theorem fold_count {ι : Type*} (s : Finset ι) (p : ι → Prop) [DecidablePred p] :
    s.fold IntOp.addi 0#32 (fun i => if p i then 1#32 else 0#32) = BitVec.ofNat 32 (s.filter p).card := by
  classical
  induction s using Finset.induction_on with
  | empty => rfl
  | insert i s hi ih =>
    rw [fold_insert hi, ih, filter_insert]
    by_cases h : p i
    · rw [if_pos h, if_pos h, card_insert_of_notMem (by simp [hi])]
      show 1#32 + _ = _
      rw [add_comm, BitVec.ofNat_add]
    · rw [if_neg h, if_neg h]
      show 0#32 + _ = _
      simp

/-- The word of the `j`-th power of two that the kernel compares with. -/
theorem word_at : ∀ j : Fin 252, IntOp.shli .vector (IntOp.addi (IntOp.subi (BitVec.ofNat 32 j.val) 126#32) 127#32) 23#32 = BitVec.ofNat 32 ((j.val + 1) * 8388608) := by
  decide +kernel

/-- The word of the kernel's exponent, for a count `n`. -/
def expoWord (n : ℕ) : BitVec 32 :=
  Scalar.select (IntOp.cmpi .eq (BitVec.ofNat 32 n) 0#32) 0#32 (IntOp.subi (BitVec.ofNat 32 n) 126#32)

theorem word_up : ∀ n : Fin 253, IntOp.shli .vector (IntOp.addi (expoWord n.val) 127#32) 23#32 = BitVec.ofNat 32 ((if n.val = 0 then 127 else n.val + 1) * 8388608) := by
  decide +kernel

theorem word_down : ∀ n : Fin 253, IntOp.shli .vector (IntOp.addi (IntOp.subi 0#32 (expoWord n.val)) 127#32) 23#32 = BitVec.ofNat 32 ((if n.val = 0 then 127 else 253 - n.val) * 8388608) := by
  decide +kernel

/-- The kernel's power of two. -/
theorem pow_up {n : ℕ} (h : n ≤ 252) : Ideal.ofBits .f32 (IntOp.shli .vector (IntOp.addi (expoWord n) 127#32) 23#32) = (((2 : ℝ) ^ expo n : ℝ) : EReal) := by
  rw [word_up ⟨n, by omega⟩]
  simp only
  rw [ofBits_pow (by split <;> omega) (by split <;> omega)]
  congr 2
  unfold expo
  split <;> push_cast <;> ring

/-- The inverse of the kernel's power of two. -/
theorem pow_down {n : ℕ} (h : n ≤ 252) : Ideal.ofBits .f32 (IntOp.shli .vector (IntOp.addi (IntOp.subi 0#32 (expoWord n)) 127#32) 23#32) = (((2 : ℝ) ^ (-expo n) : ℝ) : EReal) := by
  rw [word_down ⟨n, by omega⟩]
  simp only
  rw [ofBits_pow (by split <;> omega) (by split <;> omega)]
  congr 2
  unfold expo
  split
  · norm_num
  · rw [Nat.cast_sub (by omega)]; push_cast; ring

/-- The exponent the reference takes. -/
def refExpo (x : EReal) : EReal :=
  if x < (((2 : ℝ) ^ (-126 : ℤ) : ℝ) : EReal) then 0
  else min (Ideal.liftRound Int.floor (Ideal.div (Ideal.log x) (Ideal.log ((2 : ℝ) : EReal))) + 1) ((126 : ℝ) : EReal)

/-- Counting powers of two names the same exponent as the floor of the binary logarithm. -/
theorem refExpo_eq (x : EReal) : refExpo x = (((expo (count x) : ℤ) : ℝ) : EReal) := by
  have hlog2 : 0 < Real.log 2 := Real.log_pos (by norm_num)
  unfold refExpo
  by_cases hx : x < (((2 : ℝ) ^ (-126 : ℤ) : ℝ) : EReal)
  · rw [if_pos hx]
    have : count x = 0 := by
      unfold count
      rw [card_eq_zero, filter_eq_empty_iff]
      intro j _ hj
      refine absurd (hj.trans_lt hx) (not_lt.mpr ?_)
      exact EReal.coe_le_coe_iff.mpr (zpow_le_zpow_right₀ (by norm_num) (by omega))
    rw [this]
    simp [expo]
  · rw [if_neg hx]
    have hl : Ideal.log ((2 : ℝ) : EReal) = ((Real.log 2 : ℝ) : EReal) := by
      show (if (2 : ℝ) ≤ 0 then ⊥ else ((Real.log 2 : ℝ) : EReal)) = _
      rw [if_neg (by norm_num)]
    rw [hl]
    have hdiv : ∀ y : EReal, Ideal.div y ((Real.log 2 : ℝ) : EReal) = y * (((Real.log 2)⁻¹ : ℝ) : EReal) := by
      intro y
      unfold Ideal.div
      rw [if_neg (by exact_mod_cast hlog2.ne'), EReal.coe_inv]
    rw [hdiv]
    induction x with
    | bot => exact absurd (EReal.bot_lt_coe _) hx
    | top =>
      have : count ⊤ = 252 := by
        unfold count
        rw [filter_true_of_mem (fun j _ => le_top)]
        simp
      rw [this]
      show min (Ideal.liftRound Int.floor (⊤ * (((Real.log 2)⁻¹ : ℝ) : EReal)) + 1) ((126 : ℝ) : EReal) = _
      rw [EReal.top_mul_coe_of_pos (inv_pos.mpr hlog2), Ideal.liftRound_top]
      rw [EReal.top_add_of_ne_bot (by exact_mod_cast EReal.coe_ne_bot 1), min_eq_right le_top]
      norm_num [expo]
    | coe r =>
      have hr : (2 : ℝ) ^ (-126 : ℤ) ≤ r := by
        have := not_lt.mp hx
        exact_mod_cast this
      have hpos : 0 < r := lt_of_lt_of_le (by positivity) hr
      have hle : ∀ i : ℤ, (2 : ℝ) ^ i ≤ r ↔ i ≤ ⌊Real.log r * (Real.log 2)⁻¹⌋ := by
        intro i
        rw [Int.le_floor, ← div_eq_mul_inv, le_div_iff₀ hlog2, ← Real.log_zpow, Real.log_le_log_iff (by positivity) hpos]
      have hlr : Ideal.log (r : EReal) = ((Real.log r : ℝ) : EReal) := by
        show (if r ≤ 0 then ⊥ else ((Real.log r : ℝ) : EReal)) = _
        rw [if_neg (by linarith)]
      rw [hlr, ← EReal.coe_mul, Ideal.liftRound_coe]
      generalize ⌊Real.log r * (Real.log 2)⁻¹⌋ = k at hle
      have hk : -126 ≤ k := (hle _).mp hr
      have hc : (count (r : EReal) : ℤ) = min 252 (k + 127) := by
        unfold count
        have : (univ.filter fun j : Fin 252 => (((2 : ℝ) ^ ((j.val : ℤ) - 126) : ℝ) : EReal) ≤ (r : EReal)) = univ.filter fun j : Fin 252 => j.val < (k + 127).toNat := by
          refine filter_congr fun j _ => ?_
          rw [EReal.coe_le_coe_iff, hle]
          omega
        rw [this, Fin.card_filter_val_lt]
        omega
      have hn : count (r : EReal) ≠ 0 := by omega
      have he : expo (count (r : EReal)) = min (k + 1) 126 := by
        unfold expo
        rw [if_neg hn, hc]
        omega
      rw [he]
      rw [show ((1 : EReal)) = ((1 : ℝ) : EReal) from rfl, ← EReal.coe_add]
      push_cast
      exact (EReal.coe_strictMono.monotone.map_min).symm

end Cert.Attention
-- ==== Proof.Row.lean ====
module

public import proofs.«01_k».proof.Proof.Online
public import proofs.«01_k».proof.Proof.Exponent

/-! # One row of the attention

The kernel works with scores over binary logarithms, chunk by chunk, over the chunks that hold a visible key. The
reference works with natural exponentials over all keys. This file proves that both give the same number for one row and
one column of the values. -/

@[expose] public section

noncomputable section

namespace Cert.Attention

open Idealize.ShloMosaic Finset

/-- The factor from natural to binary logarithms. -/
abbrev toBinary : EReal := (((Real.log 2)⁻¹ : ℝ) : EReal)

theorem log2_pos : 0 < Real.log 2 := Real.log_pos (by norm_num)

theorem sub_mul_toBinary (a b : EReal) : (a - b) * toBinary = a * toBinary - b * toBinary := by
  have h : (0 : EReal) ≤ toBinary := EReal.coe_nonneg.mpr (inv_nonneg.mpr log2_pos.le)
  rw [sub_eq_add_neg, mul_comm, EReal.left_distrib_of_nonneg_of_ne_top h (EReal.coe_ne_top _), sub_eq_add_neg, mul_comm, mul_neg, mul_comm toBinary b]

/-- The power of two of a rescaled number is its exponential. -/
theorem exp2_toBinary (y : EReal) : Ideal.exp2 (y * toBinary) = Ideal.exp y := by
  induction y with
  | bot => rw [EReal.bot_mul_coe_of_pos (inv_pos.mpr log2_pos)]; rfl
  | top => rw [EReal.top_mul_coe_of_pos (inv_pos.mpr log2_pos)]; rfl
  | coe r =>
    rw [← EReal.coe_mul, Ideal.exp2_coe]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have := log2_pos.ne'
    field_simp

/-- The exponential of a difference that is not positive is a real number that is not negative. -/
theorem exp_real {s m : EReal} (h : s ≤ m) : ∃ r : ℝ, 0 ≤ r ∧ Ideal.exp (s - m) = (r : EReal) := by
  induction s with
  | bot => exact ⟨0, le_rfl, by rw [EReal.bot_sub]; rfl⟩
  | top =>
    obtain rfl : m = ⊤ := top_le_iff.mp h
    exact ⟨0, le_rfl, by rw [sub_eq_add_neg, EReal.neg_top, EReal.add_bot]; rfl⟩
  | coe s =>
    induction m with
    | bot => simp at h
    | top => exact ⟨0, le_rfl, by rw [sub_eq_add_neg, EReal.neg_top, EReal.add_bot]; rfl⟩
    | coe m => exact ⟨Real.exp (s - m), (Real.exp_pos _).le, by rw [← EReal.coe_sub]; rfl⟩

/-- Clipping to the range of the codes. -/
def clip (y : EReal) : EReal := min (Ideal.ofBits .f32 0x43E00000#32) (max (Ideal.ofBits .f32 0xC3E00000#32) y)

theorem clip_zero : clip 0 = 0 := by
  unfold clip
  have h1 : (0 : EReal) ≤ Ideal.ofBits .f32 0x43E00000#32 := by
    simp [Ideal.ofBits, Ideal.ieee, -EReal.coe_mul]
  have h2 : Ideal.ofBits .f32 0xC3E00000#32 ≤ (0 : EReal) := by
    simp [Ideal.ofBits, Ideal.ieee, -EReal.coe_mul]
  rw [max_eq_right h2, min_eq_right h1]

/-- One over the largest code, as the programs write it. -/
abbrev invTop : EReal := Ideal.ofBits .f32 0x3B124925#32

theorem invTop_pos : ∃ r : ℝ, 0 < r ∧ invTop = (r : EReal) := by
  refine ⟨_, ?_, by simp [invTop, Ideal.ofBits, Ideal.ieee, -EReal.coe_mul]; rfl⟩
  positivity

/-- The reference's number, from the scores, scales and values of a row's keys. -/
def refRow (s vs v : Fin 32768 → EReal) : EReal :=
  (∑ k, clip (Ideal.exp (s k - univ.sup s) * Ideal.div 1 (∑ k, Ideal.exp (s k - univ.sup s)) * vs k
      * Ideal.exp2 (0 - refExpo (univ.sup (fun k => max (Ideal.exp (s k - univ.sup s) * Ideal.div 1 (∑ k, Ideal.exp (s k - univ.sup s)) * vs k)
          (-(Ideal.exp (s k - univ.sup s) * Ideal.div 1 (∑ k, Ideal.exp (s k - univ.sup s)) * vs k))) * invTop))) * v k)
    * Ideal.exp2 (refExpo (univ.sup (fun k => max (Ideal.exp (s k - univ.sup s) * Ideal.div 1 (∑ k, Ideal.exp (s k - univ.sup s)) * vs k)
          (-(Ideal.exp (s k - univ.sup s) * Ideal.div 1 (∑ k, Ideal.exp (s k - univ.sup s)) * vs k))) * invTop))

/-- The count of powers of two that the kernel's largest weight reaches. -/
def kerCount (z w : ℕ → Fin 512 → EReal) (T : ℕ) : ℕ := count (Ideal.div (runTop z w T) (runSum z T) * invTop)

/-- The kernel's number, from the scores, scales and values of the chunks it visits. -/
def kerRow (z w v : ℕ → Fin 512 → EReal) (T : ℕ) : EReal :=
  (∑ t ∈ range T, ∑ j, clip (Ideal.exp2 (z t j - runMax z T) * w t j * Ideal.div (((2 : ℝ) ^ (-expo (kerCount z w T)) : ℝ) : EReal) (runSum z T)) * v t j)
    * (((2 : ℝ) ^ expo (kerCount z w T) : ℝ) : EReal)

/-- Key `j` of chunk `c`. -/
def key (c : ℕ) (j : Fin 512) : Fin 32768 := Fin.ofNat 32768 (512 * c + j.val)

theorem key_val {c : ℕ} (h : c < 64) (j : Fin 512) : (key c j).val = 512 * c + j.val := by
  have := j.isLt
  show (512 * c + j.val) % 32768 = _
  rw [Nat.mod_eq_of_lt (by omega)]

/-- Every key in the visited range is in a visited chunk. -/
theorem exists_key {c0 T : ℕ} (hT : c0 + T ≤ 64) (k : Fin 32768) (h : 512 * c0 ≤ k.val) (h' : k.val < 512 * (c0 + T)) :
    ∃ t < T, ∃ j, key (c0 + t) j = k := by
  refine ⟨k.val / 512 - c0, by omega, ⟨k.val % 512, by omega⟩, Fin.ext ?_⟩
  rw [key_val (by omega)]
  dsimp only
  omega

theorem sum_keys {c0 T : ℕ} (hT : c0 + T ≤ 64) (G : Fin 32768 → EReal) (hG : ∀ k, (k.val < 512 * c0 ∨ 512 * (c0 + T) ≤ k.val) → G k = 0) :
    ∑ t ∈ range T, ∑ j, G (key (c0 + t) j) = ∑ k, G k := by
  rw [← sum_product' (range T) univ fun t j => G (key (c0 + t) j)]
  refine sum_of_injOn (fun p => key (c0 + p.1) p.2) ?_ (fun _ _ => mem_coe.mpr (mem_univ _)) ?_ fun _ _ => rfl
  · rintro ⟨t, j⟩ ht ⟨t', j'⟩ ht' e
    simp only [coe_product, Set.mem_prod, mem_coe, mem_range] at ht ht'
    have e := congrArg Fin.val e
    dsimp only at e
    rw [key_val (by omega), key_val (by omega)] at e
    have := j.isLt
    have := j'.isLt
    have h1 : t = t' := by omega
    subst h1
    have h2 : j = j' := Fin.ext (by omega)
    subst h2
    rfl
  · intro k _ hk
    refine hG k ?_
    by_contra h
    push Not at h
    obtain ⟨t, ht, j, rfl⟩ := exists_key hT k h.1 h.2
    exact hk ⟨(t, j), by simp [ht], rfl⟩

theorem sup_keys {c0 T : ℕ} (hT : c0 + T ≤ 64) (b : EReal) (G : Fin 32768 → EReal) (hG : ∀ k, (k.val < 512 * c0 ∨ 512 * (c0 + T) ≤ k.val) → G k ≤ b) :
    max b ((range T).sup fun t => univ.sup fun j => G (key (c0 + t) j)) = max b (univ.sup G) := by
  refine le_antisymm (max_le_max_left _ ?_) (max_le (le_max_left _ _) (Finset.sup_le fun k _ => ?_))
  · exact Finset.sup_le fun t _ => Finset.sup_le fun j _ => le_sup (mem_univ _)
  · by_cases h : k.val < 512 * c0 ∨ 512 * (c0 + T) ≤ k.val
    · exact (hG k h).trans (le_max_left _ _)
    · push Not at h
      obtain ⟨t, ht, j, rfl⟩ := exists_key hT k h.1 h.2
      refine le_trans ?_ (le_max_right _ _)
      exact (le_sup (f := fun j => G (key (c0 + t) j)) (mem_univ j)).trans (le_sup (f := fun t => univ.sup fun j => G (key (c0 + t) j)) (mem_range.mpr ht))

/-- The kernel's number is the reference's. -/
theorem kerRow_eq {c0 T : ℕ} (hT : c0 + T ≤ 64) (s vs v : Fin 32768 → EReal) (z w x : ℕ → Fin 512 → EReal)
    (hz : ∀ t < T, ∀ j, z t j = s (key (c0 + t) j) * toBinary) (hw : ∀ t < T, ∀ j, w t j = vs (key (c0 + t) j))
    (hx : ∀ t < T, ∀ j, x t j = v (key (c0 + t) j))
    (hs : ∀ k, (k.val < 512 * c0 ∨ 512 * (c0 + T) ≤ k.val) → s k = ⊥) (hvs : ∀ k, 0 ≤ vs k) :
    kerRow z w x T = refRow s vs v := by
  have hM : runMax z T = univ.sup s * toBinary := by
    rw [runMax_eq]
    have e1 : ((range T).sup fun t => univ.sup (z t)) = (range T).sup fun t => univ.sup fun j => (s (key (c0 + t) j) * toBinary) :=
      sup_congr rfl fun t ht => sup_congr rfl fun j _ => hz t (mem_range.mp ht) j
    rw [e1]
    have e2 := sup_keys hT ⊥ (fun k => s k * toBinary) fun k hk => by
      rw [hs k hk, EReal.bot_mul_coe_of_pos (inv_pos.mpr log2_pos)]
    rw [max_bot_left, max_bot_left] at e2
    rw [e2]
    symm
    refine comp_sup_eq_sup_comp (fun y : EReal => y * toBinary) ?_ (EReal.bot_mul_coe_of_pos (inv_pos.mpr log2_pos))
    exact fun a b => max_mul (EReal.coe_nonneg.mpr (inv_nonneg.mpr log2_pos.le))
  have hu : ∀ t < T, ∀ j, Ideal.exp2 (z t j - runMax z T) = Ideal.exp (s (key (c0 + t) j) - univ.sup s) := by
    intro t ht j
    rw [hM, hz t ht, ← sub_mul_toBinary, exp2_toBinary]
  choose u hu0 hur using fun k => exp_real (le_sup (f := s) (mem_univ k))
  have hout : ∀ k : Fin 32768, (k.val < 512 * c0 ∨ 512 * (c0 + T) ≤ k.val) → u k = 0 := by
    intro k hk
    have := hur k
    rw [hs k hk, EReal.bot_sub] at this
    exact (EReal.coe_eq_zero.mp this.symm)
  have hL : runSum z T = ((∑ k, u k : ℝ) : EReal) := by
    rw [runSum_eq]
    have e1 : (∑ t ∈ range T, ∑ j, Ideal.exp2 (z t j - runMax z T)) = ∑ t ∈ range T, ∑ j, (u (key (c0 + t) j) : EReal) :=
      sum_congr rfl fun t ht => sum_congr rfl fun j _ => by rw [hu t (mem_range.mp ht), hur]
    rw [e1, sum_keys hT (fun k => (u k : EReal)) fun k hk => by rw [hout k hk]; rfl]
    exact (map_sum (⟨⟨Real.toEReal, EReal.coe_zero⟩, EReal.coe_add⟩ : ℝ →+ EReal) u univ).symm
  have hL' : ∑ k, Ideal.exp (s k - univ.sup s) = ((∑ k, u k : ℝ) : EReal) := by
    rw [sum_congr rfl fun k _ => hur k]
    exact (map_sum (⟨⟨Real.toEReal, EReal.coe_zero⟩, EReal.coe_add⟩ : ℝ →+ EReal) u univ).symm
  have hW : runTop z w T = max 0 (univ.sup fun k => (u k : EReal) * vs k) := by
    rw [runTop_eq]
    have e1 : ((range T).sup fun t => univ.sup fun j => Ideal.exp2 (z t j - runMax z T) * w t j) = (range T).sup fun t => univ.sup fun j => (u (key (c0 + t) j) : EReal) * vs (key (c0 + t) j) :=
      sup_congr rfl fun t ht => sup_congr rfl fun j _ => by rw [hu t (mem_range.mp ht), hur, hw t (mem_range.mp ht)]
    rw [e1, sup_keys hT 0 (fun k => (u k : EReal) * vs k) fun k hk => by rw [hout k hk, EReal.coe_zero, zero_mul]]
  have hA : ∀ a : EReal, (∑ t ∈ range T, ∑ j, clip (Ideal.exp2 (z t j - runMax z T) * w t j * a) * x t j) = ∑ k, clip ((u k : EReal) * vs k * a) * v k := by
    intro a
    have e1 : (∑ t ∈ range T, ∑ j, clip (Ideal.exp2 (z t j - runMax z T) * w t j * a) * x t j) = ∑ t ∈ range T, ∑ j, clip ((u (key (c0 + t) j) : EReal) * vs (key (c0 + t) j) * a) * v (key (c0 + t) j) :=
      sum_congr rfl fun t ht => sum_congr rfl fun j _ => by rw [hu t (mem_range.mp ht), hur, hw t (mem_range.mp ht), hx t (mem_range.mp ht)]
    rw [e1, sum_keys hT (fun k => clip ((u k : EReal) * vs k * a) * v k) fun k hk => by rw [hout k hk, EReal.coe_zero, zero_mul, zero_mul, clip_zero, zero_mul]]
  unfold kerRow refRow kerCount
  rw [hA, hL', hL, hW]
  simp only [hur]
  generalize hl : (∑ k, u k) = L
  have hL0 : 0 ≤ L := hl ▸ sum_nonneg fun k _ => hu0 k
  rcases hL0.eq_or_lt with h0 | hpos
  · have hz : ∀ k, u k = 0 := fun k => (sum_eq_zero_iff_of_nonneg fun k _ => hu0 k).mp (hl.trans h0.symm) k (mem_univ k)
    simp only [hz, EReal.coe_zero, zero_mul, clip_zero, sum_const_zero]
  · have hi : Ideal.div 1 (L : EReal) = ((L⁻¹ : ℝ) : EReal) := by
      unfold Ideal.div
      rw [if_neg (by exact_mod_cast hpos.ne'), one_mul, EReal.coe_inv]
    have hd : ∀ y : EReal, Ideal.div y (L : EReal) = y * ((L⁻¹ : ℝ) : EReal) := by
      intro y
      unfold Ideal.div
      rw [if_neg (by exact_mod_cast hpos.ne'), EReal.coe_inv]
    have hi0 : (0 : EReal) ≤ ((L⁻¹ : ℝ) : EReal) := EReal.coe_nonneg.mpr (inv_nonneg.mpr hpos.le)
    have hw0 : ∀ k, (0 : EReal) ≤ (u k : EReal) * ((L⁻¹ : ℝ) : EReal) * vs k := fun k =>
      mul_nonneg (mul_nonneg (EReal.coe_nonneg.mpr (hu0 k)) hi0) (hvs k)
    have hx : max 0 (univ.sup fun k => (u k : EReal) * vs k) * ((L⁻¹ : ℝ) : EReal)
        = univ.sup fun k => max ((u k : EReal) * ((L⁻¹ : ℝ) : EReal) * vs k) (-((u k : EReal) * ((L⁻¹ : ℝ) : EReal) * vs k)) := by
      rw [sup_mul _ _ hi0]
      have e1 : (univ.sup fun k => max ((u k : EReal) * ((L⁻¹ : ℝ) : EReal) * vs k) (-((u k : EReal) * ((L⁻¹ : ℝ) : EReal) * vs k)))
          = univ.sup fun k => (u k : EReal) * vs k * ((L⁻¹ : ℝ) : EReal) :=
        sup_congr rfl fun k _ => by
          rw [max_eq_left (le_trans (by rw [EReal.neg_le, neg_zero]; exact hw0 k) (hw0 k)), mul_right_comm]
      rw [e1]
      refine max_eq_right (le_trans ?_ (le_sup (mem_univ (0 : Fin 32768))))
      rw [mul_right_comm]
      exact hw0 0
    rw [hd (max 0 _), hi, hx]
    generalize (univ.sup fun k => max ((u k : EReal) * ((L⁻¹ : ℝ) : EReal) * vs k) (-((u k : EReal) * ((L⁻¹ : ℝ) : EReal) * vs k))) * invTop = y
    rw [refExpo_eq, hd]
    generalize expo (count y) = e
    have h1 : Ideal.exp2 (((e : ℤ) : ℝ) : EReal) = (((2 : ℝ) ^ e : ℝ) : EReal) := by
      rw [Ideal.exp2_coe]
      exact congrArg Real.toEReal (Real.rpow_intCast 2 e)
    have h2 : Ideal.exp2 (0 - (((e : ℤ) : ℝ) : EReal)) = (((2 : ℝ) ^ (-e) : ℝ) : EReal) := by
      rw [zero_sub, ← EReal.coe_neg, Ideal.exp2_coe]
      refine congrArg Real.toEReal ?_
      show (2 : ℝ) ^ (-(e : ℝ)) = _
      rw [← Int.cast_neg, Real.rpow_intCast]
    rw [h1, h2]
    refine congrArg (· * (((2 : ℝ) ^ e : ℝ) : EReal)) (sum_congr rfl fun k _ => congrArg (fun a => clip a * v k) ?_)
    rw [mul_comm (((2 : ℝ) ^ (-e) : ℝ) : EReal), ← mul_assoc, mul_right_comm (u k : EReal) (vs k)]

end Cert.Attention
-- ==== Proof.KRead.lean ====
module

public import proofs.«01_k».proof.Proof.Body
public import proofs.«01_k».proof.Proof.Row
public import Idealize.ShloMosaic.Lib.Pointwise

/-! # What one point of the attention grid computes, over extended reals

The two loops of the body, read row by row: the carry of the first loop is the running maximum, the running largest
scaled weight and the running sum of `Online`, and the second loop's result is the number `kerRow` of `Row`. -/

@[expose] public section

namespace Cert.KernelIdeal.Gen

open Idealize.ShloMosaic Idealize.ShloMosaic.TcCoe Finset
open Cert.Attention

set_option maxRecDepth 16384

noncomputable section

theorem named_floor : Named.named (F := Ideal) (φ := .f32) κ "floor" 4056543946#32 = (⊥ : EReal) := IdealRules.named_const.ideal_named_scalar _ _ _ _ rfl
theorem named_mask : Named.named (F := Ideal) (φ := .f32) κ "mask" 4048155338#32 = (⊥ : EReal) := IdealRules.named_const.ideal_named_scalar _ _ _ _ rfl
theorem named_scale : Named.named (F := Ideal) (φ := .f32) κ "scale" 1040356334#32 = (((Real.sqrt 128)⁻¹ * (Real.log 2)⁻¹ : ℝ) : EReal) := IdealRules.named_const.ideal_named_scalar _ _ _ _ rfl
theorem named_log2e : Named.named (F := Ideal) (φ := .f32) κ "log2e" 1069066811#32 = (((Real.log 2)⁻¹ : ℝ) : EReal) := IdealRules.named_const.ideal_named_scalar _ _ _ _ rfl

theorem ofBits_bot : Ideal.ofBits FTy.f32 4286578688#32 = ⊥ := by
  simp [Ideal.ofBits, Ideal.ieee]

theorem fold_max_bot {ι : Type} [Fintype ι] (f : ι → EReal) : Finset.fold max (Ideal.ofBits FTy.f32 4286578688#32) f univ = univ.sup f := by
  rw [ofBits_bot]; rfl

/-- The powers of two that the kernel compares with. -/
theorem pow_at (j : Fin 252) : Ideal.ofBits .f32 (BitVec.ofNat 32 ((j.val + 1) * 8388608)) = (((2 : ℝ) ^ ((j.val : ℤ) - 126) : ℝ) : EReal) := by
  rw [ofBits_pow (by omega) (by omega)]
  congr 2
  push_cast
  ring

/-- The power-of-two exponent of the kernel's quantiser is the count of the powers reached. -/
theorem pay30_at (x : FVec Ideal S256x1 .f32) (r : Fin 256) :
    k0_pay30 (F := Ideal) x k0_pay29 127#32 (ix2 r 0) = expoWord (count (x (ix2 r 0))) := by
  pointwise [k0_pay30, k0_pay29]
  simp only [word_at, pow_at]
  rw [fold_count]
  rfl

namespace Blk

variable {i : grid0.Coords} (B : Blk Ideal i)

/-- The scores of row `r` in chunk `t`. -/
def rowScores (r : Fin 256) (t : ℕ) (j : Fin 512) : EReal := if h : t < B.trips then B.scores ⟨t, h⟩ (ix2 r j) else ⊥
/-- The value scales in chunk `t`. -/
def rowScales (t : ℕ) (j : Fin 512) : EReal := if h : t < B.trips then B.valScales ⟨t, h⟩ (ix3 0 0 j) else 0
/-- Column `d` of the values in chunk `t`. -/
def rowValues (d : Fin 128) (t : ℕ) (j : Fin 512) : EReal := if h : t < B.trips then B.values ⟨t, h⟩ (ix4 0 0 j d) else 0

theorem newMax_at (t : Fin B.trips) (m : FVec Ideal S256x1 .f32) (r : Fin 256) :
    B.newMax t m (ix2 r 0) = max (m (ix2 r 0)) (univ.sup fun j => B.scores t (ix2 r j)) := by
  rw [← fold_max_bot]
  show k0_pay4 (F := Ideal) _ _ _ _ _ _ _ _ _ _ _ _ _ _ = _
  pointwise [k0_pay4]
  rfl

theorem weights_at (t : Fin B.trips) (m : FVec Ideal S256x1 .f32) (r : Fin 256) (j : Fin 512) :
    B.weights t m (ix2 r j) = Ideal.exp2 (B.scores t (ix2 r j) - B.newMax t m (ix2 r 0)) := by
  show k0_pay5 (F := Ideal) _ _ _ _ _ _ _ _ _ _ _ _ _ _ = _
  pointwise [k0_pay5]
  rfl

theorem drop_at (t : Fin B.trips) (m : FVec Ideal S256x1 .f32) (r : Fin 256) :
    B.drop t m (ix2 r 0) = m (ix2 r 0) - B.newMax t m (ix2 r 0) := by
  show k0_pay6 (F := Ideal) _ _ _ _ _ _ _ _ _ _ _ _ _ _ = _
  pointwise [k0_pay6]
  rfl

theorem top_at (a d : FVec Ideal S256x1 .f32) (b : Vec Ideal S1x1x512 .f32) (w : FVec Ideal S256x512 .f32) (r : Fin 256) :
    k0_pay22 (F := Ideal) a (k0_pay2 b) w d (ix2 r 0) = max (a (ix2 r 0) * Ideal.exp2 (d (ix2 r 0))) (univ.sup fun j => w (ix2 r j) * b (ix3 0 0 j)) := by
  rw [← fold_max_bot]
  pointwise [k0_pay22, k0_pay20, k0_pay2]
  rfl

theorem sum_at (a d : FVec Ideal S256x1 .f32) (w : FVec Ideal S256x512 .f32) (r : Fin 256) :
    k0_pay23 (F := Ideal) a w d (ix2 r 0) = a (ix2 r 0) * Ideal.exp2 (d (ix2 r 0)) + ∑ j, w (ix2 r j) := by
  pointwise [k0_pay23, k0_pay20]
  rfl

/-- The carry of the first loop. -/
theorem carry_at (r : Fin 256) : ∀ n, n ≤ B.trips →
    (B.carry n).1 (ix2 r 0) = runMax (B.rowScores r) n ∧ (B.carry n).2.1 (ix2 r 0) = runTop (B.rowScores r) B.rowScales n
      ∧ (B.carry n).2.2 (ix2 r 0) = runSum (B.rowScores r) n
  | 0, _ => by
    refine ⟨?_, ?_, ?_⟩
    · show k0_pay17 (F := Ideal) (ix2 r 0) = ⊥
      rw [← named_floor]
      pointwise [k0_pay17, k0_pay16]
    · show k0_pay18 (F := Ideal) (ix2 r 0) = 0
      pointwise [k0_pay18]
      exact mul_zero _
    · show k0_pay19 (F := Ideal) (ix2 r 0) = 0
      pointwise [k0_pay19]
      exact mul_zero _
  | n + 1, h => by
    obtain ⟨h1, h2, h3⟩ := carry_at r n (by omega)
    have hc := B.carry_succ ⟨n, h⟩
    simp only at hc
    have hz : ∀ j, B.rowScores r n j = B.scores ⟨n, h⟩ (ix2 r j) := fun j => dif_pos h
    have hv : ∀ j, B.rowScales n j = B.valScales ⟨n, h⟩ (ix3 0 0 j) := fun j => dif_pos h
    have hm : B.newMax ⟨n, h⟩ (B.carry n).1 (ix2 r 0) = runMax (B.rowScores r) (n + 1) := by
      rw [newMax_at, h1]
      show _ = max _ (univ.sup (B.rowScores r n))
      rw [sup_congr rfl fun j _ => (hz j).symm]
    rw [hc]
    refine ⟨hm, ?_, ?_⟩
    · show k0_pay22 (F := Ideal) _ _ _ _ _ = _
      rw [top_at, h2, drop_at, hm, h1]
      show _ = max _ (univ.sup _)
      refine congrArg (max _) (sup_congr rfl fun j _ => ?_)
      rw [weights_at, hm, hz, hv]
    · show k0_pay23 (F := Ideal) _ _ _ _ = _
      rw [sum_at, h3, drop_at, hm, h1]
      show _ = _ + ∑ j, _
      refine congrArg (_ + ·) (sum_congr rfl fun j _ => ?_)
      rw [weights_at, hm, hz]

theorem acc_step_at (m l x : FVec Ideal S256x1 .f32) (a : FVec Ideal S256x128 .f32) (vs : Vec Ideal S1x1x512 .f32) (z : FVec Ideal S256x512 .f32) (v : Vec Ideal S1x1x512x128 .fp8e4m3) (r : Fin 256) (d : Fin 128) :
    k0_pay33 (F := Ideal) m l x k0_pay29 127#32 a vs (k0_pay21 z) v (ix2 r d)
      = a (ix2 r d) + ∑ j, clip (Ideal.exp2 (z (ix2 r j) - m (ix2 r 0)) * vs (ix3 0 0 j) * Ideal.div (((2 : ℝ) ^ (-expo (count (x (ix2 r 0)))) : ℝ) : EReal) (l (ix2 r 0))) * v (ix4 0 0 j d) := by
  rw [← pow_down (count_le (x (ix2 r 0))), ← pay30_at]
  pointwise [k0_pay33, k0_pay31, k0_pay21]
  rfl

theorem scale_at (a l : FVec Ideal S256x1 .f32) (r : Fin 256) :
    k0_pay28 (F := Ideal) a l (ix2 r 0) = Ideal.div (a (ix2 r 0)) (l (ix2 r 0)) * invTop := by
  pointwise [k0_pay28]

/-- What the second loop carries. -/
theorem acc_at (r : Fin 256) (d : Fin 128) : ∀ n, n ≤ B.trips →
    B.acc n (ix2 r d) = ∑ t ∈ range n, ∑ j, clip (Ideal.exp2 (B.rowScores r t j - runMax (B.rowScores r) B.trips) * B.rowScales t j
      * Ideal.div (((2 : ℝ) ^ (-expo (kerCount (B.rowScores r) B.rowScales B.trips)) : ℝ) : EReal) (runSum (B.rowScores r) B.trips)) * B.rowValues d t j
  | 0, _ => by
    show k0_pay32 (F := Ideal) (ix2 r d) = 0
    pointwise [k0_pay32]
  | n + 1, h => by
    have ih := acc_at r d n (by omega)
    have ha := B.acc_succ ⟨n, h⟩
    simp only at ha
    obtain ⟨h1, h2, h3⟩ := B.carry_at r B.trips le_rfl
    have hs : B.scale (ix2 r 0) = Ideal.div (runTop (B.rowScores r) B.rowScales B.trips) (runSum (B.rowScores r) B.trips) * invTop := by
      unfold Blk.scale
      rw [scale_at, h2, h3]
    rw [ha, acc_step_at, ih, h1, h3, hs, sum_range_succ]
    refine congrArg (_ + ·) (sum_congr rfl fun j _ => ?_)
    have hz : B.rowScores r n j = B.scores ⟨n, h⟩ (ix2 r j) := dif_pos h
    have hv : B.rowScales n j = B.valScales ⟨n, h⟩ (ix3 0 0 j) := dif_pos h
    have hx : B.rowValues d n j = B.values ⟨n, h⟩ (ix4 0 0 j d) := dif_pos h
    rw [hz, hv, hx]
    rfl

/-- One entry of the output block. -/
theorem out_at (r : Fin 256) (d : Fin 128) :
    k0_pay1 (F := Ideal) B.out (ix3 0 r d) = kerRow (B.rowScores r) B.rowScales (B.rowValues d) B.trips := by
  obtain ⟨h1, h2, h3⟩ := B.carry_at r B.trips le_rfl
  have hs : B.scale (ix2 r 0) = Ideal.div (runTop (B.rowScores r) B.rowScales B.trips) (runSum (B.rowScores r) B.trips) * invTop := by
    unfold Blk.scale
    rw [scale_at, h2, h3]
  have hp : k0_pay1 (F := Ideal) B.out (ix3 0 r d) = B.acc B.trips (ix2 r d) * Ideal.ofBits .f32 (IntOp.shli .vector (IntOp.addi (k0_pay30 (F := Ideal) B.scale k0_pay29 127#32 (ix2 r 0)) 127#32) 23#32) := by
    unfold Blk.out
    pointwise [k0_pay1, k0_pay35]
  rw [hp, pay30_at, pow_up (count_le _), acc_at B r d _ le_rfl, hs]
  rfl

end Blk

end

end Cert.KernelIdeal.Gen
-- ==== Proof.Score.lean ====
module

public import proofs.«01_k».proof.Proof.Row
public import Idealize.ShloMosaic.Lib.Pointwise

/-! # The masked score of a query and a key

Both programs test the mask and take the distance in 32-bit words. These lemmas read the words as numbers. -/

@[expose] public section

namespace Cert.Attention

open Idealize.ShloMosaic

noncomputable section

/-- The score of a query and a key: their product with the scales of both and one over the square root of the width of a
head, minus the slope of the head times the distance, where the key is not later than the query and in its segment, and
minus infinity elsewhere. -/
def score (q k : (⟨4, ![2, 8, 32768, 128]⟩ : Shape).Idx → EReal) (qs ks : (⟨3, ![2, 32768, 8]⟩ : Shape).Idx → EReal)
    (sl : (⟨1, ![8]⟩ : Shape).Idx → EReal) (s : (⟨2, ![2, 32768]⟩ : Shape).Idx → BitVec 32)
    (b : Fin 2) (h : Fin 8) (r j : Fin 32768) : EReal :=
  if j ≤ r ∧ s (ix2 b r) = s (ix2 b j) then
    (∑ x : Fin 128, q (ix4 b h r x) * k (ix4 b h j x)) * (qs (ix3 b r h) * (((Real.sqrt 128)⁻¹ : ℝ) : EReal)) * ks (ix3 b j h)
      - sl (ix1 h) * ((((r.val : ℤ) - (j.val : ℤ) : ℤ) : ℝ) : EReal)
  else ⊥

/-- One entry of the attention: the row value of a query, the scales of its head's values and one column of the values,
where the columns of the heads stand side by side. -/
def attended (q k v : (⟨4, ![2, 8, 32768, 128]⟩ : Shape).Idx → EReal) (qs ks vs : (⟨3, ![2, 32768, 8]⟩ : Shape).Idx → EReal)
    (sl : (⟨1, ![8]⟩ : Shape).Idx → EReal) (s : (⟨2, ![2, 32768]⟩ : Shape).Idx → BitVec 32)
    (b : Fin 2) (r : Fin 32768) (h : Fin 8) (d : Fin 128) : EReal :=
  refRow (score q k qs ks sl s b h r) (fun j => vs (ix3 b j h)) (fun j => v (ix4 b h j d))

theorem toInt_small {n : ℕ} (h : n < 2147483648) : (BitVec.ofNat 32 n).toInt = n := by
  rw [BitVec.toInt_eq_toNat_cond, BitVec.toNat_ofNat, Nat.mod_eq_of_lt (by omega), if_pos (by omega)]

/-- The difference of two positions, as a word. -/
theorem toInt_sub_small {m n : ℕ} (hm : m < 1073741824) (hn : n < 1073741824) :
    (IntOp.subi (BitVec.ofNat 32 m) (BitVec.ofNat 32 n)).toInt = (m : ℤ) - n := by
  show (BitVec.ofNat 32 m - BitVec.ofNat 32 n).toInt = _
  rw [BitVec.toInt_sub, toInt_small (by omega), toInt_small (by omega), Int.bmod_def]
  omega

theorem ofBool_one (p : Bool) : BitVec.ofBool p = 1#1 ↔ p = true := by
  cases p <;> decide

theorem andi_one (x y : BitVec 1) : IntOp.andi x y = 1#1 ↔ x = 1#1 ∧ y = 1#1 := by
  revert x y; decide

theorem widen_one (x : BitVec 1) : IntOp.cmpi .ne (BitVec.setWidth 32 x) 0#32 = 1#1 ↔ x = 1#1 := by
  revert x; decide

theorem sge_one (x y : BitVec 32) : IntOp.cmpi .sge x y = 1#1 ↔ y.toInt ≤ x.toInt := by
  show BitVec.ofBool (y.sle x) = 1#1 ↔ _
  rw [ofBool_one, BitVec.sle_iff_toInt_le]

theorem sle_one (x y : BitVec 32) : IntOp.cmpi .sle x y = 1#1 ↔ x.toInt ≤ y.toInt := by
  show BitVec.ofBool (x.sle y) = 1#1 ↔ _
  rw [ofBool_one, BitVec.sle_iff_toInt_le]

theorem slt_one (x y : BitVec 32) : IntOp.cmpi .slt x y = 1#1 ↔ x.toInt < y.toInt := by
  show BitVec.ofBool (x.slt y) = 1#1 ↔ _
  rw [ofBool_one, BitVec.slt_iff_toInt_lt]

theorem eq_one (x y : BitVec 32) : IntOp.cmpi .eq x y = 1#1 ↔ x = y := by
  show BitVec.ofBool (x == y) = 1#1 ↔ _
  rw [ofBool_one, beq_iff_eq]

/-- A select is the conditional of what its bit says. -/
theorem select_eq_ite {α : Type} {c : BitVec 1} {P : Prop} [Decidable P] (h : c = 1#1 ↔ P) (a b : α) :
    Scalar.select c a b = if P then a else b := by
  show (if c = 1 then a else b) = _
  exact if_congr h rfl rfl

/-- The distance of two positions, as a number. -/
theorem sitofp_sub {m n : ℕ} (hm : m < 1073741824) (hn : n < 1073741824) :
    FloatOps.sitofp (F := Ideal) FTy.f32 (IntOp.subi (BitVec.ofNat 32 m) (BitVec.ofNat 32 n)) = ((((m : ℤ) - (n : ℤ) : ℤ) : ℝ) : EReal) := by
  show (((IntOp.subi (BitVec.ofNat 32 m) (BitVec.ofNat 32 n)).toInt : ℝ) : EReal) = _
  rw [toInt_sub_small hm hn]

end

end Cert.Attention
-- ==== Proof.Mask.lean ====
module

public import proofs.«01_k».proof.Proof.Host
public import Idealize.ShloMosaic.Lib.Pointwise

/-! What the two tables of the kernel say when the segment numbers do not decrease along a row:
the end of a key bounds exactly the queries of its segment, and every key before the start of a
block lies in an earlier segment than the rows of the block. -/

@[expose] public section
namespace Cert.KernelIdeal.Gen
open Idealize.ShloMosaic Idealize.ShloMosaic.TcCoe
set_option maxRecDepth 16384

/-- The segment numbers do not decrease along a row. -/
def Ordered (s : Vec Ideal S2x32768 .i32) : Prop :=
  ∀ (b : Fin 2) (p : ℕ) (h : p + 1 < 32768),
    (s (at2 b ⟨p, by omega⟩)).toInt ≤ (s (at2 b ⟨p + 1, h⟩)).toInt

theorem Ordered.le {s : Vec Ideal S2x32768 .i32} (hs : Ordered s) (b : Fin 2) :
    ∀ {p q : Fin 32768}, p ≤ q → (s (at2 b p)).toInt ≤ (s (at2 b q)).toInt := by
  rintro ⟨p, hp⟩ ⟨q, hq⟩ h
  replace h : p ≤ q := h
  revert hq
  induction q, h using Nat.le_induction with
  | base => exact fun _ => le_rfl
  | succ q h ih => exact fun hq => (ih (by omega)).trans (hs b q hq)

theorem ofBool_eq_one (p : Bool) : BitVec.ofBool p = 1#1 ↔ p = true := by
  cases p <;> decide

theorem firsts_zero (s : Vec Ideal S2x32768 .i32) (b : Fin 2) :
    firsts (F := Ideal) s (at2 b 0) = 1#1 := by
  unfold at2
  pointwise [firsts, catFirst]

/-- A later place is a first of its segment where its number differs from the one before. -/
theorem firsts_succ (s : Vec Ideal S2x32768 .i32) (b : Fin 2) (q : ℕ) (h : q + 1 < 32768) :
    firsts (F := Ideal) s (at2 b ⟨q + 1, h⟩) = 1#1 ↔
      s (at2 b ⟨q + 1, h⟩) ≠ s (at2 b ⟨q, by omega⟩) := by
  have e : firsts (F := Ideal) s (at2 b ⟨q + 1, h⟩) =
      IntOp.cmpi .ne (s (at2 b ⟨q + 1, h⟩)) (s (at2 b ⟨q, by omega⟩)) := by
    unfold at2
    pointwise [firsts, catFirst]
    rw [dif_neg (by omega)]
    simp [Nat.add_comm]
  rw [e]
  show BitVec.ofBool (_ != _) = 1#1 ↔ _
  rw [ofBool_eq_one, bne_iff_ne]

theorem lasts_end (s : Vec Ideal S2x32768 .i32) (b : Fin 2) :
    lasts (F := Ideal) s (at2 b 32767) = 1#1 := by
  unfold at2
  pointwise [lasts, catLast]

/-- A place before the end is a last of its segment where the number after it differs. -/
theorem lasts_lt (s : Vec Ideal S2x32768 .i32) (b : Fin 2) (q : ℕ) (h : q + 1 < 32768) :
    lasts (F := Ideal) s (at2 b ⟨q, by omega⟩) = 1#1 ↔
      s (at2 b ⟨q + 1, h⟩) ≠ s (at2 b ⟨q, by omega⟩) := by
  have e : lasts (F := Ideal) s (at2 b ⟨q, by omega⟩) =
      firsts (F := Ideal) s (at2 b ⟨q + 1, h⟩) := by
    unfold at2
    pointwise [lasts, catLast]
    rw [dif_pos (by omega)]
    congr 2
    exact Fin.ext (Nat.add_comm _ _)
  rw [e, firsts_succ]

/-- A query at or after a key lies before the end of the key just when both have one segment. -/
theorem lt_ends_iff {s : Vec Ideal S2x32768 .i32} (hs : Ordered s) (b : Fin 2)
    {j r : Fin 32768} (hjr : j ≤ r) :
    (r.val : ℤ) < (ends (F := Ideal) s (ix3 b 0 j)).toInt ↔ s (at2 b r) = s (at2 b j) := by
  have hr := r.isLt
  rw [lt_ends s b j (r.val : ℤ) (by omega)]
  have mark : ∀ q : Fin 32768, (r.val : ℤ) < (endMarks (F := Ideal) s (at2 b q)).toInt ↔
      (lasts (F := Ideal) s (at2 b q) = 1#1 → r ≤ q) := by
    intro q
    have hq := q.isLt
    rw [endMarks_at]
    split
    · next hl =>
      have : (BitVec.ofNat 32 q.val + 1#32).toInt = (q.val : ℤ) + 1 := by
        rw [show BitVec.ofNat 32 q.val + 1#32 = BitVec.ofNat 32 (q.val + 1) by
          rw [BitVec.ofNat_add], toInt_ofNat (by omega)]
        simp
      rw [this]
      constructor
      · intro h _
        exact Fin.le_def.2 (by omega)
      · intro h
        have := Fin.le_def.1 (h hl)
        omega
    · next hl =>
      have : (32768#32).toInt = 32768 := by decide
      rw [this]
      exact ⟨fun _ h => absurd h hl, fun _ => by omega⟩
  simp only [mark]
  constructor
  · intro h
    obtain ⟨r, hr⟩ := r
    obtain ⟨j, hj⟩ := j
    have hjr : j ≤ r := hjr
    -- no last place from the key to the row: the number stays
    have step : ∀ p (hp : p < 32768), j ≤ p → p ≤ r → s (at2 b ⟨p, hp⟩) = s (at2 b ⟨j, hj⟩) := by
      intro p hp hjp
      induction p, hjp using Nat.le_induction with
      | base => exact fun _ => rfl
      | succ p hjp ih =>
        intro hpr
        rw [← ih (by omega) (by omega)]
        by_contra hne
        have := h ⟨p, by omega⟩ hjp ((lasts_lt s b p hp).2 hne)
        have : r ≤ p := this
        omega
    exact step r hr hjr le_rfl
  · intro e q hjq hl
    by_contra hlt
    have hqr : q.val < r.val := by
      have := not_le.1 hlt
      exact this
    have hne := (lasts_lt s b q.val (by omega)).1 hl
    have h1 := hs.le b hjq
    have h2 := hs b q.val (by omega)
    have h3 := hs.le b (p := ⟨q.val + 1, by omega⟩) (q := r) (Fin.le_def.2 (by simpa using hqr))
    rw [e] at h3
    have e1 : (s (at2 b ⟨q.val + 1, by omega⟩)).toInt = (s (at2 b ⟨q.val, by omega⟩)).toInt := by
      have : (⟨q.val, by omega⟩ : Fin 32768) = q := rfl
      rw [this] at h2 ⊢
      omega
    exact hne (BitVec.eq_of_toInt_eq e1)

/-- A key before the start word of a place is in another segment than every row from there on. -/
theorem before_start {s : Vec Ideal S2x32768 .i32} (hs : Ordered s) (b : Fin 2)
    {k p r : Fin 32768} (hk : (k.val : ℤ) < (starts (F := Ideal) s (at2 b p)).toInt)
    (hpr : p ≤ r) : s (at2 b r) ≠ s (at2 b k) := by
  have hk' := k.isLt
  have hn := (not_congr (starts_lt s b p ((k.val : ℤ) + 1) (by omega))).1 (by omega)
  push Not at hn
  obtain ⟨q, hqp, hq⟩ := hn
  rw [startMarks_at] at hq
  split at hq
  · next hf =>
    rw [toInt_ofNat (by have := q.isLt; omega)] at hq
    obtain ⟨q, hq'⟩ := q
    obtain ⟨q, rfl⟩ : ∃ m, q = m + 1 := ⟨q - 1, by simp at hq; omega⟩
    have hne := (firsts_succ s b q hq').1 hf
    have h1 := hs.le b (p := k) (q := ⟨q, by omega⟩) (Fin.le_def.2 (by simp at hq ⊢; omega))
    have h2 := hs b q hq'
    have h3 := hs.le b (hqp.trans hpr)
    intro e
    rw [e] at h3
    exact hne (BitVec.eq_of_toInt_eq (by omega))
  · have : (0#32).toInt = 0 := by decide
    omega

/-- The start of a block is at most its first row. -/
theorem starts_le (s : Vec Ideal S2x32768 .i32) (b : Fin 2) (p : Fin 32768) :
    (starts (F := Ideal) s (at2 b p)).toInt ≤ p.val := by
  have hp := p.isLt
  have := (starts_lt s b p ((p.val : ℤ) + 1) (by omega)).2 (fun q hq => by
    have hq := Fin.le_def.1 hq
    rw [startMarks_at]
    split
    · rw [toInt_ofNat (by have := q.isLt; omega)]
      omega
    · have : (0#32).toInt = 0 := by decide
      omega)
  omega

end Cert.KernelIdeal.Gen
-- ==== Proof.KScore.lean ====
module

public import proofs.«01_k».proof.Proof.KRead
public import proofs.«01_k».proof.Proof.Score
public import proofs.«01_k».proof.Proof.Mask
public import Idealize.ShloMosaic.Lib.Pipeline.ValueKit

/-! # One point of the attention grid against the whole arrays

A point visits the chunks of 512 keys from the one that holds the start word of its rows to the one that holds its last
row. With segment numbers that do not decrease, the keys it skips are masked, and the scores it computes are those of the
whole arrays times one over the logarithm of two. So each entry of its output is the row value of the whole arrays. -/

@[expose] public section

namespace Cert.KernelIdeal.Gen

open Idealize.ShloMosaic Idealize.ShloMosaic.TcCoe Finset
open Cert.Attention

set_option maxRecDepth 16384

noncomputable section

theorem word_eq (w : BitVec 32) : w = BitVec.ofNat 32 w.toNat := by simp

/-- Where chunk `t` starts in the keys and values. -/
theorem off3_of (i : grid0.Coords) (w : BitVec 32) (hn : w.toNat < 2 ^ 31) (t : Fin (k0_t1_loop i w).trips) :
    k0_off3 i w t = ![0, 0, 512 * (w.toNat / 512 + t), 0] := by
  obtain ⟨n, hm, rfl⟩ : ∃ n, n < 2 ^ 31 ∧ w = BitVec.ofNat 32 n := ⟨_, hn, word_eq w⟩
  rw [off3_eq i hm, BitVec.toNat_ofNat, Nat.mod_eq_of_lt (by omega)]

/-- Where chunk `t` starts in the scales. -/
theorem off4_of (i : grid0.Coords) (w : BitVec 32) (hn : w.toNat < 2 ^ 31) (t : Fin (k0_t1_loop i w).trips) :
    k0_off4 i w t = ![0, (i 1).val, 512 * (w.toNat / 512 + t)] := by
  obtain ⟨n, hm, rfl⟩ : ∃ n, n < 2 ^ 31 ∧ w = BitVec.ofNat 32 n := ⟨_, hn, word_eq w⟩
  rw [off4_eq i hm, BitVec.toNat_ofNat, Nat.mod_eq_of_lt (by omega)]

/-- Where chunk `t` starts in the segment ends. -/
theorem off5_of (i : grid0.Coords) (w : BitVec 32) (hn : w.toNat < 2 ^ 31) (t : Fin (k0_t1_loop i w).trips) :
    k0_off5 i w t = ![0, 0, 512 * (w.toNat / 512 + t)] := by
  obtain ⟨n, hm, rfl⟩ : ∃ n, n < 2 ^ 31 ∧ w = BitVec.ofNat 32 n := ⟨_, hn, word_eq w⟩
  rw [off5_eq i hm, BitVec.toNat_ofNat, Nat.mod_eq_of_lt (by omega)]

theorem iv_of (i : grid0.Coords) (w : BitVec 32) (hn : w.toNat < 2 ^ 31) (t : Fin (k0_t1_loop i w).trips) :
    Scf.iv (fdiv w) 1#32 t.val = BitVec.ofNat 32 (w.toNat / 512 + t) := by
  obtain ⟨n, hm, rfl⟩ : ∃ n, n < 2 ^ 31 ∧ w = BitVec.ofNat 32 n := ⟨_, hn, word_eq w⟩
  rw [iv1_toNat i hm, BitVec.toNat_ofNat, Nat.mod_eq_of_lt (by omega)]

theorem chunk_of (i : grid0.Coords) (w : BitVec 32) (hn : w.toNat < 2 ^ 31) (t : Fin (k0_t1_loop i w).trips) :
    w.toNat / 512 + t < 64 := by
  obtain ⟨n, hm, rfl⟩ : ∃ n, n < 2 ^ 31 ∧ w = BitVec.ofNat 32 n := ⟨_, hn, word_eq w⟩
  have := chunk_lt i hm t
  rw [BitVec.toNat_ofNat, Nat.mod_eq_of_lt (by omega)]
  exact this

theorem trips_of (i : grid0.Coords) (w : BitVec 32) (hn : w.toNat < 2 ^ 31) :
    (k0_t1_loop i w).trips = hiChunk (i 2).val - w.toNat / 512 := by
  obtain ⟨n, hm, rfl⟩ : ∃ n, n < 2 ^ 31 ∧ w = BitVec.ofNat 32 n := ⟨_, hn, word_eq w⟩
  rw [trips1_eq i hm, BitVec.toNat_ofNat, Nat.mod_eq_of_lt (by omega)]

namespace Blk

variable {i : grid0.Coords} (B : Blk Ideal i)

theorem keys_at (hn : B.w.toNat < 2 ^ 31) (t : Fin B.trips) (j : Fin 512) (x : Fin 128) :
    B.keys t (ix4 0 0 j x) = B.k (ix4 0 0 (key (B.w.toNat / 512 + t) j) x) := by
  have hc := chunk_of i B.w hn t
  unfold keys
  refine View.ld_unit_apply_of _ _ _ _ _ _ fun a => ?_
  refine Eq.trans ?_ (congrArg (· + _) (congrFun (off3_of i B.w hn t) a).symm)
  match a with
  | ⟨0, _⟩ => rfl
  | ⟨1, _⟩ => rfl
  | ⟨2, _⟩ => exact key_val hc j
  | ⟨3, _⟩ => exact (Nat.zero_add _).symm

theorem values_at (hn : B.w.toNat < 2 ^ 31) (t : Fin B.trips) (j : Fin 512) (x : Fin 128) :
    B.values t (ix4 0 0 j x) = B.v (ix4 0 0 (key (B.w.toNat / 512 + t) j) x) := by
  have hc := chunk_of i B.w hn t
  unfold values
  refine View.ld_unit_apply_of _ _ _ _ _ _ fun a => ?_
  refine Eq.trans ?_ (congrArg (· + _) (congrFun (off3_of i B.w hn t) a).symm)
  match a with
  | ⟨0, _⟩ => rfl
  | ⟨1, _⟩ => rfl
  | ⟨2, _⟩ => exact key_val hc j
  | ⟨3, _⟩ => exact (Nat.zero_add _).symm

theorem keyScales_at (hn : B.w.toNat < 2 ^ 31) (h : Fin 8) (hh : (i 1).val = h.val) (t : Fin B.trips) (j : Fin 512) :
    B.keyScales t (ix3 0 0 j) = B.ks (ix3 0 h (key (B.w.toNat / 512 + t) j)) := by
  have hc := chunk_of i B.w hn t
  unfold keyScales
  refine View.ld_unit_apply_of _ _ _ _ _ _ fun a => ?_
  refine Eq.trans ?_ (congrArg (· + _) (congrFun (off4_of i B.w hn t) a).symm)
  match a with
  | ⟨0, _⟩ => rfl
  | ⟨1, _⟩ => exact hh.symm
  | ⟨2, _⟩ => exact key_val hc j

theorem valScales_at (hn : B.w.toNat < 2 ^ 31) (h : Fin 8) (hh : (i 1).val = h.val) (t : Fin B.trips) (j : Fin 512) :
    B.valScales t (ix3 0 0 j) = B.vs (ix3 0 h (key (B.w.toNat / 512 + t) j)) := by
  have hc := chunk_of i B.w hn t
  unfold valScales
  refine View.ld_unit_apply_of _ _ _ _ _ _ fun a => ?_
  refine Eq.trans ?_ (congrArg (· + _) (congrFun (off4_of i B.w hn t) a).symm)
  match a with
  | ⟨0, _⟩ => rfl
  | ⟨1, _⟩ => exact hh.symm
  | ⟨2, _⟩ => exact key_val hc j

theorem ends_at (hn : B.w.toNat < 2 ^ 31) (t : Fin B.trips) (j : Fin 512) :
    B.ends t (ix3 0 0 j) = B.en (ix3 0 0 (key (B.w.toNat / 512 + t) j)) := by
  have hc := chunk_of i B.w hn t
  unfold ends
  refine View.ld_unit_apply_of _ _ _ _ _ _ fun a => ?_
  refine Eq.trans ?_ (congrArg (· + _) (congrFun (off5_of i B.w hn t) a).symm)
  match a with
  | ⟨0, _⟩ => rfl
  | ⟨1, _⟩ => rfl
  | ⟨2, _⟩ => exact key_val hc j

/-- The row a block's row is in the whole arrays. -/
def rowAt (i2 : Fin 128) (r : Fin 256) : Fin 32768 := ⟨256 * i2.val + r.val, by omega⟩

/-- The sum over the heads that keeps one of them is that one. -/
theorem head_sum (x : Fin 8 → EReal) (h : Fin 8) :
    (∑ y, Scalar.select (IntOp.cmpi .eq (BitVec.ofNat 32 y.val) (BitVec.ofNat 32 h.val)) (x y) 0) = x h := by
  have e : ∀ y : Fin 8, Scalar.select (IntOp.cmpi .eq (BitVec.ofNat 32 y.val) (BitVec.ofNat 32 h.val)) (x y) 0
      = if h = y then x y else 0 := fun y => select_eq_ite (by revert h y; decide) _ _
  simp only [e]
  rw [Finset.sum_ite_eq]
  simp

/-- A score of the block, in numbers. -/
theorem scores_at (hn : B.w.toNat < 2 ^ 31) (h : Fin 8) (hh : (i 1).val = h.val) (i2 : Fin 128) (hi : (i 2).val = i2.val)
    (t : Fin B.trips) (r : Fin 256) (j : Fin 512) :
    B.scores t (ix2 r j) =
      if key (B.w.toNat / 512 + t) j ≤ rowAt i2 r ∧ ((rowAt i2 r).val : ℤ) < (B.en (ix3 0 0 (key (B.w.toNat / 512 + t) j))).toInt then
        (∑ x, B.q (ix4 0 0 r x) * B.k (ix4 0 0 (key (B.w.toNat / 512 + t) j) x)) * B.qs (ix3 0 r h)
            * (B.ks (ix3 0 h (key (B.w.toNat / 512 + t) j)) * (((Real.sqrt 128)⁻¹ * (Real.log 2)⁻¹ : ℝ) : EReal))
          - B.slope * (((Real.log 2)⁻¹ : ℝ) : EReal) * (((((rowAt i2 r).val : ℤ) - ((key (B.w.toNat / 512 + t) j).val : ℤ) : ℤ) : ℝ) : EReal)
      else ⊥ := by
  have hc := chunk_of i B.w hn t
  have hk := key_val hc j
  have hr : IntOp.addi (Scalar.muli (BitVec.ofNat 32 (i 2).val) 256#32) (BitVec.ofNat 32 r.val) = BitVec.ofNat 32 (rowAt i2 r).val := by
    rw [hi]
    apply BitVec.eq_of_toNat_eq
    simp [Scalar.muli, IntOp.muli, IntOp.addi, rowAt]
    omega
  have hj : IntOp.addi (Scalar.muli (Scf.iv (fdiv B.w) 1#32 t.val) 512#32) (BitVec.ofNat 32 j.val) = BitVec.ofNat 32 (key (B.w.toNat / 512 + t) j).val := by
    rw [iv_of i B.w hn, hk]
    apply BitVec.eq_of_toNat_eq
    simp [Scalar.muli, IntOp.muli, IntOp.addi]
    omega
  have h1 := (rowAt i2 r).isLt
  have h2 := (key (B.w.toNat / 512 + t) j).isLt
  pointwise [Blk.scores, k0_pay3, k0_pay12, k0_pay13, k0_pay14, k0_pay15]
  rw [hr, hj, hh, head_sum (fun y => B.qs (ix3 0 r y)) h, named_scale, named_mask, named_log2e, sitofp_sub (by omega) (by omega)]
  simp only [B.keys_at hn, B.keyScales_at hn h hh, B.ends_at hn]
  refine select_eq_ite ?_ _ _
  rw [andi_one, sle_one, slt_one, toInt_small (by omega), toInt_small (by omega), Fin.le_def]
  simp

/-- One entry of a block's output is the row value of the whole arrays. -/
theorem out_eq (q k v : Vec Ideal S2x8x32768x128 .fp8e4m3) (qs ks vs : FVec Ideal S2x32768x8 .f32) (sl : FVec Ideal S8 .f32)
    (s : Vec Ideal S2x32768 .i32) (hs : Ordered s) (hvs : ∀ x, 0 ≤ vs x)
    (b : Fin 2) (h : Fin 8) (hh : (i 1).val = h.val) (i2 : Fin 128) (hi : (i 2).val = i2.val)
    (hw : B.w = blockStarts (F := Ideal) s (ix2 b i2)) (hsl : B.slope = sl (ix1 h))
    (hq : ∀ r x, B.q (ix4 0 0 r x) = q (ix4 b h (rowAt i2 r) x)) (hk : ∀ j x, B.k (ix4 0 0 j x) = k (ix4 b h j x))
    (hv : ∀ j x, B.v (ix4 0 0 j x) = v (ix4 b h j x)) (hqs : ∀ r, B.qs (ix3 0 r h) = qs (ix3 b (rowAt i2 r) h))
    (hks : ∀ j, B.ks (ix3 0 h j) = ks (ix3 b j h)) (hvsc : ∀ j, B.vs (ix3 0 h j) = vs (ix3 b j h))
    (hen : ∀ j, B.en (ix3 0 0 j) = Gen.ends (F := Ideal) s (ix3 b 0 j)) (r : Fin 256) (d : Fin 128) :
    k0_pay1 (F := Ideal) B.out (ix3 0 r d)
      = refRow (score q k qs ks sl s b h (rowAt i2 r)) (fun j => vs (ix3 b j h)) (fun j => v (ix4 b h j d)) := by
  have hn : B.w.toNat < 2 ^ 31 := by rw [hw]; exact blockStarts_lt s _
  have hT : B.trips = hiChunk i2.val - B.w.toNat / 512 := by rw [← hi]; exact trips_of i B.w hn
  have hwi : ((B.w.toNat : ℕ) : ℤ) = B.w.toInt := by
    rw [BitVec.toInt_eq_toNat_cond, if_pos (by omega)]
  have hst : B.w = starts (F := Ideal) s (at2 b ⟨256 * i2.val, by omega⟩) := hw.trans (blockStarts_at s b i2)
  have hle : B.w.toNat ≤ 256 * i2.val := by
    have := starts_le s b ⟨256 * i2.val, by omega⟩
    rw [← hst, ← hwi] at this
    exact Int.ofNat_le.1 this
  have hi2 := i2.isLt
  have hcT : B.w.toNat / 512 + B.trips = hiChunk i2.val := by rw [hT]; unfold hiChunk; omega
  rw [B.out_at]
  refine kerRow_eq (c0 := B.w.toNat / 512) (by rw [hcT]; unfold hiChunk; omega) _ _ _ _ _ _ ?_ ?_ ?_ ?_ fun j => hvs _
  · intro t ht j
    unfold rowScores
    rw [dif_pos ht, B.scores_at hn h hh i2 hi ⟨t, ht⟩ r j]
    simp only
    unfold score
    generalize key (B.w.toNat / 512 + t) j = K
    by_cases hK : K ≤ rowAt i2 r ∧ s (ix2 b (rowAt i2 r)) = s (ix2 b K)
    · have hm := (lt_ends_iff hs b hK.1).2 hK.2
      rw [← hen] at hm
      rw [if_pos ⟨hK.1, hm⟩, if_pos hK, sub_mul_toBinary]
      simp only [hq, hk, hqs, hks, hsl]
      unfold toBinary
      rw [EReal.coe_mul]
      congr 1 <;> ac_rfl
    · rw [if_neg hK, if_neg, toBinary, EReal.bot_mul_coe_of_pos (inv_pos.mpr log2_pos)]
      rintro ⟨h1, h2⟩
      rw [hen] at h2
      exact hK ⟨h1, (lt_ends_iff hs b h1).1 h2⟩
  · intro t ht j
    unfold rowScales
    rw [dif_pos ht, B.valScales_at hn h hh, hvsc]
  · intro t ht j
    unfold rowValues
    rw [dif_pos ht, B.values_at hn, hv]
  · intro K hK
    unfold score
    rw [if_neg]
    rintro ⟨h1, h2⟩
    have h1' : K.val ≤ 256 * i2.val + r.val := h1
    rcases hK with hK | hK
    · refine before_start hs b (k := K) (p := ⟨256 * i2.val, by omega⟩) (r := rowAt i2 r) ?_ (Fin.le_def.2 ?_) h2
      · rw [← hst, ← hwi]
        omega
      · show 256 * i2.val ≤ 256 * i2.val + r.val
        omega
    · rw [hcT] at hK
      unfold hiChunk at hK
      omega

end Blk

end

end Cert.KernelIdeal.Gen
-- ==== Proof.KValue.lean ====
module

public import proofs.«01_k».proof.Proof.Run
public import proofs.«01_k».proof.Proof.KScore
public import Idealize.ShloMosaic.Lib.Pipeline.ValueKit
public import Idealize.ShloMosaic.Lib.Pointwise.Index

/-! # The result of the attention program

Every point of the grid reads its blocks off the arrays the host operations hand over, and its output block is the block
of the result at the point. So every entry of the result is the row value of the program's arguments. -/

@[expose] public section

namespace Cert.KernelIdeal.Gen

open Idealize.ShloMosaic Idealize.ShloMosaic.TcCoe Idealize.SL.Sem
open Idealize.ShloMosaic.Pipeline (Dat)
open Cert.Attention

set_option maxRecDepth 16384

noncomputable section

variable (m : (ℓ : Loc nD τ sig) → Buf (Elt Ideal) ℓ)

/-- Some contents of the tables. -/
def adm₀ : (pcfg0 (F := Ideal)).Adm := ⟨fun _ => fun _ => default, trivial⟩

theorem covers : ((cfgA m).win 8).Covers :=
  (by decide +kernel : ((cfg0 (F := Ideal) adm₀).win 8).Covers)

theorem i0_lt (i : grid0.Coords) : (i 0).val < 2 := (i 0).isLt
theorem i1_lt (i : grid0.Coords) : (i 1).val < 8 := (i 1).isLt
theorem i2_lt (i : grid0.Coords) : (i 2).val < 128 := (i 2).isLt

theorem tr1 (i : grid0.Coords) : cc0_transform_1 i = ![(i 0).val, (i 1).val, (i 2).val, 0] := by
  have := i0_lt i; have := i1_lt i; have := i2_lt i
  unfold cc0_transform_1
  simp only [BitVec.toNat_ofNat]
  repeat rw [Nat.mod_eq_of_lt (by omega)]
theorem tr2 (i : grid0.Coords) : cc0_transform_2 i = ![(i 0).val, (i 1).val, 0, 0] := by
  have := i0_lt i; have := i1_lt i; have := i2_lt i
  unfold cc0_transform_2
  simp only [BitVec.toNat_ofNat]
  repeat rw [Nat.mod_eq_of_lt (by omega)]
theorem tr3 (i : grid0.Coords) : cc0_transform_3 i = ![(i 0).val, (i 1).val, 0, 0] := by
  have := i0_lt i; have := i1_lt i; have := i2_lt i
  unfold cc0_transform_3
  simp only [BitVec.toNat_ofNat]
  repeat rw [Nat.mod_eq_of_lt (by omega)]
theorem tr4 (i : grid0.Coords) : cc0_transform_4 i = ![(i 0).val, (i 2).val, 0] := by
  have := i0_lt i; have := i1_lt i; have := i2_lt i
  unfold cc0_transform_4
  simp only [BitVec.toNat_ofNat]
  repeat rw [Nat.mod_eq_of_lt (by omega)]
theorem tr5 (i : grid0.Coords) : cc0_transform_5 i = ![(i 0).val, 0, 0] := by
  have := i0_lt i; have := i1_lt i; have := i2_lt i
  unfold cc0_transform_5
  simp only [BitVec.toNat_ofNat]
  repeat rw [Nat.mod_eq_of_lt (by omega)]
theorem tr6 (i : grid0.Coords) : cc0_transform_6 i = ![(i 0).val, 0, 0] := by
  have := i0_lt i; have := i1_lt i; have := i2_lt i
  unfold cc0_transform_6
  simp only [BitVec.toNat_ofNat]
  repeat rw [Nat.mod_eq_of_lt (by omega)]
theorem tr7 (i : grid0.Coords) : cc0_transform_7 i = ![(i 0).val, 0, 0] := by
  have := i0_lt i; have := i1_lt i; have := i2_lt i
  unfold cc0_transform_7
  simp only [BitVec.toNat_ofNat]
  repeat rw [Nat.mod_eq_of_lt (by omega)]
theorem tr8 (i : grid0.Coords) : cc0_transform_8 i = ![(i 0).val, (i 2).val, (i 1).val] := by
  have := i0_lt i; have := i1_lt i; have := i2_lt i
  unfold cc0_transform_8
  simp only [BitVec.toNat_ofNat]
  repeat rw [Nat.mod_eq_of_lt (by omega)]

/-- The place of a block's entry in its array. -/
theorem place (w : Fin (cfgA m).W) (t : Fin (cfgA m).N) (y : (((cfgA m).win w).xblock ((cfgA m).grid.coords t)).Idx) (a : Fin ((cfgA m).win w).shape.rank) (hk : ((cfgA m).win w).kind = .blocked) :
    (((((cfgA m).win w).rect t).emb y a : Fin _) : ℕ) = ((cfgA m).win w).index t a * ((cfgA m).win w).size a + (y a : ℕ) :=
  Pipeline.Window.rect_emb_val ((cfgA m).win w) t y a hk

/-- The queries of a point. -/
theorem iblk1_at (c : Dev nD) (t : Fin (cfgA m).N) (b : Fin 2) (hb : (grid0.coords t 0).val = b.val) (h : Fin 8) (hh : (grid0.coords t 1).val = h.val) (i2 : Fin 128) (hi : (grid0.coords t 2).val = i2.val) (r : Fin 256) (x : Fin 128) :
    iblk m c 1 t (ix4 0 0 r x) = V m c main_arg0 (ix4 b h (Blk.rowAt i2 r) x) := by
  show (((cfgA m).win 1).blk t).view.read (Elt Ideal) (V m c main_arg0) (ix4 0 0 r x) = _
  generalize V m c main_arg0 = X
  blk_simp
  refine congrArg X (funext fun a => Fin.ext ?_)
  refine (place m 1 t (ix4 0 0 r x) a rfl).trans ?_
  refine (congrArg (· * _ + _) (congrFun (tr1 (grid0.coords t)) a)).trans ?_
  match a with
  | ⟨0, _⟩ => show (grid0.coords t 0).val * 1 + 0 = b.val; omega
  | ⟨1, _⟩ => show (grid0.coords t 1).val * 1 + 0 = h.val; omega
  | ⟨2, _⟩ => show (grid0.coords t 2).val * 256 + r.val = 256 * i2.val + r.val; omega
  | ⟨3, _⟩ => show 0 * 128 + x.val = x.val; omega

/-- The keys of a point. -/
theorem iblk2_at (c : Dev nD) (t : Fin (cfgA m).N) (b : Fin 2) (hb : (grid0.coords t 0).val = b.val) (h : Fin 8) (hh : (grid0.coords t 1).val = h.val) (j : Fin 32768) (x : Fin 128) :
    iblk m c 2 t (ix4 0 0 j x) = V m c main_arg1 (ix4 b h j x) := by
  show (((cfgA m).win 2).blk t).view.read (Elt Ideal) (V m c main_arg1) (ix4 0 0 j x) = _
  generalize V m c main_arg1 = X
  blk_simp
  refine congrArg X (funext fun a => Fin.ext ?_)
  refine (place m 2 t (ix4 0 0 j x) a rfl).trans ?_
  refine (congrArg (· * _ + _) (congrFun (tr2 (grid0.coords t)) a)).trans ?_
  match a with
  | ⟨0, _⟩ => show (grid0.coords t 0).val * 1 + 0 = b.val; omega
  | ⟨1, _⟩ => show (grid0.coords t 1).val * 1 + 0 = h.val; omega
  | ⟨2, _⟩ => show 0 * 32768 + j.val = j.val; omega
  | ⟨3, _⟩ => show 0 * 128 + x.val = x.val; omega

/-- The values of a point. -/
theorem iblk3_at (c : Dev nD) (t : Fin (cfgA m).N) (b : Fin 2) (hb : (grid0.coords t 0).val = b.val) (h : Fin 8) (hh : (grid0.coords t 1).val = h.val) (j : Fin 32768) (x : Fin 128) :
    iblk m c 3 t (ix4 0 0 j x) = V m c main_arg2 (ix4 b h j x) := by
  show (((cfgA m).win 3).blk t).view.read (Elt Ideal) (V m c main_arg2) (ix4 0 0 j x) = _
  generalize V m c main_arg2 = X
  blk_simp
  refine congrArg X (funext fun a => Fin.ext ?_)
  refine (place m 3 t (ix4 0 0 j x) a rfl).trans ?_
  refine (congrArg (· * _ + _) (congrFun (tr3 (grid0.coords t)) a)).trans ?_
  match a with
  | ⟨0, _⟩ => show (grid0.coords t 0).val * 1 + 0 = b.val; omega
  | ⟨1, _⟩ => show (grid0.coords t 1).val * 1 + 0 = h.val; omega
  | ⟨2, _⟩ => show 0 * 32768 + j.val = j.val; omega
  | ⟨3, _⟩ => show 0 * 128 + x.val = x.val; omega

/-- The query scales of a point. -/
theorem iblk4_at (c : Dev nD) (t : Fin (cfgA m).N) (b : Fin 2) (hb : (grid0.coords t 0).val = b.val) (i2 : Fin 128) (hi : (grid0.coords t 2).val = i2.val) (r : Fin 256) (h : Fin 8) :
    iblk m c 4 t (ix3 0 r h) = V m c main_arg3 (ix3 b (Blk.rowAt i2 r) h) := by
  show (((cfgA m).win 4).blk t).view.read (Elt Ideal) (V m c main_arg3) (ix3 0 r h) = _
  generalize V m c main_arg3 = X
  blk_simp
  refine congrArg X (funext fun a => Fin.ext ?_)
  refine (place m 4 t (ix3 0 r h) a rfl).trans ?_
  refine (congrArg (· * _ + _) (congrFun (tr4 (grid0.coords t)) a)).trans ?_
  match a with
  | ⟨0, _⟩ => show (grid0.coords t 0).val * 1 + 0 = b.val; omega
  | ⟨1, _⟩ => show (grid0.coords t 2).val * 256 + r.val = 256 * i2.val + r.val; omega
  | ⟨2, _⟩ => show 0 * 8 + h.val = h.val; omega

/-- The key scales of a point. -/
theorem iblk5_at (c : Dev nD) (t : Fin (cfgA m).N) (b : Fin 2) (hb : (grid0.coords t 0).val = b.val) (h : Fin 8) (j : Fin 32768) :
    iblk m c 5 t (ix3 0 h j) = V m c main_v28 (ix3 b h j) := by
  show (((cfgA m).win 5).blk t).view.read (Elt Ideal) (V m c main_v28) (ix3 0 h j) = _
  generalize V m c main_v28 = X
  blk_simp
  refine congrArg X (funext fun a => Fin.ext ?_)
  refine (place m 5 t (ix3 0 h j) a rfl).trans ?_
  refine (congrArg (· * _ + _) (congrFun (tr5 (grid0.coords t)) a)).trans ?_
  match a with
  | ⟨0, _⟩ => show (grid0.coords t 0).val * 1 + 0 = b.val; omega
  | ⟨1, _⟩ => show 0 * 8 + h.val = h.val; omega
  | ⟨2, _⟩ => show 0 * 32768 + j.val = j.val; omega

/-- The value scales of a point. -/
theorem iblk6_at (c : Dev nD) (t : Fin (cfgA m).N) (b : Fin 2) (hb : (grid0.coords t 0).val = b.val) (h : Fin 8) (j : Fin 32768) :
    iblk m c 6 t (ix3 0 h j) = V m c main_v29 (ix3 b h j) := by
  show (((cfgA m).win 6).blk t).view.read (Elt Ideal) (V m c main_v29) (ix3 0 h j) = _
  generalize V m c main_v29 = X
  blk_simp
  refine congrArg X (funext fun a => Fin.ext ?_)
  refine (place m 6 t (ix3 0 h j) a rfl).trans ?_
  refine (congrArg (· * _ + _) (congrFun (tr6 (grid0.coords t)) a)).trans ?_
  match a with
  | ⟨0, _⟩ => show (grid0.coords t 0).val * 1 + 0 = b.val; omega
  | ⟨1, _⟩ => show 0 * 8 + h.val = h.val; omega
  | ⟨2, _⟩ => show 0 * 32768 + j.val = j.val; omega

/-- The segment ends of a point. -/
theorem iblk7_at (c : Dev nD) (t : Fin (cfgA m).N) (b : Fin 2) (hb : (grid0.coords t 0).val = b.val) (j : Fin 32768) :
    iblk m c 7 t (ix3 0 0 j) = V m c main_v17 (ix3 b 0 j) := by
  show (((cfgA m).win 7).blk t).view.read (Elt Ideal) (V m c main_v17) (ix3 0 0 j) = _
  generalize V m c main_v17 = X
  blk_simp
  refine congrArg X (funext fun a => Fin.ext ?_)
  refine (place m 7 t (ix3 0 0 j) a rfl).trans ?_
  refine (congrArg (· * _ + _) (congrFun (tr7 (grid0.coords t)) a)).trans ?_
  match a with
  | ⟨0, _⟩ => show (grid0.coords t 0).val * 1 + 0 = b.val; omega
  | ⟨1, _⟩ => show 0 * 1 + 0 = 0; omega
  | ⟨2, _⟩ => show 0 * 32768 + j.val = j.val; omega

end

end Cert.KernelIdeal.Gen
-- ==== Proof.KFinal.lean ====
module

public import proofs.«01_k».proof.Proof.KValue

/-! # The result of the attention program, entry by entry -/

@[expose] public section

namespace Cert.KernelIdeal.Gen

open Idealize.ShloMosaic Idealize.ShloMosaic.TcCoe Idealize.SL.Sem
open Idealize.ShloMosaic.Pipeline (Dat)
open Cert.Attention

set_option maxRecDepth 16384

noncomputable section

variable (m : (ℓ : Loc nD τ sig) → Buf (Elt Ideal) ℓ)

theorem tr0 (i : grid0.Coords) : cc0_transform_0 i = ![0] := by
  unfold cc0_transform_0
  rfl

/-- The slopes are read whole. -/
theorem iblk0_at (c : Dev nD) (t : Fin (cfgA m).N) (h : Fin 8) : iblk m c 0 t (ix1 h) = V m c main_v27 (ix1 h) := by
  show (((cfgA m).win 0).blk t).view.read (Elt Ideal) (V m c main_v27) (ix1 h) = _
  generalize V m c main_v27 = X
  blk_simp
  refine congrArg X (funext fun a => Fin.ext ?_)
  refine (place m 0 t (ix1 h) a rfl).trans ?_
  refine (congrArg (· * _ + _) (congrFun (tr0 (grid0.coords t)) a)).trans ?_
  match a with
  | ⟨0, _⟩ => show 0 * 8 + h.val = h.val; omega

theorem off1_of (i : grid0.Coords) : k0_off1 i = ![(i 0).val, (i 2).val] := by
  have := i0_lt i; have := i2_lt i
  unfold k0_off1
  simp [Scalar.indexCast]
  constructor <;> omega

theorem off2_of (i : grid0.Coords) : k0_off2 i = ![(i 1).val] := by
  have := i1_lt i
  unfold k0_off2
  simp [Scalar.indexCast]
  omega

theorem blkAt_w (c : Dev nD) (t : Fin (cfgA m).N) (b : Fin 2) (hb : (grid0.coords t 0).val = b.val) (i2 : Fin 128) (hi : (grid0.coords t 2).val = i2.val) :
    (blkAt m c t).w = blockStarts (F := Ideal) (m ((c : Thread nD τ).loc main_arg6)) (ix2 b i2) := by
  unfold blkAt blk
  dsimp only
  rw [table_eq]
  refine View.ld_unit_apply_of _ _ _ _ _ _ fun a => ?_
  refine Eq.trans ?_ (congrArg (· + _) (congrFun (off1_of (grid0.coords t)) a).symm)
  match a with
  | ⟨0, _⟩ => exact hb.symm
  | ⟨1, _⟩ => exact hi.symm

theorem blkAt_slope (c : Dev nD) (t : Fin (cfgA m).N) (h : Fin 8) (hh : (grid0.coords t 1).val = h.val) :
    (blkAt m c t).slope = slopes (F := Ideal) (ix1 h) := by
  unfold blkAt blk
  dsimp only
  refine (View.ld_unit_apply_of _ _ _ _ _ (ix1 h) fun a => ?_).trans ((iblk0_at m c t h).trans (congrFun (V_v27 m c) _))
  refine Eq.trans ?_ (congrArg (· + _) (congrFun (off2_of (grid0.coords t)) a).symm)
  match a with
  | ⟨0, _⟩ => exact hh.symm

theorem blkAt_q (c : Dev nD) (t : Fin (cfgA m).N) (b : Fin 2) (hb : (grid0.coords t 0).val = b.val) (h : Fin 8) (hh : (grid0.coords t 1).val = h.val)
    (i2 : Fin 128) (hi : (grid0.coords t 2).val = i2.val) (r : Fin 256) (x : Fin 128) :
    (blkAt m c t).q (ix4 0 0 r x) = m ((c : Thread nD τ).loc main_arg0) (ix4 b h (Blk.rowAt i2 r) x) := by
  unfold blkAt blk
  dsimp only
  refine (View.ld_unit_apply_of _ _ _ _ _ (ix4 0 0 r x) fun a => ?_).trans ((iblk1_at m c t b hb h hh i2 hi r x).trans (congrFun (V_arg0 m c) _))
  match a with
  | ⟨0, _⟩ => rfl
  | ⟨1, _⟩ => rfl
  | ⟨2, _⟩ => exact (Nat.zero_add _).symm
  | ⟨3, _⟩ => exact (Nat.zero_add _).symm

theorem blkAt_qs (c : Dev nD) (t : Fin (cfgA m).N) (b : Fin 2) (hb : (grid0.coords t 0).val = b.val)
    (i2 : Fin 128) (hi : (grid0.coords t 2).val = i2.val) (r : Fin 256) (h : Fin 8) :
    (blkAt m c t).qs (ix3 0 r h) = m ((c : Thread nD τ).loc main_arg3) (ix3 b (Blk.rowAt i2 r) h) := by
  unfold blkAt blk
  dsimp only
  refine (View.ld_unit_apply_of _ _ _ _ _ (ix3 0 r h) fun a => ?_).trans ((iblk4_at m c t b hb i2 hi r h).trans (congrFun (V_arg3 m c) _))
  match a with
  | ⟨0, _⟩ => rfl
  | ⟨1, _⟩ => exact (Nat.zero_add _).symm
  | ⟨2, _⟩ => exact (Nat.zero_add _).symm

/-- A transposed scale at an index. -/
theorem transposed_at (a : FVec Ideal S2x32768x8 .f32) (b : Fin 2) (h : Fin 8) (j : Fin 32768) :
    transpose S2x8x32768 [0, 2, 1] a transposes_S2x32768x8_S2x8x32768_0_2_1 (ix3 b h j) = a (ix3 b j h) := by
  pointwise

theorem blkAt_k (c : Dev nD) (t : Fin (cfgA m).N) (b : Fin 2) (hb : (grid0.coords t 0).val = b.val) (h : Fin 8) (hh : (grid0.coords t 1).val = h.val) (j : Fin 32768) (x : Fin 128) :
    (blkAt m c t).k (ix4 0 0 j x) = m ((c : Thread nD τ).loc main_arg1) (ix4 b h j x) := by
  unfold blkAt blk
  dsimp only
  exact (iblk2_at m c t b hb h hh j x).trans (congrFun (V_arg1 m c) _)

theorem blkAt_v (c : Dev nD) (t : Fin (cfgA m).N) (b : Fin 2) (hb : (grid0.coords t 0).val = b.val) (h : Fin 8) (hh : (grid0.coords t 1).val = h.val) (j : Fin 32768) (x : Fin 128) :
    (blkAt m c t).v (ix4 0 0 j x) = m ((c : Thread nD τ).loc main_arg2) (ix4 b h j x) := by
  unfold blkAt blk
  dsimp only
  exact (iblk3_at m c t b hb h hh j x).trans (congrFun (V_arg2 m c) _)

theorem blkAt_ks (c : Dev nD) (t : Fin (cfgA m).N) (b : Fin 2) (hb : (grid0.coords t 0).val = b.val) (h : Fin 8) (j : Fin 32768) :
    (blkAt m c t).ks (ix3 0 h j) = m ((c : Thread nD τ).loc main_arg4) (ix3 b j h) := by
  unfold blkAt blk
  dsimp only
  exact (iblk5_at m c t b hb h j).trans ((congrFun (V_v28 m c) _).trans (transposed_at _ b h j))

theorem blkAt_vs (c : Dev nD) (t : Fin (cfgA m).N) (b : Fin 2) (hb : (grid0.coords t 0).val = b.val) (h : Fin 8) (j : Fin 32768) :
    (blkAt m c t).vs (ix3 0 h j) = m ((c : Thread nD τ).loc main_arg5) (ix3 b j h) := by
  unfold blkAt blk
  dsimp only
  exact (iblk6_at m c t b hb h j).trans ((congrFun (V_v29 m c) _).trans (transposed_at _ b h j))

theorem blkAt_en (c : Dev nD) (t : Fin (cfgA m).N) (b : Fin 2) (hb : (grid0.coords t 0).val = b.val) (j : Fin 32768) :
    (blkAt m c t).en (ix3 0 0 j) = ends (F := Ideal) (m ((c : Thread nD τ).loc main_arg6)) (ix3 b 0 j) := by
  unfold blkAt blk
  dsimp only
  exact (iblk7_at m c t b hb j).trans (congrFun (V_v17 m c) _)

/-- The output block at an index. -/
theorem outBlock_at {i : grid0.Coords} (B : Blk Ideal i) (r : Fin 256) (d : Fin 128) : outBlock B (ix3 0 r d) = k0_pay1 (F := Ideal) B.out (ix3 0 r d) := by
  unfold outBlock
  generalize k0_pay1 B.out = P
  frame_out
  try rfl

/-- The arguments of the program, as the row values take them. -/
def entry (c : Dev nD) (b : Fin 2) (r : Fin 32768) (h : Fin 8) (d : Fin 128) : EReal :=
  attended (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (slopes (F := Ideal)) (m ((c : Thread nD τ).loc main_arg6)) b r h d

/-- The output block of a point, entry by entry. -/
theorem outBlock_entry (c : Dev nD) (hs : Ordered (m ((c : Thread nD τ).loc main_arg6))) (hvs : ∀ x, (0 : EReal) ≤ m ((c : Thread nD τ).loc main_arg5) x)
    (t : Fin (cfgA m).N) (b : Fin 2) (hb : (grid0.coords t 0).val = b.val) (h : Fin 8) (hh : (grid0.coords t 1).val = h.val)
    (i2 : Fin 128) (hi : (grid0.coords t 2).val = i2.val) (r : Fin 256) (d : Fin 128) :
    outBlock (blkAt m c t) (ix3 0 r d) = entry m c b (Blk.rowAt i2 r) h d :=
  (outBlock_at _ r d).trans (Blk.out_eq (blkAt m c t) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (slopes (F := Ideal)) (m ((c : Thread nD τ).loc main_arg6))
      hs hvs b h hh i2 hi (blkAt_w m c t b hb i2 hi) (blkAt_slope m c t h hh) (blkAt_q m c t b hb h hh i2 hi) (blkAt_k m c t b hb h hh) (blkAt_v m c t b hb h hh)
      (fun r => blkAt_qs m c t b hb i2 hi r h) (blkAt_ks m c t b hb h) (blkAt_vs m c t b hb h) (blkAt_en m c t b hb) r d)

/-- Where an entry of a block sits in the result. -/
theorem out_place (t : Fin (cfgA m).N) (b : Fin 2) (hb : (grid0.coords t 0).val = b.val) (h : Fin 8) (hh : (grid0.coords t 1).val = h.val)
    (i2 : Fin 128) (hi : (grid0.coords t 2).val = i2.val) (r : Fin 256) (d : Fin 128) :
    (((cfgA m).win 8).blk t).view.emb (ix3 0 r d) = ix3 b (Blk.rowAt i2 r) (⟨h.val * 128 + d.val, by omega⟩ : Fin 1024) := by
  refine funext fun a => Fin.ext ?_
  refine (place m 8 t (ix3 0 r d) a rfl).trans ?_
  refine (congrArg (· * _ + _) (congrFun (tr8 (grid0.coords t)) a)).trans ?_
  match a with
  | ⟨0, _⟩ => show (grid0.coords t 0).val * 1 + 0 = b.val; omega
  | ⟨1, _⟩ => show (grid0.coords t 2).val * 256 + r.val = 256 * i2.val + r.val; omega
  | ⟨2, _⟩ => show (grid0.coords t 1).val * 128 + d.val = h.val * 128 + d.val; omega

/-- The result array after the run, entry by entry. -/
theorem final (c : Dev nD) (hs : Ordered (m ((c : Thread nD τ).loc main_arg6))) (hvs : ∀ x, (0 : EReal) ≤ m ((c : Thread nD τ).loc main_arg5) x)
    (G : Vec Ideal S2x32768x1024 .bf16) (hG : ∀ b h r d, G (ix3 b r ⟨h.val * 128 + d.val, by omega⟩) = entry m c b r h d) :
    (dats m 0 c).arrAt 8 (cfgA m).N = G := by
  refine (dats m 0 c).arrAt_eq_of_covers 8 _ (covers m) fun t _ y => ?_
  blk_simp
  rw [after0_8]
  revert y
  change ∀ y : S1x256x128.Idx, _
  intro y
  obtain ⟨r, d, rfl⟩ : ∃ (r : Fin 256) (d : Fin 128), y = ix3 0 r d := ⟨y 1, y 2, funext fun a => by
    match a with
    | ⟨0, _⟩ => exact Subsingleton.elim (α := Fin 1) _ _
    | ⟨1, _⟩ => rfl
    | ⟨2, _⟩ => rfl⟩
  have e := out_place m t ⟨_, i0_lt (grid0.coords t)⟩ rfl ⟨_, i1_lt (grid0.coords t)⟩ rfl ⟨_, i2_lt (grid0.coords t)⟩ rfl r d
  exact (outBlock_entry m c hs hvs t ⟨_, i0_lt (grid0.coords t)⟩ rfl ⟨_, i1_lt (grid0.coords t)⟩ rfl ⟨_, i2_lt (grid0.coords t)⟩ rfl r d).trans
    ((congrArg G e).trans (hG _ _ _ _)).symm

end

end Cert.KernelIdeal.Gen
-- ==== Proof.RRead.lean ====
module

public import proofs.«01_k».proof.Proof.Gen.ReferenceIdeal.Skeleton
public import proofs.«01_k».proof.Proof.Row
public import Idealize.ShloMosaic.Lib.Pointwise

/-! # What the reference computes, over extended reals

The reference's operations, read entry by entry: an entry of its result is the number `refRow` of `Row` for the scores of
its row. -/

@[expose] public section

namespace Cert.ReferenceIdeal.Gen

open Idealize.ShloMosaic Idealize.ShloMosaic.TcCoe Finset
open Cert.Attention

set_option maxRecDepth 16384

noncomputable section

theorem named_scale : Named.named (F := Ideal) (φ := .f32) κ "scale" 0x3DB504F3#32 = (((Real.sqrt 128)⁻¹ : ℝ) : EReal) := IdealRules.named_const.ideal_named_scalar _ _ _ _ rfl

theorem ofBits_bot : Ideal.ofBits FTy.f32 4286578688#32 = ⊥ := by
  simp [Ideal.ofBits, Ideal.ieee]

theorem fold_max_bot {ι : Type} [Fintype ι] (f : ι → EReal) : Finset.fold max (Ideal.ofBits FTy.f32 4286578688#32) f univ = univ.sup f := by
  rw [ofBits_bot]; rfl

theorem ofBits_one : Ideal.ofBits FTy.f32 0x3F800000#32 = 1 := Ideal.ofBits_one_f32
theorem ofBits_two : Ideal.ofBits FTy.f32 0x40000000#32 = ((2 : ℝ) : EReal) := by
  simp [Ideal.ofBits, Ideal.ieee, -EReal.coe_mul]
  try norm_num
theorem ofBits_cap : Ideal.ofBits FTy.f32 0x42FC0000#32 = ((126 : ℝ) : EReal) := by
  simp [Ideal.ofBits, Ideal.ieee, -EReal.coe_mul]
  try norm_num
theorem ofBits_min : Ideal.ofBits FTy.f32 0x00800000#32 = (((2 : ℝ) ^ (-126 : ℤ) : ℝ) : EReal) := by
  have := ofBits_pow (n := 1) (by norm_num) (by norm_num)
  norm_num at this ⊢
  exact this

theorem absf_eq (x : EReal) : FloatOps.absf (F := Ideal) (φ := .f32) x = max x (-x) := rfl
theorem exp2_eq (x : EReal) : FloatOps.exp2 (F := Ideal) (φ := .f32) x = Ideal.exp2 x := rfl

/-- The row sums. -/
def rowSum (u : FVec Ideal S2x8x32768x32768 .f32) : FVec Ideal S2x8x32768 .f32 :=
  multiReduction .add [3] S2x8x32768 u 0x00000000#32 reduces_S2x8x32768x32768_S2x8x32768 (.inl rfl) rfl

/-- A row sum. -/
theorem rowSum_at (u : FVec Ideal S2x8x32768x32768 .f32) (b : Fin 2) (h : Fin 8) (r : Fin 32768) : rowSum u (ix3 b h r) = ∑ x, u (ix4 b h r x) := by
  pointwise [rowSum]

/-- The scaled weights, from the weights and their row sums. -/
def scaled (v29 : FVec Ideal S2x8x32768x32768 .f32) (v30 : FVec Ideal S2x8x32768 .f32) (v36 : Vec Ideal S2x8x1x32768 .f32) : FVec Ideal S2x8x32768x32768 .f32 :=
  have v31 : FVec Ideal S2x8x32768x1 .f32 := shapeCast S2x8x32768x1 v30 shapeCasts_S2x8x32768_S2x8x32768x1
  have cst_27 : Ideal .f32 := Scalar.ofBits .f32 0x3F800000#32
  have v32 : FVec Ideal S2x8x32768x1 .f32 := broadcast S2x8x32768x1 cst_27
  have v33 : FVec Ideal S2x8x32768x1 .f32 := divf v32 v31
  have v34 : FVec Ideal S2x8x32768x32768 .f32 := broadcastTo S2x8x32768x32768 v33 broadcasts_S2x8x32768x1_S2x8x32768x32768
  have v35 : FVec Ideal S2x8x32768x32768 .f32 := mulf v29 v34
  have v37 : FVec Ideal S2x8x1x32768 .f32 := shapeCast S2x8x1x32768 v36 shapeCasts_S2x8x1x32768_S2x8x1x32768
  have v38 : FVec Ideal S2x8x32768x32768 .f32 := broadcastTo S2x8x32768x32768 v37 broadcasts_S2x8x1x32768_S2x8x32768x32768
  have v39 : FVec Ideal S2x8x32768x32768 .f32 := mulf v35 v38
  v39

/-- A scaled weight. -/
theorem scaled_at (u : FVec Ideal S2x8x32768x32768 .f32) (l : FVec Ideal S2x8x32768 .f32) (vs : Vec Ideal S2x8x1x32768 .f32) (b : Fin 2) (h : Fin 8) (r k : Fin 32768) :
    scaled u l vs (ix4 b h r k) = u (ix4 b h r k) * Ideal.div 1 (l (ix3 b h r)) * vs (ix4 b h 0 k) := by
  rw [← ofBits_one]
  pointwise [scaled]

theorem pay3_eq (u : FVec Ideal S2x8x32768x32768 .f32) (vs : Vec Ideal S2x8x1x32768 .f32) : k0_pay3 (F := Ideal) u vs = scaled u (rowSum u) vs := rfl

/-- A scaled weight, from the weights. -/
theorem pay3_at (u : FVec Ideal S2x8x32768x32768 .f32) (vs : Vec Ideal S2x8x1x32768 .f32) (b : Fin 2) (h : Fin 8) (r k : Fin 32768) :
    k0_pay3 (F := Ideal) u vs (ix4 b h r k) = u (ix4 b h r k) * Ideal.div 1 (∑ x, u (ix4 b h r x)) * vs (ix4 b h 0 k) := by
  rw [pay3_eq, scaled_at, rowSum_at]

/-- The largest magnitude of each row. -/
def rowMax (w : FVec Ideal S2x8x32768x32768 .f32) : FVec Ideal S2x8x32768 .f32 :=
  multiReduction .maximumf [3] S2x8x32768 (absf w) 0xFF800000#32 reduces_S2x8x32768x32768_S2x8x32768 (.inl rfl) rfl

/-- A row's largest magnitude. -/
theorem rowMax_at (w : FVec Ideal S2x8x32768x32768 .f32) (b : Fin 2) (h : Fin 8) (r : Fin 32768) :
   rowMax w (ix3 b h r) = univ.sup fun k => max (w (ix4 b h r k)) (-(w (ix4 b h r k))) := by
  rw [← fold_max_bot]
  pointwise [rowMax]
  simp only [absf_eq]

/-- The exponent of each row, from the largest weight. -/
def expoTail (v41 : FVec Ideal S2x8x32768 .f32) : FVec Ideal S2x8x32768x1 .f32 :=
  have v42 : FVec Ideal S2x8x32768x1 .f32 := shapeCast S2x8x32768x1 v41 shapeCasts_S2x8x32768_S2x8x32768x1
  have cst_33 : Ideal .f32 := Scalar.ofBits .f32 0x3B124925#32
  have v43 : FVec Ideal S2x8x32768x1 .f32 := broadcast S2x8x32768x1 cst_33
  have v44 : FVec Ideal S2x8x32768x1 .f32 := mulf v42 v43
  have v45 : FVec Ideal S2x8x32768x1 .f32 := log v44
  have cst_34 : Ideal .f32 := Scalar.ofBits .f32 0x40000000#32
  have v46 : FVec Ideal S2x8x32768x1 .f32 := broadcast S2x8x32768x1 cst_34
  have v47 : FVec Ideal S2x8x32768x1 .f32 := log v46
  have v48 : FVec Ideal S2x8x32768x1 .f32 := divf v45 v47
  have v49 : FVec Ideal S2x8x32768x1 .f32 := floor v48
  have cst_35 : Ideal .f32 := Scalar.ofBits .f32 0x3F800000#32
  have v50 : FVec Ideal S2x8x32768x1 .f32 := broadcast S2x8x32768x1 cst_35
  have v51 : FVec Ideal S2x8x32768x1 .f32 := addf v49 v50
  have cst_36 : Ideal .f32 := Scalar.ofBits .f32 0x42FC0000#32
  have v52 : FVec Ideal S2x8x32768x1 .f32 := broadcast S2x8x32768x1 cst_36
  have v53 : FVec Ideal S2x8x32768x1 .f32 := minimumf v51 v52
  have cst_37 : Ideal .f32 := Scalar.ofBits .f32 0x00800000#32
  have v54 : FVec Ideal S2x8x32768x1 .f32 := broadcast S2x8x32768x1 cst_37
  have v55 : IVec S2x8x32768x1 1 := cmpf .olt v44 v54
  have cst_38 : Ideal .f32 := Scalar.ofBits .f32 0x00000000#32
  have v56 : FVec Ideal S2x8x32768x1 .f32 := broadcast S2x8x32768x1 cst_38
  have v57 : FVec Ideal S2x8x32768x1 .f32 := select v55 v56 v53
  v57

/-- A row's exponent. -/
theorem expoTail_at (m : FVec Ideal S2x8x32768 .f32) (b : Fin 2) (h : Fin 8) (r : Fin 32768) :
    expoTail m (ix4 b h r 0) = refExpo (m (ix3 b h r) * invTop) := by
  unfold refExpo
  rw [← ofBits_min, ← ofBits_two, ← ofBits_cap, ← ofBits_one]
  pointwise [expoTail]

theorem pay4_eq (u : FVec Ideal S2x8x32768x32768 .f32) (vs : Vec Ideal S2x8x1x32768 .f32) : k0_pay4 (F := Ideal) u vs = expoTail (rowMax (k0_pay3 (F := Ideal) u vs)) := rfl

/-- The exponent of a row. -/
theorem pay4_at (u : FVec Ideal S2x8x32768x32768 .f32) (vs : Vec Ideal S2x8x1x32768 .f32) (b : Fin 2) (h : Fin 8) (r : Fin 32768) :
    k0_pay4 (F := Ideal) u vs (ix4 b h r 0) = refExpo ((univ.sup fun k => max (k0_pay3 (F := Ideal) u vs (ix4 b h r k)) (-(k0_pay3 (F := Ideal) u vs (ix4 b h r k)))) * invTop) := by
  rw [pay4_eq, expoTail_at, rowMax_at]

/-- The codes, from the scaled weights and the exponents. -/
def codes (w : FVec Ideal S2x8x32768x32768 .f32) (e : FVec Ideal S2x8x32768x1 .f32)   : FVec Ideal S2x8x32768x32768 .fp8e4m3 :=
  have cst_39 : Ideal .f32 := Scalar.ofBits .f32 0x00000000#32
  have v58 : FVec Ideal S2x8x32768x1 .f32 := broadcast S2x8x32768x1 cst_39
  have v59 : FVec Ideal S2x8x32768x1 .f32 := subf v58 e
  have v60 : FVec Ideal S2x8x32768x1 .f32 := exp2 v59
  have v61 : FVec Ideal S2x8x32768x32768 .f32 := broadcastTo S2x8x32768x32768 v60 broadcasts_S2x8x32768x1_S2x8x32768x32768
  have v62 : FVec Ideal S2x8x32768x32768 .f32 := mulf w v61
  have cst_40 : Ideal .f32 := Scalar.ofBits .f32 0xC3E00000#32
  have cst_41 : Ideal .f32 := Scalar.ofBits .f32 0x43E00000#32
  have v63 : FVec Ideal S2x8x32768x32768 .f32 := broadcast S2x8x32768x32768 cst_40
  have v64 : FVec Ideal S2x8x32768x32768 .f32 := maximumf v63 v62
  have v65 : FVec Ideal S2x8x32768x32768 .f32 := broadcast S2x8x32768x32768 cst_41
  have v66 : FVec Ideal S2x8x32768x32768 .f32 := minimumf v65 v64
  have v67 : FVec Ideal S2x8x32768x32768 .fp8e4m3 := truncf .fp8e4m3 v66 bitsLt_fp8e4m3_f32
  v67

/-- A code. -/
theorem codes_at (w : FVec Ideal S2x8x32768x32768 .f32) (e : FVec Ideal S2x8x32768x1 .f32) (b : Fin 2) (h : Fin 8) (r k : Fin 32768) :
    codes w e (ix4 b h r k) = clip (w (ix4 b h r k) * Ideal.exp2 (0 - e (ix4 b h r 0))) := by
  pointwise [codes]
  simp only [exp2_eq, clip]

/-- The product of the codes with the values. -/
def prodOf (w : FVec Ideal S2x8x32768x32768 .fp8e4m3) (v : Vec Ideal S2x8x32768x128 .fp8e4m3) : FVec Ideal S2x8x32768x128 .f32 :=
   matmul (φ₁ := .fp8e4m3) (φ₂ := .fp8e4m3) dot_S2x8x32768x32768_S2x8x32768x128_S2x8x32768x128_3_2_2_3_01_01 none w v (constant S2x8x32768x128 .f32 0x00000000#32)

/-- An entry of the product. -/
theorem prodOf_at (w : FVec Ideal S2x8x32768x32768 .fp8e4m3) (v : Vec Ideal S2x8x32768x128 .fp8e4m3) (b : Fin 2) (h : Fin 8) (r : Fin 32768) (d : Fin 128) :
   prodOf w v (ix4 b h r d) = ∑ x, w (ix4 b h r x) * v (ix4 b h x d) := by
  pointwise [prodOf]

theorem pay5_eq (u : FVec Ideal S2x8x32768x32768 .f32) (vs : Vec Ideal S2x8x1x32768 .f32) (v : Vec Ideal S2x8x32768x128 .fp8e4m3) :
    k0_pay5 (F := Ideal) u vs v = prodOf (codes (k0_pay3 (F := Ideal) u vs) (k0_pay4 (F := Ideal) u vs)) v := rfl

/-- The product of the codes with the values. -/
theorem pay5_at (u : FVec Ideal S2x8x32768x32768 .f32) (vs : Vec Ideal S2x8x1x32768 .f32) (v : Vec Ideal S2x8x32768x128 .fp8e4m3) (b : Fin 2) (h : Fin 8) (r : Fin 32768) (d : Fin 128) :
    k0_pay5 (F := Ideal) u vs v (ix4 b h r d) = ∑ k, clip (k0_pay3 (F := Ideal) u vs (ix4 b h r k) * Ideal.exp2 (0 - k0_pay4 (F := Ideal) u vs (ix4 b h r 0))) * v (ix4 b h k d) := by
  rw [pay5_eq, prodOf_at]
  simp only [codes_at]

/-- One entry of the result. -/
theorem pay1_at (e : FVec Ideal S2x8x32768x1 .f32) (o : FVec Ideal S2x8x32768x128 .f32) (b : Fin 2) (h : Fin 8) (r : Fin 32768) (d : Fin 128) :
    k0_pay1 (F := Ideal) e o (ix3 b r ⟨h.val * 128 + d.val, by omega⟩) = o (ix4 b h r d) * Ideal.exp2 (e (ix4 b h r 0)) := by
  pointwise [k0_pay1]
  simp only [exp2_eq]

/-- The scores, with the masked ones at `⊥`. -/
def scoreAt (q k : Vec Ideal S2x8x32768x128 .fp8e4m3) (qs : Vec Ideal S2x8x32768x1 .f32) (ks : Vec Ideal S2x8x1x32768 .f32) (vis : Vec Ideal S2x1x32768x32768 .i32) (pen : Vec Ideal S1x8x32768x32768 .f32)
    (b : Fin 2) (h : Fin 8) (r j : Fin 32768) : EReal :=
  Scalar.select (IntOp.cmpi .ne (vis (ix4 b 0 r j)) 0#32)
    ((∑ x, q (ix4 b h r x) * k (ix4 b h j x)) * (qs (ix4 b h r 0) * (((Real.sqrt 128)⁻¹ : ℝ) : EReal)) * ks (ix4 b h 0 j) - pen (ix4 0 h r j)) ⊥

/-- The unnormalised weights. -/
theorem pay2_at (q k : Vec Ideal S2x8x32768x128 .fp8e4m3) (qs : Vec Ideal S2x8x32768x1 .f32) (ks : Vec Ideal S2x8x1x32768 .f32) (vis : Vec Ideal S2x1x32768x32768 .i32) (pen : Vec Ideal S1x8x32768x32768 .f32)
    (b : Fin 2) (h : Fin 8) (r j : Fin 32768) :
    k0_pay2 (F := Ideal) q k qs ks vis pen (ix4 b h r j) = Ideal.exp (scoreAt q k qs ks vis pen b h r j - univ.sup (scoreAt q k qs ks vis pen b h r)) := by
  rw [← fold_max_bot]
  unfold scoreAt
  rw [← named_scale, ← ofBits_bot]
  pointwise [k0_pay2]
  try rfl

/-- One entry of the result, from the scores of its row. -/
theorem value_at (q k v : Vec Ideal S2x8x32768x128 .fp8e4m3) (qs : Vec Ideal S2x8x32768x1 .f32) (ks vs : Vec Ideal S2x8x1x32768 .f32) (vis : Vec Ideal S2x1x32768x32768 .i32) (pen : Vec Ideal S1x8x32768x32768 .f32)
    (b : Fin 2) (h : Fin 8) (r : Fin 32768) (d : Fin 128) :
    k0_pay1 (F := Ideal) (k0_pay4 (k0_pay2 q k qs ks vis pen) vs) (k0_pay5 (k0_pay2 q k qs ks vis pen) vs v) (ix3 b r ⟨h.val * 128 + d.val, by omega⟩)
      = refRow (scoreAt q k qs ks vis pen b h r) (fun j => vs (ix4 b h 0 j)) (fun j => v (ix4 b h j d)) := by
  rw [pay1_at, pay5_at, pay4_at]
  simp only [pay3_at, pay2_at]
  rfl

end

end Cert.ReferenceIdeal.Gen
-- ==== Proof.RValue.lean ====
module

public import proofs.«01_k».proof.Proof.RRead
public import proofs.«01_k».proof.Proof.Score
public import proofs.«01_k».proof.Proof.Gen.ReferenceIdeal.Frame
public import Idealize.ShloMosaic.Lib.Pipeline.ValueKit
public import Idealize.ShloMosaic.Lib.Pipeline.Frame
public import Idealize.ShloMosaic.Lib.StableHlo.RunRead
public import Idealize.ShloMosaic.Lib.Claim
public import Idealize.ShloMosaic.Lib.Pointwise.Index

/-! # The result of the reference program

The host operations hand their arrays to the reference's one call, which reads each of them whole. So every entry of the
result is the number `refRow` of the scores, value scales and values of its row and column. -/

@[expose] public section

namespace Cert.ReferenceIdeal.Gen

open Idealize.ShloMosaic Idealize.ShloMosaic.TcCoe Idealize.SL.Sem
open Idealize.ShloMosaic.Pipeline (Dat)
open Cert.Attention

set_option maxRecDepth 16384

noncomputable section

variable (m : (ℓ : Loc nD τ sig) → Buf (Elt Ideal) ℓ)

/-- The distance from a key to a row. -/
def dist : IVec S32768x32768 32 :=
  subi (broadcastInDim S32768x32768 ![0, 1] bcast_S32768x1_S32768x32768_0_1 (broadcastInDim S32768x1 ![0] bcast_S32768_S32768x1_0 (iotaInDim S32768 32 0)))
    (broadcastInDim S32768x32768 ![0, 1] bcast_S1x32768_S32768x32768_0_1 (broadcastInDim S1x32768 ![1] bcast_S32768_S1x32768_1 (iotaInDim S32768 32 0)))

/-- The slope of each head. -/
def slopes : FVec Ideal S8 .f32 :=
  Host.exp (mulf (broadcastInDim S8 ![] bcast_S_S8 (constant S_ .f32 0x3F317218#32))
    (Host.divf (mulf (broadcastInDim S8 ![] bcast_S_S8 (constant S_ .f32 0xC1000000#32))
      (addf (sitofp .f32 (iotaInDim S8 32 0)) (broadcastInDim S8 ![] bcast_S_S8 (constant S_ .f32 0x3F800000#32))))
      (broadcastInDim S8 ![] bcast_S_S8 (constant S_ .f32 0x41000000#32))))

/-- What a row loses for its distance to a key. -/
def penalty : FVec Ideal S1x8x32768x32768 .f32 :=
  mulf (broadcastInDim S1x8x32768x32768 ![0, 1, 2, 3] bcast_S1x8x1x1_S1x8x32768x32768_0_1_2_3 (broadcastInDim S1x8x1x1 ![1] bcast_S8_S1x8x1x1_1 slopes))
    (broadcastInDim S1x8x32768x32768 ![0, 1, 2, 3] bcast_S1x1x32768x32768_S1x8x32768x32768_0_1_2_3
      (broadcastInDim S1x1x32768x32768 ![2, 3] bcast_S32768x32768_S1x1x32768x32768_2_3 (sitofp .f32 dist)))

/-- Which keys a row sees. -/
def visible (s : IVec S2x32768 32) : IVec S2x1x32768x32768 32 :=
  broadcastInDim S2x1x32768x32768 ![0, 2, 3] bcast_S2x32768x32768_S2x1x32768x32768_0_2_3 (extui 32 (andi
    (broadcastInDim S2x32768x32768 ![0, 1, 2] bcast_S1x32768x32768_S2x32768x32768_0_1_2 (broadcastInDim S1x32768x32768 ![1, 2] bcast_S32768x32768_S1x32768x32768_1_2
      (cmpi .sge dist (broadcastInDim S32768x32768 ![] bcast_S_S32768x32768 (constantI S_ 32 0#32)))))
    (cmpi .eq (broadcastInDim S2x32768x32768 ![0, 1, 2] bcast_S2x32768x1_S2x32768x32768_0_1_2 (broadcastInDim S2x32768x1 ![0, 1] bcast_S2x32768_S2x32768x1_0_1 s))
      (broadcastInDim S2x32768x32768 ![0, 1, 2] bcast_S2x1x32768_S2x32768x32768_0_1_2 (broadcastInDim S2x1x32768 ![0, 2] bcast_S2x32768_S2x1x32768_0_2 s)))) natLt_1_32)

/-- Scales of rows, head by head. -/
def rowScale (a : FVec Ideal S2x32768x8 .f32) : FVec Ideal S2x8x32768x1 .f32 :=
  broadcastInDim S2x8x32768x1 ![0, 1, 2] bcast_S2x8x32768_S2x8x32768x1_0_1_2 (transpose S2x8x32768 [0, 2, 1] a transposes_S2x32768x8_S2x8x32768_0_2_1)

/-- Scales of keys, head by head. -/
def keyScale (a : FVec Ideal S2x32768x8 .f32) : FVec Ideal S2x8x1x32768 .f32 :=
  broadcastInDim S2x8x1x32768 ![0, 1, 3] bcast_S2x8x32768_S2x8x1x32768_0_1_3 (transpose S2x8x32768 [0, 2, 1] a transposes_S2x32768x8_S2x8x32768_0_2_1)

theorem V_v1 (c : Dev nD) : V m c main_v1 = rowScale (m ((c : Thread nD τ).loc main_arg3)) := by
  show StableHlo.after hostOps0 (fun b => m (c, b)) main_v1 = _
  unfold rowScale; after_reads_simp; try rfl
theorem V_v3 (c : Dev nD) : V m c main_v3 = keyScale (m ((c : Thread nD τ).loc main_arg4)) := by
  show StableHlo.after hostOps0 (fun b => m (c, b)) main_v3 = _
  unfold keyScale; after_reads_simp; try rfl
theorem V_v5 (c : Dev nD) : V m c main_v5 = keyScale (m ((c : Thread nD τ).loc main_arg5)) := by
  show StableHlo.after hostOps0 (fun b => m (c, b)) main_v5 = _
  unfold keyScale; after_reads_simp; try rfl
theorem V_v37 (c : Dev nD) : V m c main_v37 = penalty := by
  show StableHlo.after hostOps0 (fun b => m (c, b)) main_v37 = _
  unfold penalty slopes dist; after_reads_simp; try rfl
theorem V_v39 (c : Dev nD) : V m c main_v39 = visible (m ((c : Thread nD τ).loc main_arg6)) := by
  show StableHlo.after hostOps0 (fun b => m (c, b)) main_v39 = _
  unfold visible dist; after_reads_simp; try rfl

/-- Every window's block index at the one point. -/
theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] ∧ win0_8.index t = ![0, 0, 0] :=
  (by decide +kernel : ∀ t : Fin grid0.N, _)

theorem iblk_0 (c : Dev nD) : iblk m c 0 t0_0 = V m c main_arg0 := by
  show ((cfg0.win 0).blk t0_0).view.read (Elt Ideal) (V m c main_arg0) = V m c main_arg0
  generalize V m c main_arg0 = X
  blk_ext! [idx t0_0]
theorem iblk_1 (c : Dev nD) : iblk m c 1 t0_0 = V m c main_arg1 := by
  show ((cfg0.win 1).blk t0_0).view.read (Elt Ideal) (V m c main_arg1) = V m c main_arg1
  generalize V m c main_arg1 = X
  blk_ext! [idx t0_0]
theorem iblk_2 (c : Dev nD) : iblk m c 2 t0_0 = V m c main_arg2 := by
  show ((cfg0.win 2).blk t0_0).view.read (Elt Ideal) (V m c main_arg2) = V m c main_arg2
  generalize V m c main_arg2 = X
  blk_ext! [idx t0_0]
theorem iblk_3 (c : Dev nD) : iblk m c 3 t0_0 = V m c main_v1 := by
  show ((cfg0.win 3).blk t0_0).view.read (Elt Ideal) (V m c main_v1) = V m c main_v1
  generalize V m c main_v1 = X
  blk_ext! [idx t0_0]
theorem iblk_4 (c : Dev nD) : iblk m c 4 t0_0 = V m c main_v3 := by
  show ((cfg0.win 4).blk t0_0).view.read (Elt Ideal) (V m c main_v3) = V m c main_v3
  generalize V m c main_v3 = X
  blk_ext! [idx t0_0]
theorem iblk_5 (c : Dev nD) : iblk m c 5 t0_0 = V m c main_v5 := by
  show ((cfg0.win 5).blk t0_0).view.read (Elt Ideal) (V m c main_v5) = V m c main_v5
  generalize V m c main_v5 = X
  blk_ext! [idx t0_0]
theorem iblk_6 (c : Dev nD) : iblk m c 6 t0_0 = V m c main_v39 := by
  show ((cfg0.win 6).blk t0_0).view.read (Elt Ideal) (V m c main_v39) = V m c main_v39
  generalize V m c main_v39 = X
  blk_ext! [idx t0_0]
theorem iblk_7 (c : Dev nD) : iblk m c 7 t0_0 = V m c main_v37 := by
  show ((cfg0.win 7).blk t0_0).view.read (Elt Ideal) (V m c main_v37) = V m c main_v37
  generalize V m c main_v37 = X
  blk_ext! [idx t0_0]

/-- The reference's result, from its arguments. -/
def result (q k v : Vec Ideal S2x8x32768x128 .fp8e4m3) (qs ks vs : FVec Ideal S2x32768x8 .f32) (s : IVec S2x32768 32) : Vec Ideal S2x32768x1024 .bf16 :=
  k0_pay1 (F := Ideal) (k0_pay4 (k0_pay2 q k (rowScale qs) (keyScale ks) (visible s) penalty) (keyScale vs))
    (k0_pay5 (k0_pay2 q k (rowScale qs) (keyScale ks) (visible s) penalty) (keyScale vs) v)

/-- The result array after the run. -/
theorem final (c : Dev nD) : (dats m 0 c).arrAt 8 cfg0.N = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_0 (by decide +kernel) _ fun j => ?_
  blk_simp
  rw [after0_8]
  rw [iblk_0, iblk_1, iblk_2, iblk_3, iblk_4, iblk_5, iblk_6, iblk_7, V_main_arg0, V_main_arg1, V_main_arg2, V_v1, V_v3, V_v5, V_v37, V_v39]
  frame_out
  unfold result k0_pay6
  frame_out

/-- A score of the reference, in numbers. -/
theorem score_eq (q k : Vec Ideal S2x8x32768x128 .fp8e4m3) (qs ks : FVec Ideal S2x32768x8 .f32) (s : IVec S2x32768 32) (b : Fin 2) (h : Fin 8) (r j : Fin 32768) :
    scoreAt q k (rowScale qs) (keyScale ks) (visible s) penalty b h r j = score q k qs ks slopes s b h r j := by
  have h1 := r.isLt
  have h2 := j.isLt
  pointwise [scoreAt, rowScale, keyScale, visible, penalty, dist]
  rw [sitofp_sub (by omega) (by omega)]
  unfold score
  refine select_eq_ite ?_ _ _
  rw [widen_one, andi_one, sge_one, eq_one, toInt_sub_small (by omega) (by omega), Fin.le_def]
  simp

/-- One entry of the result. -/
theorem result_at (q k v : Vec Ideal S2x8x32768x128 .fp8e4m3) (qs ks vs : FVec Ideal S2x32768x8 .f32) (s : IVec S2x32768 32) (b : Fin 2) (h : Fin 8) (r : Fin 32768) (d : Fin 128) :
    result q k v qs ks vs s (ix3 b r ⟨h.val * 128 + d.val, by omega⟩) = refRow (score q k qs ks slopes s b h r) (fun j => vs (ix3 b j h)) (fun j => v (ix4 b h j d)) := by
  have e : ∀ j, keyScale vs (ix4 b h 0 j) = vs (ix3 b j h) := by
    intro j
    pointwise [keyScale]
  unfold result
  rw [value_at]
  simp only [e]
  exact congrArg (fun f => refRow f _ _) (funext fun j => score_eq q k qs ks s b h r j)

end

end Cert.ReferenceIdeal.Gen
-- ==== Proof.Pre.lean ====
module

public import proofs.«01_k».proof.Pre_ordered
public import proofs.«01_k».proof.Proof.Mask
public import Idealize.ShloMosaic.Lib.ReduceAll
public import Idealize.ShloMosaic.Lib.Pointwise

/-! # What the precondition says

The predicate is one bit for all of a memory. Where it is one, the segment numbers do not decrease along a row and no
value scale is below zero. -/

@[expose] public section

namespace Cert.Pre_ordered

open Idealize.ShloMosaic

set_option maxRecDepth 16384

/-- The shapes of the predicate's operations fit. -/
theorem facts : Facts where
  slices_S2x32768_S2x32767_0_1 := by decide
  slices_S2x32768_S2x32767_0_0 := by decide
  reducesTo_S2x32767_S_d0_1 := by decide
  h_S_ := by decide
  bcast_S_S2x32768x8 := by decide
  reducesTo_S2x32768x8_S_d0_1_2 := by decide

instance : Subsingleton S_.Idx := ⟨fun _ _ => funext fun a => a.elim0⟩

/-- The precondition, read off its bit. -/
theorem ordered_of [Facts] (a0 a1 a2 : FVec Ideal S2x8x32768x128 .fp8e4m3) (a3 a4 a5 : FVec Ideal S2x32768x8 .f32) (s : IVec S2x32768 32)
    (h : fn (F := Ideal) a0 a1 a2 a3 a4 a5 s = fun _ => 1) :
    Cert.KernelIdeal.Gen.Ordered s ∧ ∀ x, (0 : EReal) ≤ a5 x := by
  have h0 := congrFun h (Shape.Idx.first Facts.h_S_)
  unfold fn at h0
  dsimp only at h0
  obtain ⟨h1, h2⟩ := (show ∀ x y : BitVec 1, IntOp.andi x y = 1#1 → x = 1#1 ∧ y = 1#1 by decide) _ _ h0
  constructor
  · intro b p hp
    have e := Host.reduce_andi_all _ _ _ _ _ h1 (ix2 b ⟨p, by omega⟩)
    have e2 : IntOp.cmpi .sge (s (ix2 b ⟨p + 1, hp⟩)) (s (ix2 b ⟨p, by omega⟩)) = 1#1 := by
      refine Eq.trans ?_ e
      pointwise
      simp only [Nat.add_comm]
    rw [show IntOp.cmpi .sge (s (ix2 b ⟨p + 1, hp⟩)) (s (ix2 b ⟨p, by omega⟩)) = BitVec.ofBool ((s (ix2 b ⟨p, by omega⟩)).sle (s (ix2 b ⟨p + 1, hp⟩))) from rfl,
      Cert.KernelIdeal.Gen.ofBool_eq_one, BitVec.sle_iff_toInt_le] at e2
    exact e2
  · intro x
    have e := Host.reduce_andi_all _ _ _ _ _ h2 x
    have e2 : BitVec.ofBool (decide ((Ideal.ofBits .f32 0x00000000#32 : EReal) ≤ a5 x)) = 1#1 := e
    rw [Cert.KernelIdeal.Gen.ofBool_eq_one, decide_eq_true_eq, Ideal.ofBits_zero_f32] at e2
    exact e2

end Cert.Pre_ordered
-- ==== Proof.Agree.lean ====
module

public import proofs.«01_k».proof.Defs
public import proofs.«01_k».proof.Proof.KFinal
public import proofs.«01_k».proof.Proof.RValue
public import proofs.«01_k».proof.Proof.Pre

/-! # The attention program and the reference agree

Both results are, entry by entry, the row value `attended` of the arguments. -/

@[expose] public section

namespace Cert.ReferenceIdeal.Gen

open Idealize.ShloMosaic Idealize.ShloMosaic.TcCoe Idealize.SL.Sem
open Cert.Attention

set_option maxRecDepth 16384

variable (m : (ℓ : Loc nD τ sig) → Buf (Elt Ideal) ℓ) (ρ : Dev nD → PrngReg)

/-- The reference ends with `result` of its arguments, and its arguments as they were. -/
theorem run_result : θ_run (defs (F := Ideal)) (onTc (τ := τ) (main (F := Ideal))) ⟨m, fun _ => 0, ρ⟩ (fun r => ∀ c : Dev nD,
      r.2.mem ((c.tc : Thread nD τ).loc main_v40) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.ReferenceIdeal.Gen

namespace Cert.KernelIdeal.Gen

open Idealize.ShloMosaic Idealize.ShloMosaic.TcCoe Idealize.SL.Sem
open Cert.Attention

set_option maxRecDepth 16384

variable (m : (ℓ : Loc nD τ sig) → Buf (Elt Ideal) ℓ) (ρ : Dev nD → PrngReg)

/-- The slopes of both programs are one array. -/
theorem slopes_eq : slopes (F := Ideal) = Cert.ReferenceIdeal.Gen.slopes := rfl

/-- The reference's result of the program's arguments. -/
noncomputable def expected (c : Dev nD) : Vec Ideal S2x32768x1024 .bf16 :=
  Cert.ReferenceIdeal.Gen.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- An entry of the reference's result is the row value. -/
theorem expected_at (c : Dev nD) (b : Fin 2) (h : Fin 8) (r : Fin 32768) (d : Fin 128) :
    expected m c (ix3 b r ⟨h.val * 128 + d.val, by omega⟩) = entry m c b r h d := by
  unfold expected entry attended
  rw [slopes_eq]
  exact Cert.ReferenceIdeal.Gen.result_at _ _ _ _ _ _ _ b h r d

/-- The attention program ends with the reference's result of its arguments, and its arguments as they were. -/
theorem run_result (hs : ∀ c : Dev nD, Ordered (m ((c : Thread nD τ).loc main_arg6))) (hvs : ∀ (c : Dev nD) x, (0 : EReal) ≤ m ((c : Thread nD τ).loc main_arg5) x) :
    θ_run (defs (F := Ideal)) (onTc (τ := τ) (main (F := Ideal))) ⟨m, fun _ => 0, ρ⟩ (fun r => ∀ c : Dev nD,
      r.2.mem ((c.tc : Thread nD τ).loc main_v30) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h.1 c).1 8).trans (final m c (hs c) (hvs c) (expected m c) (expected_at m c)),
      ((h.1 c).1 1).trans (((dats m 0 c).arrAt_in 1 rfl _).trans ((A_eq m c 1).trans (V_arg0 m c))),
      ((h.1 c).1 2).trans (((dats m 0 c).arrAt_in 2 rfl _).trans ((A_eq m c 2).trans (V_arg1 m c))),
      ((h.1 c).1 3).trans (((dats m 0 c).arrAt_in 3 rfl _).trans ((A_eq m c 3).trans (V_arg2 m c))),
      ((h.1 c).1 4).trans (((dats m 0 c).arrAt_in 4 rfl _).trans ((A_eq m c 4).trans (V_arg3 m c))),
      ((h.1 c).2 main_arg4 (Pipeline.mem_restRefs_of main_arg4 (by decide) (by exact (by decide : ∀ w : Fin 9, (spec0 w).arr.view.ref ≠ main_arg4)))).trans (V_arg4 m c),
      ((h.1 c).2 main_arg5 (Pipeline.mem_restRefs_of main_arg5 (by decide) (by exact (by decide : ∀ w : Fin 9, (spec0 w).arr.view.ref ≠ main_arg5)))).trans (V_arg5 m c),
      ((h.1 c).2 main_arg6 (Pipeline.mem_restRefs_of main_arg6 (by decide) (by exact (by decide : ∀ w : Fin 9, (spec0 w).arr.view.ref ≠ main_arg6)))).trans (V_arg6 m c)⟩) (run_main_quiescent m ρ)

end Cert.KernelIdeal.Gen

namespace Cert.Proof

open Idealize.ShloMosaic Idealize.ShloMosaic.TcCoe Idealize.SL.Sem

set_option maxRecDepth 16384

/-- From memories that agree on the arguments and meet the precondition, both idealisations end with one result. -/
theorem agree : Cert.algebraic_KernelIdeal_ReferenceIdeal_pre_ordered (hKernelIdeal := Cert.KernelIdeal.Gen.facts)
    (hReferenceIdeal := Cert.ReferenceIdeal.Gen.facts) (hPre_ordered := Cert.Pre_ordered.facts) := by
  intro m g m' g' hpre hargs
  have ho := fun c => (letI := Cert.Pre_ordered.facts; Cert.Pre_ordered.ordered_of _ _ _ _ _ _ _ (hpre c))
  refine ⟨fun c => Cert.KernelIdeal.Gen.expected m c, Cert.KernelIdeal.Gen.run_result m g (fun c => (ho c).1) (fun c => (ho c).2), ?_⟩
  refine (θ_run _ _ _).mono (fun r h c => ?_) (Cert.ReferenceIdeal.Gen.run_result m' g')
  obtain ⟨h0, hrest⟩ := h c
  refine ⟨h0.trans ?_, hrest⟩
  obtain ⟨e0, e1, e2, e3, e4, e5, e6⟩ := hargs c
  unfold Cert.KernelIdeal.Gen.expected
  rw [e0, e1, e2, e3, e4, e5, e6]

end Cert.Proof
-- ==== Proof.Quant.lean ====
module

public import proofs.«01_k».proof.Proof.Row
public import Idealize.ShloMosaic.Lib.Pointwise
public import Idealize.ShloMosaic.Lib.Pointwise.Index

/-! # The codes and scales of an array

A row of 128 numbers is quantised at the power of two above its largest magnitude over 448. -/

@[expose] public section

namespace Cert.Attention

open Idealize.ShloMosaic Finset

noncomputable section

/-- A row's largest magnitude, over 448. -/
def topOf (f : Fin 128 → EReal) : EReal := (univ.sup fun k => max (f k) (-(f k))) * invTop

/-- A code of a row. -/
def codeOf (f : Fin 128 → EReal) (d : Fin 128) : EReal := clip (f d * (((2 : ℝ) ^ (-expo (count (topOf f))) : ℝ) : EReal))

/-- The scale of a row. -/
def scaleOf (f : Fin 128 → EReal) : EReal := (((2 : ℝ) ^ expo (count (topOf f)) : ℝ) : EReal)

/-- One head of one position of an array whose heads stand side by side. -/
def rowOf (X : (⟨3, ![2, 32768, 1024]⟩ : Shape).Idx → EReal) (b : Fin 2) (r : Fin 32768) (h : Fin 8) : Fin 128 → EReal :=
  fun k => X (ix3 b r ⟨h.val * 128 + k.val, by omega⟩)

/-- The codes of an array, head by head. -/
def codesOf (X : (⟨3, ![2, 32768, 1024]⟩ : Shape).Idx → EReal) : (⟨4, ![2, 8, 32768, 128]⟩ : Shape).Idx → EReal :=
  fun y => codeOf (rowOf X (y 0) (y 2) (y 1)) (y 3)

/-- The scales of an array. -/
def scalesOf (X : (⟨3, ![2, 32768, 1024]⟩ : Shape).Idx → EReal) : (⟨3, ![2, 32768, 8]⟩ : Shape).Idx → EReal :=
  fun y => scaleOf (rowOf X (y 0) (y 1) (y 2))

/-- The reference's scale is the power of two that the count names. -/
theorem exp2_refExpo (x : EReal) : Ideal.exp2 (refExpo x) = (((2 : ℝ) ^ expo (count x) : ℝ) : EReal) := by
  rw [refExpo_eq, Ideal.exp2_coe]
  exact congrArg _ (Real.rpow_intCast 2 _)

/-- The reference's inverse scale is the inverse power of two. -/
theorem exp2_neg_refExpo (x : EReal) : Ideal.exp2 (0 - refExpo x) = (((2 : ℝ) ^ (-expo (count x)) : ℝ) : EReal) := by
  rw [refExpo_eq, zero_sub, ← EReal.coe_neg, Ideal.exp2_coe, ← Int.cast_neg]
  exact congrArg _ (Real.rpow_intCast 2 _)

end

end Cert.Attention
-- ==== Proof.QRead.lean ====
module

public import proofs.«01_k».proof.Proof.Quant
public import proofs.«01_k».proof.Proof.Gen.QuantiseIdeal.Frame
public import Idealize.ShloMosaic.Lib.Pipeline.ValueKit

/-! # What one point of the quantiser's grid computes

A point takes 256 positions of each of the three arrays. It quantises the 128 numbers of each head of each position, and
stores the codes head by head and the scales side by side. -/

@[expose] public section

namespace Cert.QuantiseIdeal.Gen

open Idealize.ShloMosaic Idealize.ShloMosaic.TcCoe Finset
open Cert.Attention

set_option maxRecDepth 16384

noncomputable section

theorem ofBits_bot : Ideal.ofBits FTy.f32 4286578688#32 = ⊥ := by
  simp [Ideal.ofBits, Ideal.ieee]

theorem fold_max_bot {ι : Type} [Fintype ι] (f : ι → EReal) : Finset.fold max (Ideal.ofBits FTy.f32 4286578688#32) f univ = univ.sup f := by
  rw [ofBits_bot]; rfl

theorem absf_eq (x : EReal) : FloatOps.absf (F := Ideal) (φ := .f32) x = max x (-x) := rfl

/-- The powers of two that the kernel compares with. -/
theorem pow_at (j : Fin 252) : Ideal.ofBits .f32 (BitVec.ofNat 32 ((j.val + 1) * 8388608)) = (((2 : ℝ) ^ ((j.val : ℤ) - 126) : ℝ) : EReal) := by
  rw [ofBits_pow (by omega) (by omega)]
  congr 2
  push_cast
  ring

/-- The largest magnitude of each position, over 448. -/
def tops (t : Vec Ideal S1x256x128 .bf16) : FVec Ideal S256x1 .f32 :=
  mulf (shapeCast S256x1 (multiReduction .maximumf [1] S256 (absf (k0_pay3 t)) 0xFF800000#32 reduces_S256x128_S256 (.inl rfl) rfl) shapeCasts_S256_S256x1)
    (broadcast S256x1 (Scalar.ofBits .f32 0x3B124925#32))

/-- The numbers of a head at position `r`. -/
def headRow (t : Vec Ideal S1x256x128 .bf16) (r : Fin 256) : Fin 128 → EReal := fun k => t (ix3 0 r k)

theorem tops_at (t : Vec Ideal S1x256x128 .bf16) (r : Fin 256) : tops t (ix2 r 0) = topOf (headRow t r) := by
  unfold topOf
  rw [← fold_max_bot]
  pointwise [tops, k0_pay3]
  simp only [absf_eq, headRow]

/-- The exponents of the positions, from their largest magnitudes. -/
def expos (v10 : FVec Ideal S256x1 .f32) : IVec S256x1 32 :=
  have v16 : IVec S256x252 32 := shli (addi (subi (iota .tc S256x252 32 [1] iota_S256x252_d1_w32) (broadcast S256x252 126#32)) (broadcast S256x252 127#32)) (broadcast S256x252 23#32)
  have v17 : FVec Ideal S256x252 .f32 := bitcastToFloat .f32 v16
  have v18 : FVec Ideal S256x252 .f32 := broadcastTo S256x252 v10 broadcasts_S256x1_S256x252
  have v22 : IVec S256x252 32 := select (cmpf .oge v18 v17) (broadcast S256x252 1#32) (broadcast S256x252 0#32)
  have v24 : IVec S256x1 32 := shapeCast S256x1 (multiReductionI .add [1] S256 v22 0#32 reduces_S256x252_S256 rfl) shapeCasts_S256_S256x1
  select (cmpi .eq v24 (broadcast S256x1 0#32)) (broadcast S256x1 0#32) (subi v24 (broadcast S256x1 126#32))

theorem expos_at (x : FVec Ideal S256x1 .f32) (r : Fin 256) : expos x (ix2 r 0) = expoWord (count (x (ix2 r 0))) := by
  pointwise [expos]
  simp only [word_at, pow_at]
  rw [fold_count]
  rfl

theorem pay4_eq (t : Vec Ideal S1x256x128 .bf16) : k0_pay4 (F := Ideal) t = expos (tops t) := rfl

/-- The exponent of a position. -/
theorem pay4_at (t : Vec Ideal S1x256x128 .bf16) (r : Fin 256) : k0_pay4 (F := Ideal) t (ix2 r 0) = expoWord (count (topOf (headRow t r))) := by
  rw [pay4_eq, expos_at, tops_at]

/-- The codes of one head of a block. -/
def headCodes (t : Vec Ideal S1x256x128 .bf16) : FVec Ideal S1x1x256x128 .fp8e4m3 := k0_pay6 (F := Ideal) (k0_pay5 t)

theorem headCodes_at (t : Vec Ideal S1x256x128 .bf16) (r : Fin 256) (d : Fin 128) : headCodes t (ix4 0 0 r d) = codeOf (headRow t r) d := by
  unfold codeOf
  rw [← pow_down (count_le _), ← pay4_at]
  pointwise [headCodes, k0_pay6, k0_pay5, k0_pay3]
  rfl

/-- The scales with those of head `n` put in. -/
def putScale (n : BitVec 32) (acc : FVec Ideal S256x8 .f32) (e : IVec S256x1 32) : FVec Ideal S256x8 .f32 :=
  select (cmpi .eq (iota .tc S256x8 32 [1] iota_S256x8_d1_w32) (broadcast S256x8 n))
    (broadcastTo S256x8 (shapeCast S256x1 (bitcastToFloat .f32 (shli (addi e (broadcast S256x1 127#32)) (broadcast S256x1 23#32))) shapeCasts_S256x1_S256x1) broadcasts_S256x1_S256x8) acc

theorem putScale_at (n : BitVec 32) (acc : FVec Ideal S256x8 .f32) (e : IVec S256x1 32) (r : Fin 256) (h : Fin 8) :
    putScale n acc e (ix2 r h) = Scalar.select (IntOp.cmpi .eq (BitVec.ofNat 32 h.val) n)
      (Ideal.ofBits .f32 (IntOp.shli .vector (IntOp.addi (e (ix2 r 0)) 127#32) 23#32)) (acc (ix2 r h)) := by
  pointwise [putScale]

/-- The columns of head `n` of a block. -/
def head (x : Vec Ideal S1x256x1024 .bf16) (h : Fin 8) : Vec Ideal S1x256x128 .bf16 :=
  fun y => x (ix3 0 (y 1) ⟨h.val * 128 + (y 2).val, by have : (y 2).val < 128 := (y 2).isLt; omega⟩)

/-- A load of 128 columns is a head. -/
theorem ld_eq (x : Vec Ideal S1x256x1024 .bf16) (n o : ℕ) (hn : n < 8) (ho : o = n * 128) (inb) :
    View.ld x (Rect.unit (s := S1x256x1024) ![0, 0, o] S1x256x128.size inb) = head x ⟨n, hn⟩ := by
  refine funext fun z => View.ld_unit_apply_of _ _ _ _ _ _ fun a => ?_
  match a with
  | ⟨0, _⟩ =>
    have : (z 0).val < 1 := (z 0).isLt
    show 0 = 0 + (z 0).val
    omega
  | ⟨1, _⟩ => show (z 1).val = 0 + (z 1).val; omega
  | ⟨2, _⟩ => show n * 128 + (z 2).val = o + (z 2).val; omega

/-- The scales of a block. -/
def blockScales (x : Vec Ideal S1x256x1024 .bf16) : FVec Ideal S256x8 .f32 :=
  putScale 7#32 (putScale 6#32 (putScale 5#32 (putScale 4#32 (putScale 3#32 (putScale 2#32 (putScale 1#32 (putScale 0#32 (k0_pay2 (F := Ideal))
    (k0_pay4 (View.ld x r0_0))) (k0_pay4 (View.ld x r0_2))) (k0_pay4 (View.ld x r0_4))) (k0_pay4 (View.ld x r0_6))) (k0_pay4 (View.ld x r0_8)))
    (k0_pay4 (View.ld x r0_10))) (k0_pay4 (View.ld x r0_12))) (k0_pay4 (View.ld x r0_14))

theorem blockScales_at (x : Vec Ideal S1x256x1024 .bf16) (r : Fin 256) (h : Fin 8) :
    blockScales x (ix2 r h) = scaleOf (headRow (head x h) r) := by
  unfold blockScales scaleOf
  rw [← pow_up (count_le _)]
  rw [ld_eq x 0 0 (by norm_num) rfl, ld_eq x 1 128 (by norm_num) rfl, ld_eq x 2 256 (by norm_num) rfl, ld_eq x 3 384 (by norm_num) rfl,
    ld_eq x 4 512 (by norm_num) rfl, ld_eq x 5 640 (by norm_num) rfl, ld_eq x 6 768 (by norm_num) rfl, ld_eq x 7 896 (by norm_num) rfl]
  simp only [putScale_at, pay4_at]
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- What the body stores of the scales. -/
def scaleBlock (x : Vec Ideal S1x256x1024 .bf16) : Vec Ideal S1x256x8 .f32 :=
  View.canon [⟨r0_16, shapeCast S1x256x8 (blockScales x) shapeCasts_S256x8_S1x256x8⟩]

theorem scaleBlock_at (x : Vec Ideal S1x256x1024 .bf16) (r : Fin 256) (h : Fin 8) : scaleBlock x (ix3 0 r h) = scaleOf (headRow (head x h) r) := by
  rw [← blockScales_at]
  unfold scaleBlock
  generalize blockScales x = P
  frame_out
  pointwise

/-- What the body stores of the codes. -/
def codeBlock (x : Vec Ideal S1x256x1024 .bf16) : Vec Ideal S1x8x256x128 .fp8e4m3 :=
  View.canon [⟨r0_15, headCodes (View.ld x r0_14)⟩, ⟨r0_13, headCodes (View.ld x r0_12)⟩, ⟨r0_11, headCodes (View.ld x r0_10)⟩, ⟨r0_9, headCodes (View.ld x r0_8)⟩,
    ⟨r0_7, headCodes (View.ld x r0_6)⟩, ⟨r0_5, headCodes (View.ld x r0_4)⟩, ⟨r0_3, headCodes (View.ld x r0_2)⟩, ⟨r0_1, headCodes (View.ld x r0_0)⟩]

/-- The codes of a block as one function. -/
def blockCodes (x : Vec Ideal S1x256x1024 .bf16) : Vec Ideal S1x8x256x128 .fp8e4m3 :=
  fun y => codeOf (headRow (head x (y 1)) (y 2)) (y 3)

/-- The store of a head's codes is its part of that function. -/
theorem piece (x : Vec Ideal S1x256x1024 .bf16) (n o : ℕ) (hn : n < 8) (ho : o = n * 128) (inb) (inb') (z : S1x1x256x128.Idx) :
    headCodes (View.ld x (Rect.unit (s := S1x256x1024) ![0, 0, o] S1x256x128.size inb)) z
      = blockCodes x ((Rect.unit (s := S1x8x256x128) ![0, n, 0, 0] S1x1x256x128.size inb').emb z) := by
  rw [ld_eq x n o hn ho inb]
  obtain ⟨r, d, rfl⟩ : ∃ (r : Fin 256) (d : Fin 128), z = ix4 0 0 r d := ⟨z 2, z 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have e : (Rect.unit (s := S1x8x256x128) ![0, n, 0, 0] S1x1x256x128.size inb').emb (ix4 0 0 r d) = ix4 0 ⟨n, hn⟩ r d := by
    refine funext fun a => Fin.ext ?_
    refine (Rect.idx_unit_val _ _ inb' _ a).trans ?_
    match a with
    | ⟨0, _⟩ => rfl
    | ⟨1, _⟩ => rfl
    | ⟨2, _⟩ => show 0 + r.val = r.val; omega
    | ⟨3, _⟩ => show 0 + d.val = d.val; omega
  rw [headCodes_at, e]
  rfl

theorem codeBlock_eq (x : Vec Ideal S1x256x1024 .bf16) : codeBlock x = blockCodes x := by
  funext y
  unfold codeBlock
  have inb : ∀ n : ℕ, n < 8 → ∀ a : Fin S1x8x256x128.rank, (![0, n, 0, 0] : Fin 4 → ℕ) a + S1x1x256x128.size a ≤ S1x8x256x128.size a := by
    intro n hn a
    match a with
    | ⟨0, _⟩ => show 0 + 1 ≤ 1; omega
    | ⟨1, _⟩ => show n + 1 ≤ 8; omega
    | ⟨2, _⟩ => show 0 + 256 ≤ 256; omega
    | ⟨3, _⟩ => show 0 + 128 ≤ 128; omega
  refine View.canon_apply_of_pieces (blockCodes x) _ ?_ y (cover0_3 _ _ _ _ _ _ _ _ y)
  intro p hp
  simp only [List.mem_cons, List.not_mem_nil, or_false] at hp
  rcases hp with rfl | rfl | rfl | rfl | rfl | rfl | rfl | rfl
  · exact piece x 7 896 (by norm_num) rfl _ (inb 7 (by norm_num))
  · exact piece x 6 768 (by norm_num) rfl _ (inb 6 (by norm_num))
  · exact piece x 5 640 (by norm_num) rfl _ (inb 5 (by norm_num))
  · exact piece x 4 512 (by norm_num) rfl _ (inb 4 (by norm_num))
  · exact piece x 3 384 (by norm_num) rfl _ (inb 3 (by norm_num))
  · exact piece x 2 256 (by norm_num) rfl _ (inb 2 (by norm_num))
  · exact piece x 1 128 (by norm_num) rfl _ (inb 1 (by norm_num))
  · exact piece x 0 0 (by norm_num) rfl _ (inb 0 (by norm_num))

theorem out3_eq (x0 x1 x2 : Vec Ideal S1x256x1024 .bf16) : out0_3 x0 x1 x2 = codeBlock x0 := rfl
theorem out4_eq (x0 x1 x2 : Vec Ideal S1x256x1024 .bf16) : out0_4 x0 x1 x2 = codeBlock x1 := rfl
theorem out5_eq (x0 x1 x2 : Vec Ideal S1x256x1024 .bf16) : out0_5 x0 x1 x2 = codeBlock x2 := rfl
theorem out6_eq (x0 x1 x2 : Vec Ideal S1x256x1024 .bf16) : out0_6 x0 x1 x2 = scaleBlock x0 := rfl
theorem out7_eq (x0 x1 x2 : Vec Ideal S1x256x1024 .bf16) : out0_7 x0 x1 x2 = scaleBlock x1 := rfl
theorem out8_eq (x0 x1 x2 : Vec Ideal S1x256x1024 .bf16) : out0_8 x0 x1 x2 = scaleBlock x2 := rfl

end

end Cert.QuantiseIdeal.Gen
-- ==== Proof.QFinal.lean ====
module

public import proofs.«01_k».proof.Proof.QRead

/-! # The results of the quantise program

Each point of the grid fills its block of every result. Together the blocks are the codes and scales of the arrays. -/

@[expose] public section

namespace Cert.QuantiseIdeal.Gen

open Idealize.ShloMosaic Idealize.ShloMosaic.TcCoe Idealize.SL.Sem
open Idealize.ShloMosaic.Pipeline (Dat)
open Cert.Attention

set_option maxRecDepth 16384

noncomputable section

variable (m : (ℓ : Loc nD τ sig) → Buf (Elt Ideal) ℓ)

theorem i0_lt (i : grid0.Coords) : (i 0).val < 2 := (i 0).isLt
theorem i1_lt (i : grid0.Coords) : (i 1).val < 128 := (i 1).isLt

theorem tr0 (i : grid0.Coords) : cc0_transform_0 i = ![(i 0).val, (i 1).val, 0] := by
  have := i0_lt i; have := i1_lt i
  unfold cc0_transform_0
  simp only [BitVec.toNat_ofNat]
  repeat rw [Nat.mod_eq_of_lt (by omega)]
theorem tr1 (i : grid0.Coords) : cc0_transform_1 i = ![(i 0).val, (i 1).val, 0] := by
  have := i0_lt i; have := i1_lt i
  unfold cc0_transform_1
  simp only [BitVec.toNat_ofNat]
  repeat rw [Nat.mod_eq_of_lt (by omega)]
theorem tr2 (i : grid0.Coords) : cc0_transform_2 i = ![(i 0).val, (i 1).val, 0] := by
  have := i0_lt i; have := i1_lt i
  unfold cc0_transform_2
  simp only [BitVec.toNat_ofNat]
  repeat rw [Nat.mod_eq_of_lt (by omega)]
theorem tr3 (i : grid0.Coords) : cc0_transform_3 i = ![(i 0).val, 0, (i 1).val, 0] := by
  have := i0_lt i; have := i1_lt i
  unfold cc0_transform_3
  simp only [BitVec.toNat_ofNat]
  repeat rw [Nat.mod_eq_of_lt (by omega)]
theorem tr4 (i : grid0.Coords) : cc0_transform_4 i = ![(i 0).val, 0, (i 1).val, 0] := by
  have := i0_lt i; have := i1_lt i
  unfold cc0_transform_4
  simp only [BitVec.toNat_ofNat]
  repeat rw [Nat.mod_eq_of_lt (by omega)]
theorem tr5 (i : grid0.Coords) : cc0_transform_5 i = ![(i 0).val, 0, (i 1).val, 0] := by
  have := i0_lt i; have := i1_lt i
  unfold cc0_transform_5
  simp only [BitVec.toNat_ofNat]
  repeat rw [Nat.mod_eq_of_lt (by omega)]
theorem tr6 (i : grid0.Coords) : cc0_transform_6 i = ![(i 0).val, (i 1).val, 0] := by
  have := i0_lt i; have := i1_lt i
  unfold cc0_transform_6
  simp only [BitVec.toNat_ofNat]
  repeat rw [Nat.mod_eq_of_lt (by omega)]
theorem tr7 (i : grid0.Coords) : cc0_transform_7 i = ![(i 0).val, (i 1).val, 0] := by
  have := i0_lt i; have := i1_lt i
  unfold cc0_transform_7
  simp only [BitVec.toNat_ofNat]
  repeat rw [Nat.mod_eq_of_lt (by omega)]
theorem tr8 (i : grid0.Coords) : cc0_transform_8 i = ![(i 0).val, (i 1).val, 0] := by
  have := i0_lt i; have := i1_lt i
  unfold cc0_transform_8
  simp only [BitVec.toNat_ofNat]
  repeat rw [Nat.mod_eq_of_lt (by omega)]

/-- The place of a block's entry in its array. -/
theorem place (w : Fin cfg0.W) (t : Fin cfg0.N) (y : ((cfg0.win w).xblock (cfg0.grid.coords t)).Idx) (a : Fin (cfg0.win w).shape.rank) (hk : (cfg0.win w).kind = .blocked) :
    ((((cfg0.win w).rect t).emb y a : Fin _) : ℕ) = (cfg0.win w).index t a * (cfg0.win w).size a + (y a : ℕ) :=
  Pipeline.Window.rect_emb_val (cfg0.win w) t y a hk

/-- Position `r` of block `i`. -/
def posAt (i : Fin 128) (r : Fin 256) : Fin 32768 := ⟨256 * i.val + r.val, by omega⟩

/-- The block of array 0 that a point reads. -/
theorem iblk0_at (c : Dev nD) (t : Fin cfg0.N) (b : Fin 2) (hb : (grid0.coords t 0).val = b.val) (i : Fin 128) (hi : (grid0.coords t 1).val = i.val) (r : Fin 256) (x : Fin 1024) :
    iblk m c 0 t (ix3 0 r x) = m ((c : Thread nD τ).loc main_arg0) (ix3 b (posAt i r) x) := by
  rw [← V_main_arg0 m c]
  show ((cfg0.win 0).blk t).view.read (Elt Ideal) (V m c main_arg0) (ix3 0 r x) = _
  generalize V m c main_arg0 = X
  blk_simp
  refine congrArg X (funext fun a => Fin.ext ?_)
  refine (place 0 t (ix3 0 r x) a rfl).trans ?_
  refine (congrArg (· * _ + _) (congrFun (tr0 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 1024 + x.val = x.val; omega

/-- The numbers of a head at a position of that block. -/
theorem row0 (c : Dev nD) (t : Fin cfg0.N) (b : Fin 2) (hb : (grid0.coords t 0).val = b.val) (i : Fin 128) (hi : (grid0.coords t 1).val = i.val) (r : Fin 256) (h : Fin 8) :
    headRow (head (iblk m c 0 t) h) r = rowOf (m ((c : Thread nD τ).loc main_arg0)) b (posAt i r) h :=
  funext fun _ => iblk0_at m c t b hb i hi r _

/-- The block of array 1 that a point reads. -/
theorem iblk1_at (c : Dev nD) (t : Fin cfg0.N) (b : Fin 2) (hb : (grid0.coords t 0).val = b.val) (i : Fin 128) (hi : (grid0.coords t 1).val = i.val) (r : Fin 256) (x : Fin 1024) :
    iblk m c 1 t (ix3 0 r x) = m ((c : Thread nD τ).loc main_arg1) (ix3 b (posAt i r) x) := by
  rw [← V_main_arg1 m c]
  show ((cfg0.win 1).blk t).view.read (Elt Ideal) (V m c main_arg1) (ix3 0 r x) = _
  generalize V m c main_arg1 = X
  blk_simp
  refine congrArg X (funext fun a => Fin.ext ?_)
  refine (place 1 t (ix3 0 r x) a rfl).trans ?_
  refine (congrArg (· * _ + _) (congrFun (tr1 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 1024 + x.val = x.val; omega

/-- The numbers of a head at a position of that block. -/
theorem row1 (c : Dev nD) (t : Fin cfg0.N) (b : Fin 2) (hb : (grid0.coords t 0).val = b.val) (i : Fin 128) (hi : (grid0.coords t 1).val = i.val) (r : Fin 256) (h : Fin 8) :
    headRow (head (iblk m c 1 t) h) r = rowOf (m ((c : Thread nD τ).loc main_arg1)) b (posAt i r) h :=
  funext fun _ => iblk1_at m c t b hb i hi r _

/-- The block of array 2 that a point reads. -/
theorem iblk2_at (c : Dev nD) (t : Fin cfg0.N) (b : Fin 2) (hb : (grid0.coords t 0).val = b.val) (i : Fin 128) (hi : (grid0.coords t 1).val = i.val) (r : Fin 256) (x : Fin 1024) :
    iblk m c 2 t (ix3 0 r x) = m ((c : Thread nD τ).loc main_arg2) (ix3 b (posAt i r) x) := by
  rw [← V_main_arg2 m c]
  show ((cfg0.win 2).blk t).view.read (Elt Ideal) (V m c main_arg2) (ix3 0 r x) = _
  generalize V m c main_arg2 = X
  blk_simp
  refine congrArg X (funext fun a => Fin.ext ?_)
  refine (place 2 t (ix3 0 r x) a rfl).trans ?_
  refine (congrArg (· * _ + _) (congrFun (tr2 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 1024 + x.val = x.val; omega

/-- The numbers of a head at a position of that block. -/
theorem row2 (c : Dev nD) (t : Fin cfg0.N) (b : Fin 2) (hb : (grid0.coords t 0).val = b.val) (i : Fin 128) (hi : (grid0.coords t 1).val = i.val) (r : Fin 256) (h : Fin 8) :
    headRow (head (iblk m c 2 t) h) r = rowOf (m ((c : Thread nD τ).loc main_arg2)) b (posAt i r) h :=
  funext fun _ => iblk2_at m c t b hb i hi r _

theorem place3 (t : Fin cfg0.N) (b : Fin 2) (hb : (grid0.coords t 0).val = b.val) (i : Fin 128) (hi : (grid0.coords t 1).val = i.val) (h : Fin 8) (r : Fin 256) (d : Fin 128) :
    ((cfg0.win 3).blk t).view.emb (ix4 0 h r d) = ix4 b h (posAt i r) d := by
  refine funext fun a => Fin.ext ?_
  refine (place 3 t (ix4 0 h r d) a rfl).trans ?_
  refine (congrArg (· * _ + _) (congrFun (tr3 (grid0.coords t)) a)).trans ?_
  match a with
  | ⟨0, _⟩ => show (grid0.coords t 0).val * 1 + 0 = b.val; omega
  | ⟨1, _⟩ => show 0 * 8 + h.val = h.val; omega
  | ⟨2, _⟩ => show (grid0.coords t 1).val * 256 + r.val = 256 * i.val + r.val; omega
  | ⟨3, _⟩ => show 0 * 128 + d.val = d.val; omega

theorem covers3 : (cfg0.win 3).Covers := by decide +kernel

/-- The codes of array 0 after the run. -/
theorem final3 (c : Dev nD) : (dats m 0 c).arrAt 3 cfg0.N = codesOf (m ((c : Thread nD τ).loc main_arg0)) := by
  refine (dats m 0 c).arrAt_eq_of_covers 3 _ covers3 fun t _ y => ?_
  blk_simp
  rw [after0_3, out3_eq, codeBlock_eq]
  revert y
  change ∀ y : S1x8x256x128.Idx, _
  intro y
  obtain ⟨h, r, d, rfl⟩ : ∃ (h : Fin 8) (r : Fin 256) (d : Fin 128), y = ix4 0 h r d := ⟨y 1, y 2, y 3, funext fun a => by
    match a with
    | ⟨0, _⟩ => exact Subsingleton.elim (α := Fin 1) _ _
    | ⟨1, _⟩ => rfl
    | ⟨2, _⟩ => rfl
    | ⟨3, _⟩ => rfl⟩
  have e := place3 t ⟨_, i0_lt (grid0.coords t)⟩ rfl ⟨_, i1_lt (grid0.coords t)⟩ rfl h r d
  exact (congrArg (fun f => codeOf f d) (row0 m c t ⟨_, i0_lt (grid0.coords t)⟩ rfl ⟨_, i1_lt (grid0.coords t)⟩ rfl r h)).trans
    (congrArg (codesOf (m ((c : Thread nD τ).loc main_arg0))) e).symm

theorem place4 (t : Fin cfg0.N) (b : Fin 2) (hb : (grid0.coords t 0).val = b.val) (i : Fin 128) (hi : (grid0.coords t 1).val = i.val) (h : Fin 8) (r : Fin 256) (d : Fin 128) :
    ((cfg0.win 4).blk t).view.emb (ix4 0 h r d) = ix4 b h (posAt i r) d := by
  refine funext fun a => Fin.ext ?_
  refine (place 4 t (ix4 0 h r d) a rfl).trans ?_
  refine (congrArg (· * _ + _) (congrFun (tr4 (grid0.coords t)) a)).trans ?_
  match a with
  | ⟨0, _⟩ => show (grid0.coords t 0).val * 1 + 0 = b.val; omega
  | ⟨1, _⟩ => show 0 * 8 + h.val = h.val; omega
  | ⟨2, _⟩ => show (grid0.coords t 1).val * 256 + r.val = 256 * i.val + r.val; omega
  | ⟨3, _⟩ => show 0 * 128 + d.val = d.val; omega

theorem covers4 : (cfg0.win 4).Covers := by decide +kernel

/-- The codes of array 1 after the run. -/
theorem final4 (c : Dev nD) : (dats m 0 c).arrAt 4 cfg0.N = codesOf (m ((c : Thread nD τ).loc main_arg1)) := by
  refine (dats m 0 c).arrAt_eq_of_covers 4 _ covers4 fun t _ y => ?_
  blk_simp
  rw [after0_4, out4_eq, codeBlock_eq]
  revert y
  change ∀ y : S1x8x256x128.Idx, _
  intro y
  obtain ⟨h, r, d, rfl⟩ : ∃ (h : Fin 8) (r : Fin 256) (d : Fin 128), y = ix4 0 h r d := ⟨y 1, y 2, y 3, funext fun a => by
    match a with
    | ⟨0, _⟩ => exact Subsingleton.elim (α := Fin 1) _ _
    | ⟨1, _⟩ => rfl
    | ⟨2, _⟩ => rfl
    | ⟨3, _⟩ => rfl⟩
  have e := place4 t ⟨_, i0_lt (grid0.coords t)⟩ rfl ⟨_, i1_lt (grid0.coords t)⟩ rfl h r d
  exact (congrArg (fun f => codeOf f d) (row1 m c t ⟨_, i0_lt (grid0.coords t)⟩ rfl ⟨_, i1_lt (grid0.coords t)⟩ rfl r h)).trans
    (congrArg (codesOf (m ((c : Thread nD τ).loc main_arg1))) e).symm

theorem place5 (t : Fin cfg0.N) (b : Fin 2) (hb : (grid0.coords t 0).val = b.val) (i : Fin 128) (hi : (grid0.coords t 1).val = i.val) (h : Fin 8) (r : Fin 256) (d : Fin 128) :
    ((cfg0.win 5).blk t).view.emb (ix4 0 h r d) = ix4 b h (posAt i r) d := by
  refine funext fun a => Fin.ext ?_
  refine (place 5 t (ix4 0 h r d) a rfl).trans ?_
  refine (congrArg (· * _ + _) (congrFun (tr5 (grid0.coords t)) a)).trans ?_
  match a with
  | ⟨0, _⟩ => show (grid0.coords t 0).val * 1 + 0 = b.val; omega
  | ⟨1, _⟩ => show 0 * 8 + h.val = h.val; omega
  | ⟨2, _⟩ => show (grid0.coords t 1).val * 256 + r.val = 256 * i.val + r.val; omega
  | ⟨3, _⟩ => show 0 * 128 + d.val = d.val; omega

theorem covers5 : (cfg0.win 5).Covers := by decide +kernel

/-- The codes of array 2 after the run. -/
theorem final5 (c : Dev nD) : (dats m 0 c).arrAt 5 cfg0.N = codesOf (m ((c : Thread nD τ).loc main_arg2)) := by
  refine (dats m 0 c).arrAt_eq_of_covers 5 _ covers5 fun t _ y => ?_
  blk_simp
  rw [after0_5, out5_eq, codeBlock_eq]
  revert y
  change ∀ y : S1x8x256x128.Idx, _
  intro y
  obtain ⟨h, r, d, rfl⟩ : ∃ (h : Fin 8) (r : Fin 256) (d : Fin 128), y = ix4 0 h r d := ⟨y 1, y 2, y 3, funext fun a => by
    match a with
    | ⟨0, _⟩ => exact Subsingleton.elim (α := Fin 1) _ _
    | ⟨1, _⟩ => rfl
    | ⟨2, _⟩ => rfl
    | ⟨3, _⟩ => rfl⟩
  have e := place5 t ⟨_, i0_lt (grid0.coords t)⟩ rfl ⟨_, i1_lt (grid0.coords t)⟩ rfl h r d
  exact (congrArg (fun f => codeOf f d) (row2 m c t ⟨_, i0_lt (grid0.coords t)⟩ rfl ⟨_, i1_lt (grid0.coords t)⟩ rfl r h)).trans
    (congrArg (codesOf (m ((c : Thread nD τ).loc main_arg2))) e).symm

theorem place6 (t : Fin cfg0.N) (b : Fin 2) (hb : (grid0.coords t 0).val = b.val) (i : Fin 128) (hi : (grid0.coords t 1).val = i.val) (r : Fin 256) (h : Fin 8) :
    ((cfg0.win 6).blk t).view.emb (ix3 0 r h) = ix3 b (posAt i r) h := by
  refine funext fun a => Fin.ext ?_
  refine (place 6 t (ix3 0 r h) a rfl).trans ?_
  refine (congrArg (· * _ + _) (congrFun (tr6 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 8 + h.val = h.val; omega

theorem covers6 : (cfg0.win 6).Covers := by decide +kernel

/-- The scales of array 0 after the run. -/
theorem final6 (c : Dev nD) : (dats m 0 c).arrAt 6 cfg0.N = scalesOf (m ((c : Thread nD τ).loc main_arg0)) := by
  refine (dats m 0 c).arrAt_eq_of_covers 6 _ covers6 fun t _ y => ?_
  blk_simp
  rw [after0_6, out6_eq]
  revert y
  change ∀ y : S1x256x8.Idx, _
  intro y
  obtain ⟨r, h, rfl⟩ : ∃ (r : Fin 256) (h : Fin 8), y = ix3 0 r h := ⟨y 1, y 2, funext fun a => by
    match a with
    | ⟨0, _⟩ => exact Subsingleton.elim (α := Fin 1) _ _
    | ⟨1, _⟩ => rfl
    | ⟨2, _⟩ => rfl⟩
  have e := place6 t ⟨_, i0_lt (grid0.coords t)⟩ rfl ⟨_, i1_lt (grid0.coords t)⟩ rfl r h
  exact (scaleBlock_at _ r h).trans ((congrArg scaleOf (row0 m c t ⟨_, i0_lt (grid0.coords t)⟩ rfl ⟨_, i1_lt (grid0.coords t)⟩ rfl r h)).trans
    (congrArg (scalesOf (m ((c : Thread nD τ).loc main_arg0))) e).symm)

theorem place7 (t : Fin cfg0.N) (b : Fin 2) (hb : (grid0.coords t 0).val = b.val) (i : Fin 128) (hi : (grid0.coords t 1).val = i.val) (r : Fin 256) (h : Fin 8) :
    ((cfg0.win 7).blk t).view.emb (ix3 0 r h) = ix3 b (posAt i r) h := by
  refine funext fun a => Fin.ext ?_
  refine (place 7 t (ix3 0 r h) a rfl).trans ?_
  refine (congrArg (· * _ + _) (congrFun (tr7 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 8 + h.val = h.val; omega

theorem covers7 : (cfg0.win 7).Covers := by decide +kernel

/-- The scales of array 1 after the run. -/
theorem final7 (c : Dev nD) : (dats m 0 c).arrAt 7 cfg0.N = scalesOf (m ((c : Thread nD τ).loc main_arg1)) := by
  refine (dats m 0 c).arrAt_eq_of_covers 7 _ covers7 fun t _ y => ?_
  blk_simp
  rw [after0_7, out7_eq]
  revert y
  change ∀ y : S1x256x8.Idx, _
  intro y
  obtain ⟨r, h, rfl⟩ : ∃ (r : Fin 256) (h : Fin 8), y = ix3 0 r h := ⟨y 1, y 2, funext fun a => by
    match a with
    | ⟨0, _⟩ => exact Subsingleton.elim (α := Fin 1) _ _
    | ⟨1, _⟩ => rfl
    | ⟨2, _⟩ => rfl⟩
  have e := place7 t ⟨_, i0_lt (grid0.coords t)⟩ rfl ⟨_, i1_lt (grid0.coords t)⟩ rfl r h
  exact (scaleBlock_at _ r h).trans ((congrArg scaleOf (row1 m c t ⟨_, i0_lt (grid0.coords t)⟩ rfl ⟨_, i1_lt (grid0.coords t)⟩ rfl r h)).trans
    (congrArg (scalesOf (m ((c : Thread nD τ).loc main_arg1))) e).symm)

theorem place8 (t : Fin cfg0.N) (b : Fin 2) (hb : (grid0.coords t 0).val = b.val) (i : Fin 128) (hi : (grid0.coords t 1).val = i.val) (r : Fin 256) (h : Fin 8) :
    ((cfg0.win 8).blk t).view.emb (ix3 0 r h) = ix3 b (posAt i r) h := by
  refine funext fun a => Fin.ext ?_
  refine (place 8 t (ix3 0 r h) a rfl).trans ?_
  refine (congrArg (· * _ + _) (congrFun (tr8 (grid0.coords t)) a)).trans ?_
  match a with
  | ⟨0, _⟩ => show (grid0.coords t 0).val * 1 + 0 = b.val; omega
  | ⟨1, _⟩ => show (grid0.coords t 1).val * 256 + r.val = 256 * i.val + r.val; omega
  | ⟨2, _⟩ => show 0 * 8 + h.val = h.val; omega

theorem covers8 : (cfg0.win 8).Covers := by decide +kernel

/-- The scales of array 2 after the run. -/
theorem final8 (c : Dev nD) : (dats m 0 c).arrAt 8 cfg0.N = scalesOf (m ((c : Thread nD τ).loc main_arg2)) := by
  refine (dats m 0 c).arrAt_eq_of_covers 8 _ covers8 fun t _ y => ?_
  blk_simp
  rw [after0_8, out8_eq]
  revert y
  change ∀ y : S1x256x8.Idx, _
  intro y
  obtain ⟨r, h, rfl⟩ : ∃ (r : Fin 256) (h : Fin 8), y = ix3 0 r h := ⟨y 1, y 2, funext fun a => by
    match a with
    | ⟨0, _⟩ => exact Subsingleton.elim (α := Fin 1) _ _
    | ⟨1, _⟩ => rfl
    | ⟨2, _⟩ => rfl⟩
  have e := place8 t ⟨_, i0_lt (grid0.coords t)⟩ rfl ⟨_, i1_lt (grid0.coords t)⟩ rfl r h
  exact (scaleBlock_at _ r h).trans ((congrArg scaleOf (row2 m c t ⟨_, i0_lt (grid0.coords t)⟩ rfl ⟨_, i1_lt (grid0.coords t)⟩ rfl r h)).trans
    (congrArg (scalesOf (m ((c : Thread nD τ).loc main_arg2))) e).symm)

end

end Cert.QuantiseIdeal.Gen
-- ==== Proof.QRValue.lean ====
module

public import proofs.«01_k».proof.Proof.Quant
public import proofs.«01_k».proof.Proof.Gen.QuantiseReferenceIdeal.Frame
public import Idealize.ShloMosaic.Lib.Pipeline.ValueKit
public import Idealize.ShloMosaic.Lib.Pipeline.Frame
public import Idealize.ShloMosaic.Lib.Claim

/-! # The results of the quantiser's reference

Its one call reads the three arrays whole. Its results are their codes and scales. -/

@[expose] public section

namespace Cert.QuantiseReferenceIdeal.Gen

open Idealize.ShloMosaic Idealize.ShloMosaic.TcCoe Idealize.SL.Sem Finset
open Idealize.ShloMosaic.Pipeline (Dat)
open Cert.Attention

set_option maxRecDepth 16384

noncomputable section

theorem ofBits_bot : Ideal.ofBits FTy.f32 4286578688#32 = ⊥ := by
  simp [Ideal.ofBits, Ideal.ieee]

theorem fold_max_bot {ι : Type} [Fintype ι] (f : ι → EReal) : Finset.fold max (Ideal.ofBits FTy.f32 4286578688#32) f univ = univ.sup f := by
  rw [ofBits_bot]; rfl

theorem ofBits_one : Ideal.ofBits FTy.f32 0x3F800000#32 = 1 := Ideal.ofBits_one_f32
theorem ofBits_two : Ideal.ofBits FTy.f32 0x40000000#32 = ((2 : ℝ) : EReal) := by
  simp [Ideal.ofBits, Ideal.ieee, -EReal.coe_mul]
  try norm_num
theorem ofBits_cap : Ideal.ofBits FTy.f32 0x42FC0000#32 = ((126 : ℝ) : EReal) := by
  simp [Ideal.ofBits, Ideal.ieee, -EReal.coe_mul]
  try norm_num
theorem ofBits_min : Ideal.ofBits FTy.f32 0x00800000#32 = (((2 : ℝ) ^ (-126 : ℤ) : ℝ) : EReal) := by
  have := ofBits_pow (n := 1) (by norm_num) (by norm_num)
  norm_num at this ⊢
  exact this

theorem absf_eq (x : EReal) : FloatOps.absf (F := Ideal) (φ := .f32) x = max x (-x) := rfl
theorem exp2_eq (x : EReal) : FloatOps.exp2 (F := Ideal) (φ := .f32) x = Ideal.exp2 x := rfl

/-- An array with its heads apart. -/
theorem pay4_at (X : Vec Ideal S2x32768x1024 .bf16) (b : Fin 2) (r : Fin 32768) (h : Fin 8) (k : Fin 128) :
    k0_pay4 (F := Ideal) X (ix4 b r h k) = rowOf X b r h k := by
  pointwise [k0_pay4]
  rfl

/-- The largest magnitude of each head of each position. -/
def tops (u : FVec Ideal S2x32768x8x128 .f32) : FVec Ideal S2x32768x8 .f32 :=
  multiReduction .maximumf [3] S2x32768x8 (absf u) 0xFF800000#32 reduces_S2x32768x8x128_S2x32768x8 (.inl rfl) rfl

theorem tops_at (u : FVec Ideal S2x32768x8x128 .f32) (b : Fin 2) (r : Fin 32768) (h : Fin 8) :
    tops u (ix3 b r h) = univ.sup fun k => max (u (ix4 b r h k)) (-(u (ix4 b r h k))) := by
  rw [← fold_max_bot]
  pointwise [tops]
  simp only [absf_eq]

/-- The exponents, from the largest magnitudes. -/
def expos (v4 : FVec Ideal S2x32768x8 .f32) : FVec Ideal S2x32768x8 .f32 :=
  have v6 : FVec Ideal S2x32768x8 .f32 := mulf v4 (broadcast S2x32768x8 (Scalar.ofBits .f32 0x3B124925#32))
  have v10 : FVec Ideal S2x32768x8 .f32 := divf (log v6) (log (broadcast S2x32768x8 (Scalar.ofBits .f32 0x40000000#32)))
  have v13 : FVec Ideal S2x32768x8 .f32 := addf (floor v10) (broadcast S2x32768x8 (Scalar.ofBits .f32 0x3F800000#32))
  have v15 : FVec Ideal S2x32768x8 .f32 := minimumf v13 (broadcast S2x32768x8 (Scalar.ofBits .f32 0x42FC0000#32))
  select (cmpf .olt v6 (broadcast S2x32768x8 (Scalar.ofBits .f32 0x00800000#32))) (broadcast S2x32768x8 (Scalar.ofBits .f32 0x00000000#32)) v15

theorem expos_at (m : FVec Ideal S2x32768x8 .f32) (b : Fin 2) (r : Fin 32768) (h : Fin 8) : expos m (ix3 b r h) = refExpo (m (ix3 b r h) * invTop) := by
  unfold refExpo
  rw [← ofBits_min, ← ofBits_two, ← ofBits_cap, ← ofBits_one]
  pointwise [expos]

theorem pay5_eq (X : Vec Ideal S2x32768x1024 .bf16) : k0_pay5 (F := Ideal) X = expos (tops (k0_pay4 X)) := rfl

theorem pay5_at (X : Vec Ideal S2x32768x1024 .bf16) (b : Fin 2) (r : Fin 32768) (h : Fin 8) : k0_pay5 (F := Ideal) X (ix3 b r h) = refExpo (topOf (rowOf X b r h)) := by
  rw [pay5_eq, expos_at, tops_at]
  simp only [pay4_at]
  rfl

/-- The codes, from the array and the exponents. -/
def codes (u : FVec Ideal S2x32768x8x128 .f32) (e : FVec Ideal S2x32768x8 .f32) : FVec Ideal S2x8x32768x128 .fp8e4m3 :=
  have v91 : FVec Ideal S2x32768x8 .f32 := subf (broadcast S2x32768x8 (Scalar.ofBits .f32 0x00000000#32)) e
  have v93 : FVec Ideal S2x32768x8x1 .f32 := shapeCast S2x32768x8x1 (exp2 v91) shapeCasts_S2x32768x8_S2x32768x8x1
  have v95 : FVec Ideal S2x32768x8x128 .f32 := mulf u (broadcastTo S2x32768x8x128 v93 broadcasts_S2x32768x8x1_S2x32768x8x128)
  have v97 : FVec Ideal S2x32768x8x128 .f32 := maximumf (broadcast S2x32768x8x128 (Scalar.ofBits .f32 0xC3E00000#32)) v95
  have v99 : FVec Ideal S2x32768x8x128 .f32 := minimumf (broadcast S2x32768x8x128 (Scalar.ofBits .f32 0x43E00000#32)) v97
  transpose S2x8x32768x128 [0, 2, 1, 3] (truncf .fp8e4m3 v99 bitsLt_fp8e4m3_f32) transposes_S2x32768x8x128_p0_2_1_3_S2x8x32768x128

theorem codes_at (u : FVec Ideal S2x32768x8x128 .f32) (e : FVec Ideal S2x32768x8 .f32) (b : Fin 2) (h : Fin 8) (r : Fin 32768) (d : Fin 128) :
    codes u e (ix4 b h r d) = clip (u (ix4 b r h d) * Ideal.exp2 (0 - e (ix3 b r h))) := by
  pointwise [codes]
  simp only [exp2_eq, clip]

theorem pay6_eq (X : Vec Ideal S2x32768x1024 .bf16) : k0_pay6 (F := Ideal) X = codes (k0_pay4 X) (k0_pay5 X) := rfl

/-- A code of the reference. -/
theorem pay6_at (X : Vec Ideal S2x32768x1024 .bf16) (b : Fin 2) (h : Fin 8) (r : Fin 32768) (d : Fin 128) :
    k0_pay6 (F := Ideal) X (ix4 b h r d) = codeOf (rowOf X b r h) d := by
  rw [pay6_eq, codes_at, pay4_at, pay5_at, exp2_neg_refExpo, codeOf]

theorem scales_at (e : FVec Ideal S2x32768x8 .f32) (b : Fin 2) (r : Fin 32768) (h : Fin 8) :
    (exp2 e : FVec Ideal S2x32768x8 .f32) (ix3 b r h) = Ideal.exp2 (e (ix3 b r h)) := rfl

theorem pay7_eq (X : Vec Ideal S2x32768x1024 .bf16) : k0_pay7 (F := Ideal) X = exp2 (k0_pay5 X) := rfl

/-- A scale of the reference. -/
theorem pay7_at (X : Vec Ideal S2x32768x1024 .bf16) (b : Fin 2) (r : Fin 32768) (h : Fin 8) :
    k0_pay7 (F := Ideal) X (ix3 b r h) = scaleOf (rowOf X b r h) := by
  rw [pay7_eq, scales_at, pay5_at, exp2_refExpo, scaleOf]

/-- The reference's codes. -/
theorem codes_eq (X : Vec Ideal S2x32768x1024 .bf16) : k0_pay6 (F := Ideal) X = codesOf X := by
  funext y
  rw [eq_ix4 y]
  exact pay6_at X _ _ _ _

/-- The reference's scales. -/
theorem scales_eq (X : Vec Ideal S2x32768x1024 .bf16) : k0_pay7 (F := Ideal) X = scalesOf X := by
  funext y
  rw [eq_ix3 y]
  exact pay7_at X _ _ _

theorem second_codes (X : Vec Ideal S2x32768x1024 .bf16) : k0_pay10 (F := Ideal) X = k0_pay6 X := rfl
theorem second_scales (X : Vec Ideal S2x32768x1024 .bf16) : k0_pay11 (F := Ideal) X = k0_pay7 X := rfl
theorem third_codes (X : Vec Ideal S2x32768x1024 .bf16) : k0_pay2 (F := Ideal) (k0_pay12 X) = k0_pay6 X := rfl
theorem third_scales (X : Vec Ideal S2x32768x1024 .bf16) : k0_pay3 (F := Ideal) (k0_pay12 X) = k0_pay7 X := rfl

variable (m : (ℓ : Loc nD τ sig) → Buf (Elt Ideal) ℓ) (ρ : Dev nD → PrngReg)

/-- Every input window's block index at the one point. -/
theorem idx : ∀ t : Fin cfg0.N, win0_0.index t = ![0, 0, 0] ∧ win0_1.index t = ![0, 0, 0] ∧ win0_2.index t = ![0, 0, 0]
    ∧ win0_3.index t = ![0, 0, 0, 0] ∧ win0_4.index t = ![0, 0, 0, 0] ∧ win0_5.index t = ![0, 0, 0, 0]
    ∧ win0_6.index t = ![0, 0, 0] ∧ win0_7.index t = ![0, 0, 0] ∧ win0_8.index t = ![0, 0, 0] :=
  (by decide +kernel : ∀ t : Fin grid0.N, _)

theorem iblk_0 (c : Dev nD) : iblk m c 0 t0_0 = V m c main_arg0 := by
  show ((cfg0.win 0).blk t0_0).view.read (Elt Ideal) (V m c main_arg0) = V m c main_arg0
  generalize V m c main_arg0 = X
  blk_ext! [idx t0_0]
theorem iblk_1 (c : Dev nD) : iblk m c 1 t0_0 = V m c main_arg1 := by
  show ((cfg0.win 1).blk t0_0).view.read (Elt Ideal) (V m c main_arg1) = V m c main_arg1
  generalize V m c main_arg1 = X
  blk_ext! [idx t0_0]
theorem iblk_2 (c : Dev nD) : iblk m c 2 t0_0 = V m c main_arg2 := by
  show ((cfg0.win 2).blk t0_0).view.read (Elt Ideal) (V m c main_arg2) = V m c main_arg2
  generalize V m c main_arg2 = X
  blk_ext! [idx t0_0]

theorem ld_whole (x : Vec Ideal S2x32768x1024 .bf16) : View.ld x r0_0 = x := by
  frame_out
theorem codes_whole (P : Vec Ideal S2x8x32768x128 .fp8e4m3) : View.canon [(⟨r0_1, P⟩ : View.Piece (Elt Ideal) S2x8x32768x128 .fp8e4m3)] = P := by
  frame_out
theorem scales_whole (P : Vec Ideal S2x32768x8 .f32) : View.canon [(⟨r0_2, P⟩ : View.Piece (Elt Ideal) S2x32768x8 .f32)] = P := by
  frame_out

variable (x0 x1 x2 : Vec Ideal S2x32768x1024 .bf16)

theorem out3_eq : out0_3 x0 x1 x2 = codesOf x0 := by
  rw [out0_3, codes_whole, ld_whole, codes_eq]
theorem out4_eq : out0_4 x0 x1 x2 = codesOf x1 := by
  rw [out0_4, codes_whole, ld_whole, second_codes, codes_eq]
theorem out5_eq : out0_5 x0 x1 x2 = codesOf x2 := by
  rw [out0_5, codes_whole, k0_pay13, ld_whole, third_codes, codes_eq]
theorem out6_eq : out0_6 x0 x1 x2 = scalesOf x0 := by
  rw [out0_6, scales_whole, ld_whole, scales_eq]
theorem out7_eq : out0_7 x0 x1 x2 = scalesOf x1 := by
  rw [out0_7, scales_whole, ld_whole, second_scales, scales_eq]
theorem out8_eq : out0_8 x0 x1 x2 = scalesOf x2 := by
  rw [out0_8, scales_whole, k0_pay13, ld_whole, third_scales, scales_eq]

theorem arr3 (c : Dev nD) (G : Vec Ideal S2x8x32768x128 .fp8e4m3) (hG : out0_3 (iblk m c 0 t0_0) (iblk m c 1 t0_0) (iblk m c 2 t0_0) = G) :
    (dats m 0 c).arrAt 3 cfg0.N = G := by
  refine (dats m 0 c).arrAt_eq_of_after_last 3 t0_0 (by decide +kernel) _ fun j => ?_
  blk_simp
  rw [after0_3, hG]

/-- The codes of array 0 after the run. -/
theorem final3 (c : Dev nD) : (dats m 0 c).arrAt 3 cfg0.N = codesOf (m ((c : Thread nD τ).loc main_arg0)) :=
  arr3 m c _ ((out3_eq _ _ _).trans (congrArg codesOf ((iblk_0 m c).trans (V_main_arg0 m c))))

theorem arr4 (c : Dev nD) (G : Vec Ideal S2x8x32768x128 .fp8e4m3) (hG : out0_4 (iblk m c 0 t0_0) (iblk m c 1 t0_0) (iblk m c 2 t0_0) = G) :
    (dats m 0 c).arrAt 4 cfg0.N = G := by
  refine (dats m 0 c).arrAt_eq_of_after_last 4 t0_0 (by decide +kernel) _ fun j => ?_
  blk_simp
  rw [after0_4, hG]

/-- The codes of array 1 after the run. -/
theorem final4 (c : Dev nD) : (dats m 0 c).arrAt 4 cfg0.N = codesOf (m ((c : Thread nD τ).loc main_arg1)) :=
  arr4 m c _ ((out4_eq _ _ _).trans (congrArg codesOf ((iblk_1 m c).trans (V_main_arg1 m c))))

theorem arr5 (c : Dev nD) (G : Vec Ideal S2x8x32768x128 .fp8e4m3) (hG : out0_5 (iblk m c 0 t0_0) (iblk m c 1 t0_0) (iblk m c 2 t0_0) = G) :
    (dats m 0 c).arrAt 5 cfg0.N = G := by
  refine (dats m 0 c).arrAt_eq_of_after_last 5 t0_0 (by decide +kernel) _ fun j => ?_
  blk_simp
  rw [after0_5, hG]

/-- The codes of array 2 after the run. -/
theorem final5 (c : Dev nD) : (dats m 0 c).arrAt 5 cfg0.N = codesOf (m ((c : Thread nD τ).loc main_arg2)) :=
  arr5 m c _ ((out5_eq _ _ _).trans (congrArg codesOf ((iblk_2 m c).trans (V_main_arg2 m c))))

theorem arr6 (c : Dev nD) (G : Vec Ideal S2x32768x8 .f32) (hG : out0_6 (iblk m c 0 t0_0) (iblk m c 1 t0_0) (iblk m c 2 t0_0) = G) :
    (dats m 0 c).arrAt 6 cfg0.N = G := by
  refine (dats m 0 c).arrAt_eq_of_after_last 6 t0_0 (by decide +kernel) _ fun j => ?_
  blk_simp
  rw [after0_6, hG]

/-- The scales of array 0 after the run. -/
theorem final6 (c : Dev nD) : (dats m 0 c).arrAt 6 cfg0.N = scalesOf (m ((c : Thread nD τ).loc main_arg0)) :=
  arr6 m c _ ((out6_eq _ _ _).trans (congrArg scalesOf ((iblk_0 m c).trans (V_main_arg0 m c))))

theorem arr7 (c : Dev nD) (G : Vec Ideal S2x32768x8 .f32) (hG : out0_7 (iblk m c 0 t0_0) (iblk m c 1 t0_0) (iblk m c 2 t0_0) = G) :
    (dats m 0 c).arrAt 7 cfg0.N = G := by
  refine (dats m 0 c).arrAt_eq_of_after_last 7 t0_0 (by decide +kernel) _ fun j => ?_
  blk_simp
  rw [after0_7, hG]

/-- The scales of array 1 after the run. -/
theorem final7 (c : Dev nD) : (dats m 0 c).arrAt 7 cfg0.N = scalesOf (m ((c : Thread nD τ).loc main_arg1)) :=
  arr7 m c _ ((out7_eq _ _ _).trans (congrArg scalesOf ((iblk_1 m c).trans (V_main_arg1 m c))))

theorem arr8 (c : Dev nD) (G : Vec Ideal S2x32768x8 .f32) (hG : out0_8 (iblk m c 0 t0_0) (iblk m c 1 t0_0) (iblk m c 2 t0_0) = G) :
    (dats m 0 c).arrAt 8 cfg0.N = G := by
  refine (dats m 0 c).arrAt_eq_of_after_last 8 t0_0 (by decide +kernel) _ fun j => ?_
  blk_simp
  rw [after0_8, hG]

/-- The scales of array 2 after the run. -/
theorem final8 (c : Dev nD) : (dats m 0 c).arrAt 8 cfg0.N = scalesOf (m ((c : Thread nD τ).loc main_arg2)) :=
  arr8 m c _ ((out8_eq _ _ _).trans (congrArg scalesOf ((iblk_2 m c).trans (V_main_arg2 m c))))

/-- The reference ends with the codes and scales of its arguments, and its arguments as they were. -/
theorem run_result : θ_run (defs (F := Ideal)) (onTc (τ := τ) (main (F := Ideal))) ⟨m, fun _ => 0, ρ⟩ (fun r => ∀ c : Dev nD,
      r.2.mem ((c.tc : Thread nD τ).loc main_v0_0) = codesOf (m ((c : Thread nD τ).loc main_arg0))
      ∧ r.2.mem ((c.tc : Thread nD τ).loc main_v0_1) = codesOf (m ((c : Thread nD τ).loc main_arg1))
      ∧ r.2.mem ((c.tc : Thread nD τ).loc main_v0_2) = codesOf (m ((c : Thread nD τ).loc main_arg2))
      ∧ r.2.mem ((c.tc : Thread nD τ).loc main_v0_3) = scalesOf (m ((c : Thread nD τ).loc main_arg0))
      ∧ r.2.mem ((c.tc : Thread nD τ).loc main_v0_4) = scalesOf (m ((c : Thread nD τ).loc main_arg1))
      ∧ r.2.mem ((c.tc : Thread nD τ).loc main_v0_5) = scalesOf (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).1 3).trans (final3 m c),
      ((h c).1 4).trans (final4 m c),
      ((h c).1 5).trans (final5 m c),
      ((h c).1 6).trans (final6 m c),
      ((h c).1 7).trans (final7 m c),
      ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end

end Cert.QuantiseReferenceIdeal.Gen
-- ==== Proof.QAgree.lean ====
module

public import proofs.«01_k».proof.Defs
public import proofs.«01_k».proof.Proof.QFinal
public import proofs.«01_k».proof.Proof.QRValue

/-! # The quantise program and its reference agree

The results of both are the codes and scales of the three arrays. -/

@[expose] public section

namespace Cert.QuantiseIdeal.Gen

open Idealize.ShloMosaic Idealize.ShloMosaic.TcCoe Idealize.SL.Sem
open Cert.Attention

set_option maxRecDepth 16384

variable (m : (ℓ : Loc nD τ sig) → Buf (Elt Ideal) ℓ) (ρ : Dev nD → PrngReg)

/-- The quantise program ends with the codes and scales of its arguments, and its arguments as they were. -/
theorem run_result : θ_run (defs (F := Ideal)) (onTc (τ := τ) (main (F := Ideal))) ⟨m, fun _ => 0, ρ⟩ (fun r => ∀ c : Dev nD,
      r.2.mem ((c.tc : Thread nD τ).loc main_v0_0) = codesOf (m ((c : Thread nD τ).loc main_arg0))
      ∧ r.2.mem ((c.tc : Thread nD τ).loc main_v0_1) = codesOf (m ((c : Thread nD τ).loc main_arg1))
      ∧ r.2.mem ((c.tc : Thread nD τ).loc main_v0_2) = codesOf (m ((c : Thread nD τ).loc main_arg2))
      ∧ r.2.mem ((c.tc : Thread nD τ).loc main_v0_3) = scalesOf (m ((c : Thread nD τ).loc main_arg0))
      ∧ r.2.mem ((c.tc : Thread nD τ).loc main_v0_4) = scalesOf (m ((c : Thread nD τ).loc main_arg1))
      ∧ r.2.mem ((c.tc : Thread nD τ).loc main_v0_5) = scalesOf (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).1 3).trans (final3 m c),
      ((h c).1 4).trans (final4 m c),
      ((h c).1 5).trans (final5 m c),
      ((h c).1 6).trans (final6 m c),
      ((h c).1 7).trans (final7 m c),
      ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.QuantiseIdeal.Gen

namespace Cert.Proof

open Idealize.ShloMosaic Idealize.ShloMosaic.TcCoe Idealize.SL.Sem
open Cert.Attention

set_option maxRecDepth 16384

/-- From memories that agree on the arguments, both idealisations end with the same codes and scales. -/
theorem quantise_agree : Cert.algebraic_QuantiseIdeal_QuantiseReferenceIdeal (hQuantiseIdeal := Cert.QuantiseIdeal.Gen.facts)
    (hQuantiseReferenceIdeal := Cert.QuantiseReferenceIdeal.Gen.facts) := by
  intro m g m' g' _ hargs
  refine ⟨fun c => codesOf (m ((c.tc : Thread Cert.QuantiseIdeal.nD Cert.QuantiseIdeal.τ).loc Cert.QuantiseIdeal.main_arg0)),
    fun c => codesOf (m ((c.tc : Thread Cert.QuantiseIdeal.nD Cert.QuantiseIdeal.τ).loc Cert.QuantiseIdeal.main_arg1)),
    fun c => codesOf (m ((c.tc : Thread Cert.QuantiseIdeal.nD Cert.QuantiseIdeal.τ).loc Cert.QuantiseIdeal.main_arg2)),
    fun c => scalesOf (m ((c.tc : Thread Cert.QuantiseIdeal.nD Cert.QuantiseIdeal.τ).loc Cert.QuantiseIdeal.main_arg0)),
    fun c => scalesOf (m ((c.tc : Thread Cert.QuantiseIdeal.nD Cert.QuantiseIdeal.τ).loc Cert.QuantiseIdeal.main_arg1)),
    fun c => scalesOf (m ((c.tc : Thread Cert.QuantiseIdeal.nD Cert.QuantiseIdeal.τ).loc Cert.QuantiseIdeal.main_arg2)),
    Cert.QuantiseIdeal.Gen.run_result m g, ?_⟩
  refine (θ_run _ _ _).mono (fun r h c => ?_) (Cert.QuantiseReferenceIdeal.Gen.run_result m' g')
  obtain ⟨h0, h1, h2, h3, h4, h5, hrest⟩ := h c
  obtain ⟨e0, e1, e2⟩ := hargs c
  exact ⟨h0.trans (congrArg codesOf e0), h1.trans (congrArg codesOf e1), h2.trans (congrArg codesOf e2),
    h3.trans (congrArg scalesOf e0), h4.trans (congrArg scalesOf e1), h5.trans (congrArg scalesOf e2), hrest⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Frame
public import proofs.«01_k».proof.Proof.Gen.ReferenceIdeal
public import proofs.«01_k».proof.Proof.Gen.ReferenceIdeal.Frame
public import proofs.«01_k».proof.Proof.Gen.Quantise
public import proofs.«01_k».proof.Proof.Gen.Quantise.Frame
public import proofs.«01_k».proof.Proof.Gen.QuantiseIdeal.Frame
public import proofs.«01_k».proof.Proof.Gen.QuantiseReferenceIdeal.Frame
public import proofs.«01_k».proof.Proof.Run
public import proofs.«01_k».proof.Proof.BitsRun
public import proofs.«01_k».proof.Proof.Agree
public import proofs.«01_k».proof.Proof.QAgree
public import Idealize.ShloMosaic.Adequacy
public import Idealize.ShloMosaic.Init

@[expose] public section

noncomputable section

namespace Cert.Proof

open Idealize.ShloMosaic Idealize.SL.Sem

/-- The kernel's idealisation names its four constants. -/
theorem kernel_named : Cert.preserves_Kernel_KernelIdeal :=
  ⟨IdealRules.named_const.statement Cert.KernelIdeal.κ _ .f32 _ _ rfl, IdealRules.named_const.statement Cert.KernelIdeal.κ _ .f32 _ _ rfl,
    IdealRules.named_const.statement Cert.KernelIdeal.κ _ .f32 _ _ rfl, IdealRules.named_const.statement Cert.KernelIdeal.κ _ .f32 _ _ rfl⟩

/-- The reference's idealisation names its one constant. -/
theorem reference_named : Cert.preserves_Reference_ReferenceIdeal :=
  IdealRules.named_const.statement Cert.ReferenceIdeal.κ _ .f32 _ _ rfl

/-- The certificate. -/
theorem claim : Cert.Claim :=
  ⟨Cert.Kernel.Gen.facts, Cert.KernelIdeal.Gen.facts, Cert.Reference.Gen.facts, Cert.ReferenceIdeal.Gen.facts, Cert.Quantise.Gen.facts,
    Cert.QuantiseIdeal.Gen.facts, Cert.QuantiseReferenceIdeal.Gen.facts, Cert.Pre_ordered.facts,
    fun m ρ _ => Cert.Kernel.Gen.frame m ρ, fun m ρ _ => Cert.KernelIdeal.Gen.frame m ρ, fun m ρ _ => Cert.KernelIdeal.Gen.frame m ρ,
    fun m ρ _ => Cert.Reference.Gen.frame m ρ, fun m ρ _ => Cert.ReferenceIdeal.Gen.frame m ρ, fun m ρ _ => Cert.ReferenceIdeal.Gen.frame m ρ,
    fun m ρ _ => Cert.Quantise.Gen.frame m ρ, fun m ρ _ => Cert.QuantiseIdeal.Gen.frame m ρ, fun m ρ _ => Cert.QuantiseReferenceIdeal.Gen.frame m ρ,
    kernel_named, reference_named, agree, trivial, quantise_agree⟩

end Cert.Proof

end
